-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x128x64 : Shape := ⟨4, ![2, 256, 128, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x128x64 : S_.BroadcastsInDim S2x256x128x64 (![] : Fin 0 → Fin S2x256x128x64.rank)
  reducesTo_S2x256x128x64_S_d0_1_2_3 : S2x256x128x64.ReducesTo [0, 1, 2, 3] S_

variable [Facts]

def fn {F : FTy → Type} [FloatOps F] (main_arg0 : FVec F S2x256x512 .f32) (main_arg1 : FVec F S512x256 .f32) (main_arg2 : FVec F S2x256x128x64 .f32) (main_arg3 : FVec F S2x256x128x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x128x64 .f32 := Host.absf main_arg2
  let main_cst_2 : FVec F S_ .f32 := constant S_ .f32 0x7F800000#32
  let main_v10 : FVec F S2x256x128x64 .f32 := broadcastInDim S2x256x128x64 ![] bcast_S_S2x256x128x64 main_cst_2
  let main_v11 : IVec S2x256x128x64 1 := cmpf .olt main_v9 main_v10
  let main_c_3 : IVec S_ 1 := constantI S_ 1 1#1
  let main_v12 : IVec S_ 1 := (fun x v => Host.reduce IntOp.andi x v reducesTo_S2x256x128x64_S_d0_1_2_3 h_S_) main_v11 main_c_3
  let main_v13 : IVec S_ 1 := andi main_v8 main_v12
  main_v13
-- ==== Pre_finite_ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S2x256x128x64 : S_.BroadcastsInDim S2x256x128x64 (![] : Fin 0 → Fin S2x256x128x64.rank)
  reducesTo_S2x256x128x64_S_d0_1_2_3 : S2x256x128x64.ReducesTo [0, 1, 2, 3] S_

variable [Facts]

def fn {F : FTy → Type} [FloatOps F] (main_arg0 : FVec F S2x256x512 .f32) (main_arg1 : FVec F S512x8192 .f32) (main_arg2 : FVec F S2x256x128x64 .f32) (main_arg3 : FVec F S2x256x128x64 .f32) (main_arg4 : FVec F S8192x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S2x256x128x64 .f32 := Host.absf main_arg2
  let main_cst_2 : FVec F S_ .f32 := constant S_ .f32 0x7F800000#32
  let main_v10 : FVec F S2x256x128x64 .f32 := broadcastInDim S2x256x128x64 ![] bcast_S_S2x256x128x64 main_cst_2
  let main_v11 : IVec S2x256x128x64 1 := cmpf .olt main_v9 main_v10
  let main_c_3 : IVec S_ 1 := constantI S_ 1 1#1
  let main_v12 : IVec S_ 1 := (fun x v => Host.reduce IntOp.andi x v reducesTo_S2x256x128x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x128x64 : Shape := ⟨4, ![2, 256, 128, 64]⟩
abbrev S256x512 : Shape := ⟨2, ![256, 512]⟩
abbrev S_ : Shape := ⟨0, ![]⟩
abbrev S2x256x64x128 : Shape := ⟨4, ![2, 256, 64, 128]⟩
abbrev S2x256x64x4 : Shape := ⟨4, ![2, 256, 64, 4]⟩
abbrev S512x512 : Shape := ⟨2, ![512, 512]⟩
abbrev S496x512 : Shape := ⟨2, ![496, 512]⟩
abbrev S7x16x512 : Shape := ⟨3, ![7, 16, 512]⟩
abbrev S2 : Shape := ⟨1, ![2]⟩
abbrev S7 : Shape := ⟨1, ![7]⟩
abbrev S1x256x64x4 : Shape := ⟨4, ![1, 256, 64, 4]⟩
abbrev S256x64x4 : Shape := ⟨3, ![256, 64, 4]⟩
abbrev S256x4x64 : Shape := ⟨3, ![256, 4, 64]⟩
abbrev S256x256 : Shape := ⟨2, ![256, 256]⟩
abbrev S1x256x512 : Shape := ⟨3, ![1, 256, 512]⟩
abbrev S256x64 : Shape := ⟨2, ![256, 64]⟩
abbrev S256 : Shape := ⟨1, ![256]⟩
abbrev S256x1 : Shape := ⟨2, ![256, 1]⟩
abbrev S1 : Shape := ⟨1, ![1]⟩
abbrev S128x512 : Shape := ⟨2, ![128, 512]⟩
abbrev S1x16x512 : Shape := ⟨3, ![1, 16, 512]⟩
abbrev S16x512 : Shape := ⟨2, ![16, 512]⟩

abbrev nBuf : Space → Nat
  | .hbm => 38
  | .vmem => 11
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x128x64, .f32⟩
  | .hbm, ⟨3, _⟩ => ⟨S2x256x128x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x256x64x128, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x256x64x4, .f32⟩
  | .hbm, ⟨23, _⟩ => ⟨S2x256x64x4, .bf16⟩
  | .hbm, ⟨24, _⟩ => ⟨S2x256x64x128, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S2x256x64x4, .f32⟩
  | .hbm, ⟨36, _⟩ => ⟨S2x256x64x4, .bf16⟩
  | .hbm, ⟨37, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x64x4, .bf16⟩
  | .local _ .vmem, ⟨3, _⟩ => ⟨S2x256x64x4, .bf16⟩
  | .local _ .vmem, ⟨4, _⟩ => ⟨S256x512, .f32⟩
  | .local _ .vmem, ⟨5, _⟩ => ⟨S2x256x512, .f32⟩
  | .local _ .vmem, ⟨6, _⟩ => ⟨S512x256, .bf16⟩
  | .local _ .vmem, ⟨7, _⟩ => ⟨S512x512, .bf16⟩
  | .local _ .vmem, ⟨8, _⟩ => ⟨S496x512, .bf16⟩
  | .local _ .vmem, ⟨9, _⟩ => ⟨S7x16x512, .bf16⟩
  | .local _ .vmem, ⟨10, _⟩ => ⟨S512x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_c_6 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_c_9 : Ref sig .tc := ⟨.hbm, 29, rfl⟩
abbrev main_v15 : Ref sig .tc := ⟨.hbm, 30, rfl⟩
abbrev main_v16 : Ref sig .tc := ⟨.hbm, 31, rfl⟩
abbrev main_c_10 : Ref sig .tc := ⟨.hbm, 32, rfl⟩
abbrev main_c_11 : Ref sig .tc := ⟨.hbm, 33, rfl⟩
abbrev main_c_12 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v16 : BitVec 32 := Scalar.xori v2 c12_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v19 : BitVec 32 := Scalar.xori v2 c16_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v22 : BitVec 32 := Scalar.xori v2 c20_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v25 : BitVec 32 := Scalar.xori v2 c24_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v28 : BitVec 32 := Scalar.xori v2 c28_i32
  let c1_i32_25 : BitVec 32 := 1#32
  let v29 : BitVec 32 := Scalar.muli v28 c1_i32_25
  let v30 : BitVec 32 := Scalar.addi c0_i32_26 v29
  v30.toNat
def k0_mult1 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  v630
def k0_mult2 (d0 : Dev nD) : BitVec 32 :=
  let c1_i32_216 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let v632 : BitVec 32 := Scalar.subi c1_i32_216 v629
  let c256_i32_217 : BitVec 32 := 256#32
  let v633 : BitVec 32 := Scalar.muli v632 c256_i32_217
  v633
def k0_off1 (d0 : Dev nD) : Fin 2 → Nat :=
  let c1_i32_216 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let v632 : BitVec 32 := Scalar.subi c1_i32_216 v629
  let c256_i32_217 : BitVec 32 := 256#32
  let v633 : BitVec 32 := Scalar.muli v632 c256_i32_217
  let v634 : BitVec 32 := v633
  let v635 : Index := Scalar.indexCast v634
  let c0_218 : Index := 0#32
  ![v635.toNat, 0]
def k0_off2 (d0 : Dev nD) : Fin 2 → Nat :=
  let c1_i32_216 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let v632 : BitVec 32 := Scalar.subi c1_i32_216 v629
  let c256_i32_217 : BitVec 32 := 256#32
  let v633 : BitVec 32 := Scalar.muli v632 c256_i32_217
  let v634 : BitVec 32 := v633
  let v639 : Index := Scalar.indexCast v634
  let c0_220 : Index := 0#32
  ![v639.toNat, 0]
def k0_off3 (d0 : Dev nD) : Fin 2 → Nat :=
  let c1_i32_216 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let v632 : BitVec 32 := Scalar.subi c1_i32_216 v629
  let c256_i32_217 : BitVec 32 := 256#32
  let v633 : BitVec 32 := Scalar.muli v632 c256_i32_217
  let v634 : BitVec 32 := v633
  let c0_i32_228 : BitVec 32 := 0#32
  ![v634.toNat, 0]
def k0_dev10 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_221 : BitVec 32 := 1#32
  let v643 : BitVec 32 := Scalar.xori v2 c1_i32_221
  let c1_i32_224 : BitVec 32 := 1#32
  let v644 : BitVec 32 := Scalar.muli v643 c1_i32_224
  let v645 : BitVec 32 := Scalar.addi c0_i32_225 v644
  v645.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let v652 : Index := Scalar.indexCast v631
  let c0_229 : Index := 0#32
  ![v652.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let v656 : Index := Scalar.indexCast v631
  let c0_231 : Index := 0#32
  ![v656.toNat, 0]
def k0_mult3 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  v677
def k0_mult4 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_245 : BitVec 32 := 1#32
  let c1_i32_243 : BitVec 32 := 1#32
  let v674 : BitVec 32 := Scalar.shrsi v2 c1_i32_243
  let c1_i32_244 : BitVec 32 := 1#32
  let v675 : BitVec 32 := Scalar.andi v674 c1_i32_244
  let v679 : BitVec 32 := Scalar.subi c1_i32_245 v675
  let c128_i32_246 : BitVec 32 := 128#32
  let v680 : BitVec 32 := Scalar.muli v679 c128_i32_246
  let v681 : BitVec 32 := Scalar.addi v631 v680
  v681
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_245 : BitVec 32 := 1#32
  let c1_i32_243 : BitVec 32 := 1#32
  let v674 : BitVec 32 := Scalar.shrsi v2 c1_i32_243
  let c1_i32_244 : BitVec 32 := 1#32
  let v675 : BitVec 32 := Scalar.andi v674 c1_i32_244
  let v679 : BitVec 32 := Scalar.subi c1_i32_245 v675
  let c128_i32_246 : BitVec 32 := 128#32
  let v680 : BitVec 32 := Scalar.muli v679 c128_i32_246
  let v681 : BitVec 32 := Scalar.addi v631 v680
  let v682 : BitVec 32 := v681
  let c0_i32_254 : BitVec 32 := 0#32
  ![v682.toNat, 0]
def k0_dev11 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_247 : BitVec 32 := 2#32
  let v683 : BitVec 32 := Scalar.xori v2 c2_i32_247
  let c1_i32_250 : BitVec 32 := 1#32
  let v684 : BitVec 32 := Scalar.muli v683 c1_i32_250
  let v685 : BitVec 32 := Scalar.addi c0_i32_251 v684
  v685.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let v698 : Index := Scalar.indexCast v678
  let c0_262 : Index := 0#32
  ![v698.toNat, 0]
def k0_mult5 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c16_i32_267 : BitVec 32 := 16#32
  let v708 : BitVec 32 := Scalar.muli v707 c16_i32_267
  let v709 : BitVec 32 := Scalar.addi v678 v708
  v709
def k0_mult6 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c1_i32_268 : BitVec 32 := 1#32
  let v711 : BitVec 32 := Scalar.xori v707 c1_i32_268
  let c16_i32_269 : BitVec 32 := 16#32
  let v712 : BitVec 32 := Scalar.muli v711 c16_i32_269
  let v713 : BitVec 32 := Scalar.addi v678 v712
  v713
def k0_off8 (d0 : Dev nD) (c1_i32_268 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let v711 : BitVec 32 := Scalar.xori v707 c1_i32_268
  let c16_i32_269 : BitVec 32 := 16#32
  let v712 : BitVec 32 := Scalar.muli v711 c16_i32_269
  let v713 : BitVec 32 := Scalar.addi v678 v712
  let v714 : BitVec 32 := v713
  let c0_i32_278 : BitVec 32 := 0#32
  ![v714.toNat, 0]
def k0_dev12 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_270 : BitVec 32 := 4#32
  let v715 : BitVec 32 := Scalar.xori v2 c4_i32_270
  let c1_i32_274 : BitVec 32 := 1#32
  let v716 : BitVec 32 := Scalar.muli v715 c1_i32_274
  let v717 : BitVec 32 := Scalar.addi c0_i32_275 v716
  v717.toNat
def k0_mult7 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c2_i32_279 : BitVec 32 := 2#32
  let v725 : BitVec 32 := Scalar.xori v707 c2_i32_279
  let c16_i32_280 : BitVec 32 := 16#32
  let v726 : BitVec 32 := Scalar.muli v725 c16_i32_280
  let v727 : BitVec 32 := Scalar.addi v678 v726
  v727
def k0_dev13 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_281 : BitVec 32 := 8#32
  let v729 : BitVec 32 := Scalar.xori v2 c8_i32_281
  let c1_i32_285 : BitVec 32 := 1#32
  let v730 : BitVec 32 := Scalar.muli v729 c1_i32_285
  let v731 : BitVec 32 := Scalar.addi c0_i32_286 v730
  v731.toNat
def k0_mult8 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c3_i32 : BitVec 32 := 3#32
  let v739 : BitVec 32 := Scalar.xori v707 c3_i32
  let c16_i32_290 : BitVec 32 := 16#32
  let v740 : BitVec 32 := Scalar.muli v739 c16_i32_290
  let v741 : BitVec 32 := Scalar.addi v678 v740
  v741
def k0_dev14 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_291 : BitVec 32 := 12#32
  let v743 : BitVec 32 := Scalar.xori v2 c12_i32_291
  let c1_i32_295 : BitVec 32 := 1#32
  let v744 : BitVec 32 := Scalar.muli v743 c1_i32_295
  let v745 : BitVec 32 := Scalar.addi c0_i32_296 v744
  v745.toNat
def k0_mult9 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c4_i32_300 : BitVec 32 := 4#32
  let v753 : BitVec 32 := Scalar.xori v707 c4_i32_300
  let c16_i32_301 : BitVec 32 := 16#32
  let v754 : BitVec 32 := Scalar.muli v753 c16_i32_301
  let v755 : BitVec 32 := Scalar.addi v678 v754
  v755
def k0_dev15 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_302 : BitVec 32 := 16#32
  let v757 : BitVec 32 := Scalar.xori v2 c16_i32_302
  let c1_i32_306 : BitVec 32 := 1#32
  let v758 : BitVec 32 := Scalar.muli v757 c1_i32_306
  let v759 : BitVec 32 := Scalar.addi c0_i32_307 v758
  v759.toNat
def k0_mult10 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c5_i32 : BitVec 32 := 5#32
  let v767 : BitVec 32 := Scalar.xori v707 c5_i32
  let c16_i32_311 : BitVec 32 := 16#32
  let v768 : BitVec 32 := Scalar.muli v767 c16_i32_311
  let v769 : BitVec 32 := Scalar.addi v678 v768
  v769
def k0_dev16 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_312 : BitVec 32 := 20#32
  let v771 : BitVec 32 := Scalar.xori v2 c20_i32_312
  let c1_i32_316 : BitVec 32 := 1#32
  let v772 : BitVec 32 := Scalar.muli v771 c1_i32_316
  let v773 : BitVec 32 := Scalar.addi c0_i32_317 v772
  v773.toNat
def k0_mult11 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c6_i32 : BitVec 32 := 6#32
  let v781 : BitVec 32 := Scalar.xori v707 c6_i32
  let c16_i32_321 : BitVec 32 := 16#32
  let v782 : BitVec 32 := Scalar.muli v781 c16_i32_321
  let v783 : BitVec 32 := Scalar.addi v678 v782
  v783
def k0_dev17 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_322 : BitVec 32 := 24#32
  let v785 : BitVec 32 := Scalar.xori v2 c24_i32_322
  let c1_i32_326 : BitVec 32 := 1#32
  let v786 : BitVec 32 := Scalar.muli v785 c1_i32_326
  let v787 : BitVec 32 := Scalar.addi c0_i32_327 v786
  v787.toNat
def k0_mult12 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c7_i32_331 : BitVec 32 := 7#32
  let v795 : BitVec 32 := Scalar.xori v707 c7_i32_331
  let c16_i32_332 : BitVec 32 := 16#32
  let v796 : BitVec 32 := Scalar.muli v795 c16_i32_332
  let v797 : BitVec 32 := Scalar.addi v678 v796
  v797
def k0_dev18 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_333 : BitVec 32 := 28#32
  let v799 : BitVec 32 := Scalar.xori v2 c28_i32_333
  let c1_i32_337 : BitVec 32 := 1#32
  let v800 : BitVec 32 := Scalar.muli v799 c1_i32_337
  let v801 : BitVec 32 := Scalar.addi c0_i32_338 v800
  v801.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c16_i32_267 : BitVec 32 := 16#32
  let v708 : BitVec 32 := Scalar.muli v707 c16_i32_267
  let v709 : BitVec 32 := Scalar.addi v678 v708
  let v710 : BitVec 32 := v709
  let v809 : Index := Scalar.indexCast v710
  let c0_342 : Index := 0#32
  ![v809.toNat, 0]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c16_i32_267 : BitVec 32 := 16#32
  let v708 : BitVec 32 := Scalar.muli v707 c16_i32_267
  let v709 : BitVec 32 := Scalar.addi v678 v708
  let v710 : BitVec 32 := v709
  let c0_i32_421 : BitVec 32 := 0#32
  ![v710.toNat, 0]
def k0_dev19 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_416 : BitVec 32 := 4#32
  let v885 : BitVec 32 := Scalar.xori v2 c4_i32_416
  let c1_i32_419 : BitVec 32 := 1#32
  let v886 : BitVec 32 := Scalar.muli v885 c1_i32_419
  let v887 : BitVec 32 := Scalar.addi c0_i32_420 v886
  v887.toNat
def k0_dev20 (d0 : Dev nD) : Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_423 : BitVec 32 := 8#32
  let v894 : BitVec 32 := Scalar.xori v2 c8_i32_423
  let c1_i32_426 : BitVec 32 := 1#32
  let v895 : BitVec 32 := Scalar.muli v894 c1_i32_426
  let v896 : BitVec 32 := Scalar.addi c0_i32_427 v895
  v896.toNat
def k0_dev21 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_430 : BitVec 32 := 12#32
  let v903 : BitVec 32 := Scalar.xori v2 c12_i32_430
  let c1_i32_433 : BitVec 32 := 1#32
  let v904 : BitVec 32 := Scalar.muli v903 c1_i32_433
  let v905 : BitVec 32 := Scalar.addi c0_i32_434 v904
  v905.toNat
def k0_dev22 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_437 : BitVec 32 := 16#32
  let v912 : BitVec 32 := Scalar.xori v2 c16_i32_437
  let c1_i32_440 : BitVec 32 := 1#32
  let v913 : BitVec 32 := Scalar.muli v912 c1_i32_440
  let v914 : BitVec 32 := Scalar.addi c0_i32_441 v913
  v914.toNat
def k0_dev23 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_444 : BitVec 32 := 20#32
  let v921 : BitVec 32 := Scalar.xori v2 c20_i32_444
  let c1_i32_447 : BitVec 32 := 1#32
  let v922 : BitVec 32 := Scalar.muli v921 c1_i32_447
  let v923 : BitVec 32 := Scalar.addi c0_i32_448 v922
  v923.toNat
def k0_dev24 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_451 : BitVec 32 := 24#32
  let v930 : BitVec 32 := Scalar.xori v2 c24_i32_451
  let c1_i32_454 : BitVec 32 := 1#32
  let v931 : BitVec 32 := Scalar.muli v930 c1_i32_454
  let v932 : BitVec 32 := Scalar.addi c0_i32_455 v931
  v932.toNat
def k0_dev25 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_458 : BitVec 32 := 28#32
  let v939 : BitVec 32 := Scalar.xori v2 c28_i32_458
  let c1_i32_461 : BitVec 32 := 1#32
  let v940 : BitVec 32 := Scalar.muli v939 c1_i32_461
  let v941 : BitVec 32 := Scalar.addi c0_i32_462 v940
  v941.toNat
def k0_mult13 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c16_i32_267 : BitVec 32 := 16#32
  let v708 : BitVec 32 := Scalar.muli v707 c16_i32_267
  let v709 : BitVec 32 := Scalar.addi v678 v708
  let v710 : BitVec 32 := v709
  let c_m128_i32 : BitVec 32 := 4294967168#32
  let v990 : BitVec 32 := Scalar.andi v710 c_m128_i32
  v990
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c16_i32_267 : BitVec 32 := 16#32
  let v708 : BitVec 32 := Scalar.muli v707 c16_i32_267
  let v709 : BitVec 32 := Scalar.addi v678 v708
  let v710 : BitVec 32 := v709
  let c_m128_i32 : BitVec 32 := 4294967168#32
  let v990 : BitVec 32 := Scalar.andi v710 c_m128_i32
  let v991 : BitVec 32 := v990
  let c0_i32_512 : BitVec 32 := 0#32
  ![v991.toNat, 0]
def k0_dev26 (d0 : Dev nD) : Nat :=
  let c0_i32_511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_507 : BitVec 32 := 2#32
  let v992 : BitVec 32 := Scalar.xori v2 c2_i32_507
  let c1_i32_510 : BitVec 32 := 1#32
  let v993 : BitVec 32 := Scalar.muli v992 c1_i32_510
  let v994 : BitVec 32 := Scalar.addi c0_i32_511 v993
  v994.toNat
def k0_mult14 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c16_i32_267 : BitVec 32 := 16#32
  let v708 : BitVec 32 := Scalar.muli v707 c16_i32_267
  let v709 : BitVec 32 := Scalar.addi v678 v708
  let v710 : BitVec 32 := v709
  let c_m256_i32 : BitVec 32 := 4294967040#32
  let v1007 : BitVec 32 := Scalar.andi v710 c_m256_i32
  v1007
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_215 : BitVec 32 := 1#32
  let v629 : BitVec 32 := Scalar.andi v2 c1_i32_215
  let c256_i32 : BitVec 32 := 256#32
  let v630 : BitVec 32 := Scalar.muli v629 c256_i32
  let v631 : BitVec 32 := v630
  let c1_i32_243 : BitVec 32 := 1#32
  let v674 : BitVec 32 := Scalar.shrsi v2 c1_i32_243
  let c1_i32_244 : BitVec 32 := 1#32
  let v675 : BitVec 32 := Scalar.andi v674 c1_i32_244
  let c128_i32 : BitVec 32 := 128#32
  let v676 : BitVec 32 := Scalar.muli v675 c128_i32
  let v677 : BitVec 32 := Scalar.addi v631 v676
  let v678 : BitVec 32 := v677
  let c2_i32_266 : BitVec 32 := 2#32
  let v706 : BitVec 32 := Scalar.shrsi v2 c2_i32_266
  let c7_i32 : BitVec 32 := 7#32
  let v707 : BitVec 32 := Scalar.andi v706 c7_i32
  let c16_i32_267 : BitVec 32 := 16#32
  let v708 : BitVec 32 := Scalar.muli v707 c16_i32_267
  let v709 : BitVec 32 := Scalar.addi v678 v708
  let v710 : BitVec 32 := v709
  let c_m256_i32 : BitVec 32 := 4294967040#32
  let v1007 : BitVec 32 := Scalar.andi v710 c_m256_i32
  let v1008 : BitVec 32 := v1007
  let c0_i32_525 : BitVec 32 := 0#32
  ![v1008.toNat, 0]
def k0_dev27 (d0 : Dev nD) : Nat :=
  let c0_i32_524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_520 : BitVec 32 := 1#32
  let v1009 : BitVec 32 := Scalar.xori v2 c1_i32_520
  let c1_i32_523 : BitVec 32 := 1#32
  let v1010 : BitVec 32 := Scalar.muli v1009 c1_i32_523
  let v1011 : BitVec 32 := Scalar.addi c0_i32_524 v1010
  v1011.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x64x4 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x64x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 89
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x128x64, .f32⟩
  | .hbm, ⟨3, _⟩ => ⟨S2x256x128x64, .f32⟩
  | .hbm, ⟨4, _⟩ => ⟨S8192x512, .f32⟩
  | .hbm, ⟨5, _⟩ => ⟨S2x256x8192, .f32⟩
  | .hbm, ⟨6, _⟩ => ⟨S2x256x128x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S2x128x256x256, .f32⟩
  | .hbm, ⟨51, _⟩ => ⟨S_, .f32⟩
  | .hbm, ⟨52, _⟩ => ⟨S2x128x256x256, .f32⟩
  | .hbm, ⟨53, _⟩ => ⟨S2x128x256x256, .f32⟩
  | .hbm, ⟨54, _⟩ => ⟨S1x1x256x256, .i1⟩
  | .hbm, ⟨55, _⟩ => ⟨S_, .f32⟩
  | .hbm, ⟨56, _⟩ => ⟨S_, .f32⟩
  | .hbm, ⟨57, _⟩ => ⟨S2x128x256x256, .i1⟩
  | .hbm, ⟨58, _⟩ => ⟨S2x128x256x256, .f32⟩
  | .hbm, ⟨59, _⟩ => ⟨S2x128x256x256, .f32⟩
  | .hbm, ⟨60, _⟩ => ⟨S_, .f32⟩
  | .hbm, ⟨61, _⟩ => ⟨S2x128x256, .f32⟩
  | .hbm, ⟨62, _⟩ => ⟨S2x128x256x1, .f32⟩
  | .hbm, ⟨63, _⟩ => ⟨S2x128x256x256, .f32⟩
  | .hbm, ⟨64, _⟩ => ⟨S2x128x256x256, .f32⟩
  | .hbm, ⟨65, _⟩ => ⟨S2x128x256x256, .f32⟩
  | .hbm, ⟨66, _⟩ => ⟨S_, .i1⟩
  | .hbm, ⟨67, _⟩ => ⟨S256, .i1⟩
  | .hbm, ⟨68, _⟩ => ⟨S1x1x256x1, .i1⟩
  | .hbm, ⟨69, _⟩ => ⟨S_, .f32⟩
  | .hbm, ⟨70, _⟩ => ⟨S2x128x256, .f32⟩
  | .hbm, ⟨71, _⟩ => ⟨S2x128x256x1, .f32⟩
  | .hbm, ⟨72, _⟩ => ⟨S_, .f32⟩
  | .hbm, ⟨73, _⟩ => ⟨S_, .f32⟩
  | .hbm, ⟨74, _⟩ => ⟨S2x128x256x1, .i1⟩
  | .hbm, ⟨75, _⟩ => ⟨S2x128x256x1, .f32⟩
  | .hbm, ⟨76, _⟩ => ⟨S2x128x256x1, .f32⟩
  | .hbm, ⟨77, _⟩ => ⟨S2x128x256x256, .f32⟩
  | .hbm, ⟨78, _⟩ => ⟨S2x128x256x256, .f32⟩
  | .hbm, ⟨79, _⟩ => ⟨S1x1x256x1, .i1⟩
  | .hbm, ⟨80, _⟩ => ⟨S_, .f32⟩
  | .hbm, ⟨81, _⟩ => ⟨S_, .f32⟩
  | .hbm, ⟨82, _⟩ => ⟨S2x128x256x256, .i1⟩
  | .hbm, ⟨83, _⟩ => ⟨S2x128x256x256, .f32⟩
  | .hbm, ⟨84, _⟩ => ⟨S2x128x256x256, .f32⟩
  | .hbm, ⟨85, _⟩ => ⟨S2x128x64x256, .f32⟩
  | .hbm, ⟨86, _⟩ => ⟨S2x256x128x64, .f32⟩
  | .hbm, ⟨87, _⟩ => ⟨S2x256x8192, .f32⟩
  | .hbm, ⟨88, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Geom.lean ====
/-
The mesh's peers, the row blocks each device keeps, and what a full-width block of rows is as a set of elements,
as a read and as a write.
-/
module

public import proofs.«01_k».proof.Proof.Gen.KernelIdeal
public import proofs.«01_k».proof.Proof.Gen.KernelIdeal.Skeleton
public import Idealize.ShloMosaic.Lib.Tactic

@[expose] public section

noncomputable section

namespace Cert.Attn

open Cert.KernelIdeal Cert.KernelIdeal.Gen
open Idealize.ShloMosaic

/-! ## Peers -/

set_option backward.proofsInPublic true in
/-- The nine peers of a device: one across the lowest bit, one across the next bit, seven across the group bits. -/
def pr (d : Fin 9) (c : Dev nD) : Dev nD :=
  ⟨(c.val ^^^ (![1, 2, 4, 8, 12, 16, 20, 24, 28] : Fin 9 → ℕ) d) % 32, Nat.mod_lt _ (by decide)⟩

/-- A peer's peer under the same name is the device itself. -/
theorem pr_pr (d : Fin 9) (c : Dev nD) : pr d (pr d c) = c := by
  revert d c; decide +kernel

/-- The first row of the half a device keeps. -/
def lo2 (c : Dev nD) : ℕ := 256 * (c.val % 2)
/-- The first row of the quarter a device keeps. -/
def lo4 (c : Dev nD) : ℕ := 256 * (c.val % 2) + 128 * (c.val / 2 % 2)
/-- The first of the sixteen rows a device finishes. -/
def lo32 (c : Dev nD) : ℕ := 256 * (c.val % 2) + 128 * (c.val / 2 % 2) + 16 * (c.val / 4)

/-- A device and its first peer keep the two halves, in one order or the other. -/
theorem lo2_cases (c : Dev nD) : lo2 c = 0 ∧ lo2 (pr 0 c) = 256 ∨ lo2 c = 256 ∧ lo2 (pr 0 c) = 0 := by
  revert c; decide +kernel
/-- A device and its second peer keep the two quarters of the device's half. -/
theorem lo4_cases (c : Dev nD) :
    lo4 c = lo2 c ∧ lo4 (pr 1 c) = lo2 c + 128 ∨ lo4 c = lo2 c + 128 ∧ lo4 (pr 1 c) = lo2 c := by
  revert c; decide +kernel
/-- The second peer keeps the same half. -/
theorem lo2_pr1 (c : Dev nD) : lo2 (pr 1 c) = lo2 c := by revert c; decide +kernel
/-- The seven group peers keep the same half. -/
theorem lo2_prk (k : Fin 7) (c : Dev nD) : lo2 (pr ⟨k.val + 2, by omega⟩ c) = lo2 c := by revert c k; decide +kernel
/-- The seven group peers keep the same quarter. -/
theorem lo4_prk (k : Fin 7) (c : Dev nD) : lo4 (pr ⟨k.val + 2, by omega⟩ c) = lo4 c := by revert c k; decide +kernel

/-! ## The printed devices and offsets -/

/-- The printed device number 1 is the first peer. -/
theorem dev1_eq (c : Dev nD) : (⟨k0_dev1 c, k0_dev1_lt c⟩ : Dev nD) = pr 0 c := by revert c; decide +kernel
/-- The printed device number 2 is the second peer. -/
theorem dev2_eq (c : Dev nD) : (⟨k0_dev2 c, k0_dev2_lt c⟩ : Dev nD) = pr 1 c := by revert c; decide +kernel
/-- The printed device number 3 is the group peer 0. -/
theorem dev3_eq (c : Dev nD) : (⟨k0_dev3 c, k0_dev3_lt c⟩ : Dev nD) = pr 2 c := by revert c; decide +kernel
/-- The printed device number 4 is the group peer 1. -/
theorem dev4_eq (c : Dev nD) : (⟨k0_dev4 c, k0_dev4_lt c⟩ : Dev nD) = pr 3 c := by revert c; decide +kernel
/-- The printed device number 5 is the group peer 2. -/
theorem dev5_eq (c : Dev nD) : (⟨k0_dev5 c, k0_dev5_lt c⟩ : Dev nD) = pr 4 c := by revert c; decide +kernel
/-- The printed device number 6 is the group peer 3. -/
theorem dev6_eq (c : Dev nD) : (⟨k0_dev6 c, k0_dev6_lt c⟩ : Dev nD) = pr 5 c := by revert c; decide +kernel
/-- The printed device number 7 is the group peer 4. -/
theorem dev7_eq (c : Dev nD) : (⟨k0_dev7 c, k0_dev7_lt c⟩ : Dev nD) = pr 6 c := by revert c; decide +kernel
/-- The printed device number 8 is the group peer 5. -/
theorem dev8_eq (c : Dev nD) : (⟨k0_dev8 c, k0_dev8_lt c⟩ : Dev nD) = pr 7 c := by revert c; decide +kernel
/-- The printed device number 9 is the group peer 6. -/
theorem dev9_eq (c : Dev nD) : (⟨k0_dev9 c, k0_dev9_lt c⟩ : Dev nD) = pr 8 c := by revert c; decide +kernel
/-- The printed device number 10 is the first peer. -/
theorem dev10_eq (c : Dev nD) : (⟨k0_dev10 c, k0_dev10_lt c⟩ : Dev nD) = pr 0 c := by revert c; decide +kernel
/-- The printed device number 11 is the second peer. -/
theorem dev11_eq (c : Dev nD) : (⟨k0_dev11 c, k0_dev11_lt c⟩ : Dev nD) = pr 1 c := by revert c; decide +kernel
/-- The printed device number 12 is the group peer 0. -/
theorem dev12_eq (c : Dev nD) : (⟨k0_dev12 c, k0_dev12_lt c⟩ : Dev nD) = pr 2 c := by revert c; decide +kernel
/-- The printed device number 13 is the group peer 1. -/
theorem dev13_eq (c : Dev nD) : (⟨k0_dev13 c, k0_dev13_lt c⟩ : Dev nD) = pr 3 c := by revert c; decide +kernel
/-- The printed device number 14 is the group peer 2. -/
theorem dev14_eq (c : Dev nD) : (⟨k0_dev14 c, k0_dev14_lt c⟩ : Dev nD) = pr 4 c := by revert c; decide +kernel
/-- The printed device number 15 is the group peer 3. -/
theorem dev15_eq (c : Dev nD) : (⟨k0_dev15 c, k0_dev15_lt c⟩ : Dev nD) = pr 5 c := by revert c; decide +kernel
/-- The printed device number 16 is the group peer 4. -/
theorem dev16_eq (c : Dev nD) : (⟨k0_dev16 c, k0_dev16_lt c⟩ : Dev nD) = pr 6 c := by revert c; decide +kernel
/-- The printed device number 17 is the group peer 5. -/
theorem dev17_eq (c : Dev nD) : (⟨k0_dev17 c, k0_dev17_lt c⟩ : Dev nD) = pr 7 c := by revert c; decide +kernel
/-- The printed device number 18 is the group peer 6. -/
theorem dev18_eq (c : Dev nD) : (⟨k0_dev18 c, k0_dev18_lt c⟩ : Dev nD) = pr 8 c := by revert c; decide +kernel
/-- The printed device number 19 is the group peer 0. -/
theorem dev19_eq (c : Dev nD) : (⟨k0_dev19 c, k0_dev19_lt c⟩ : Dev nD) = pr 2 c := by revert c; decide +kernel
/-- The printed device number 20 is the group peer 1. -/
theorem dev20_eq (c : Dev nD) : (⟨k0_dev20 c, k0_dev20_lt c⟩ : Dev nD) = pr 3 c := by revert c; decide +kernel
/-- The printed device number 21 is the group peer 2. -/
theorem dev21_eq (c : Dev nD) : (⟨k0_dev21 c, k0_dev21_lt c⟩ : Dev nD) = pr 4 c := by revert c; decide +kernel
/-- The printed device number 22 is the group peer 3. -/
theorem dev22_eq (c : Dev nD) : (⟨k0_dev22 c, k0_dev22_lt c⟩ : Dev nD) = pr 5 c := by revert c; decide +kernel
/-- The printed device number 23 is the group peer 4. -/
theorem dev23_eq (c : Dev nD) : (⟨k0_dev23 c, k0_dev23_lt c⟩ : Dev nD) = pr 6 c := by revert c; decide +kernel
/-- The printed device number 24 is the group peer 5. -/
theorem dev24_eq (c : Dev nD) : (⟨k0_dev24 c, k0_dev24_lt c⟩ : Dev nD) = pr 7 c := by revert c; decide +kernel
/-- The printed device number 25 is the group peer 6. -/
theorem dev25_eq (c : Dev nD) : (⟨k0_dev25 c, k0_dev25_lt c⟩ : Dev nD) = pr 8 c := by revert c; decide +kernel
/-- The printed device number 26 is the second peer. -/
theorem dev26_eq (c : Dev nD) : (⟨k0_dev26 c, k0_dev26_lt c⟩ : Dev nD) = pr 1 c := by revert c; decide +kernel
/-- The printed device number 27 is the first peer. -/
theorem dev27_eq (c : Dev nD) : (⟨k0_dev27 c, k0_dev27_lt c⟩ : Dev nD) = pr 0 c := by revert c; decide +kernel
/-- The printed offset 1 is the first peer's half's first row. -/
theorem off1_eq (c : Dev nD) : k0_off1 c = ![lo2 (pr 0 c), 0] := by revert c; decide +kernel
/-- The printed offset 2 is the first peer's half's first row. -/
theorem off2_eq (c : Dev nD) : k0_off2 c = ![lo2 (pr 0 c), 0] := by revert c; decide +kernel
/-- The printed offset 3 is the first peer's half's first row. -/
theorem off3_eq (c : Dev nD) : k0_off3 c = ![lo2 (pr 0 c), 0] := by revert c; decide +kernel
/-- The printed offset 4 is the device's half's first row. -/
theorem off4_eq (c : Dev nD) : k0_off4 c = ![lo2 c, 0] := by revert c; decide +kernel
/-- The printed offset 5 is the device's half's first row. -/
theorem off5_eq (c : Dev nD) : k0_off5 c = ![lo2 c, 0] := by revert c; decide +kernel
/-- The printed offset 12 is the device's half's first row. -/
theorem off12_eq (c : Dev nD) : k0_off12 c = ![lo2 c, 0] := by revert c; decide +kernel
/-- The printed offset 6 is the second peer's quarter's first row. -/
theorem off6_eq (c : Dev nD) : k0_off6 c = ![lo4 (pr 1 c), 0] := by revert c; decide +kernel
/-- The printed offset 7 is the device's quarter's first row. -/
theorem off7_eq (c : Dev nD) : k0_off7 c = ![lo4 c, 0] := by revert c; decide +kernel
/-- The printed offset 11 is the device's quarter's first row. -/
theorem off11_eq (c : Dev nD) : k0_off11 c = ![lo4 c, 0] := by revert c; decide +kernel
/-- The printed offset 9 is the device's chunk's first row. -/
theorem off9_eq (c : Dev nD) : k0_off9 c = ![lo32 c, 0] := by revert c; decide +kernel
/-- The printed offset 10 is the device's chunk's first row. -/
theorem off10_eq (c : Dev nD) : k0_off10 c = ![lo32 c, 0] := by revert c; decide +kernel
/-- The rows sent to a group peer are the sixteen that peer finishes. -/
theorem off8_eq (c : Dev nD) (k : Fin 7) : k0_off8 c (BitVec.ofNat 32 (1 + k.val)) = ![lo32 (pr ⟨k.val + 2, by omega⟩ c), 0] := by
  revert c k; decide +kernel

end Cert.Attn
-- ==== Proof.Contents.lean ====
/-
What every buffer of the kernel holds, as functions of what the staging buffers of ALL devices hold: the head
results, each device's product, the two halving sums, the sixteen finished rows, the gathered array and the output.
-/
module

public import proofs.«01_k».proof.Proof.Geom
public import Idealize.ShloMosaic.Lib.ValueIdxCore
public import Idealize.ShloMosaic.Lib.Pipeline.Value

@[expose] public section

noncomputable section

namespace Cert.Attn

open Cert.KernelIdeal Cert.KernelIdeal.Gen
open Idealize.ShloMosaic
open Idealize.ShloMosaic.ValueIdx

variable {F : FTy → Type} [FloatOps F]

/-- What one device's staging buffers hold when its kernel body starts. -/
structure In (F : FTy → Type) where
  /-- the activations, whole -/
  x : S2x256x512.Idx → F .f32
  /-- this device's columns of the query weights -/
  wq : S512x256.Idx → F .f32
  /-- this device's heads of the keys, narrowed -/
  k : S2x256x64x4.Idx → F .bf16
  /-- this device's heads of the values, narrowed -/
  v : S2x256x64x4.Idx → F .bf16
  /-- this device's rows of the output weights -/
  wo : S256x512.Idx → F .f32

/-- An array of rank two at natural coordinates. -/
def at2 {a b : ℕ} [NeZero a] [NeZero b] {α : Type} (f : (⟨2, ![a, b]⟩ : Shape).Idx → α) (i j : ℕ) : α :=
  f (ix2 (Fin.ofNat a i) (Fin.ofNat b j))

/-- An index is the pair of its coordinates. -/
theorem at2_self {a b : ℕ} [NeZero a] [NeZero b] {α : Type} (f : (⟨2, ![a, b]⟩ : Shape).Idx → α)
    (x : (⟨2, ![a, b]⟩ : Shape).Idx) : at2 f (x 0).val (x 1).val = f x := by
  unfold at2
  congr 1
  funext t
  apply Fin.ext
  match t with
  | ⟨0, _⟩ => exact Nat.mod_eq_of_lt (x 0).isLt
  | ⟨1, _⟩ => exact Nat.mod_eq_of_lt (x 1).isLt

/-- An array at an index is the array read at the index's two numbers. -/
theorem at2_of {a b : ℕ} [NeZero a] [NeZero b] {α : Type} (f : (⟨2, ![a, b]⟩ : Shape).Idx → α) {i j : ℕ}
    {x : (⟨2, ![a, b]⟩ : Shape).Idx} (h0 : (x 0).val = i) (h1 : (x 1).val = j) : f x = at2 f i j := by
  rw [← at2_self f x, h0, h1]

/-! ## One device's heads, as the kernel's own payloads -/

section Dev
variable (i : In F)

def xb0 : Vec F S1x256x512 .f32 :=
  (Memref.whole cc0_stg0_0).view.readAt (Elt F) (Rect.unit (s := S2x256x512) ![0, 0, 0] S1x256x512.size inb_S2x256x512_S1x256x512_0_0_0).toLoadRect i.x
def xb1 : Vec F S1x256x512 .f32 :=
  (Memref.whole cc0_stg0_0).view.readAt (Elt F) (Rect.unit (s := S2x256x512) ![1, 0, 0] S1x256x512.size inb_S2x256x512_S1x256x512_1_0_0).toLoadRect i.x
def kb0 : FVec F S256x256 .bf16 :=
  k0_pay1 ((Memref.whole cc0_stg2_0).view.readAt (Elt F) (Rect.unit (s := S2x256x64x4) ![0, 0, 0, 0] S1x256x64x4.size inb_S2x256x64x4_S1x256x64x4_0_0_0_0).toLoadRect i.k)
def kb1 : FVec F S256x256 .bf16 :=
  k0_pay2 ((Memref.whole cc0_stg2_0).view.readAt (Elt F) (Rect.unit (s := S2x256x64x4) ![1, 0, 0, 0] S1x256x64x4.size inb_S2x256x64x4_S1x256x64x4_1_0_0_0).toLoadRect i.k)
def vb0 : FVec F S256x256 .bf16 :=
  k0_pay3 ((Memref.whole cc0_stg3_0).view.readAt (Elt F) (Rect.unit (s := S2x256x64x4) ![0, 0, 0, 0] S1x256x64x4.size inb_S2x256x64x4_S1x256x64x4_0_0_0_0).toLoadRect i.v)
def vb1 : FVec F S256x256 .bf16 :=
  k0_pay4 ((Memref.whole cc0_stg3_0).view.readAt (Elt F) (Rect.unit (s := S2x256x64x4) ![1, 0, 0, 0] S1x256x64x4.size inb_S2x256x64x4_S1x256x64x4_1_0_0_0).toLoadRect i.v)
def wq16 : FVec F S512x256 .bf16 :=
  k0_pay5 ((Memref.whole cc0_stg1_0).view.readAt (Elt F) (Rect.unit (s := S512x256) ![0, 0] S512x256.size inb_S512x256_S512x256_0_0).toLoadRect i.wq)
def wo32 : FVec F S256x512 .f32 :=
  k0_pay6 ((Memref.whole cc0_stg4_0).view.readAt (Elt F) (Rect.unit (s := S256x512) ![0, 0] S256x512.size inb_S256x512_S256x512_0_0).toLoadRect i.wo)
def wo16 : FVec F S256x512 .bf16 := k0_pay7 (wo32 i)
def q0 : FVec F S256x256 .f32 := k0_pay8 (wq16 i) (xb0 i)
def q1 : FVec F S256x256 .f32 := k0_pay30 (wq16 i) (xb1 i)
def iota0 : IVec S256x256 32 := iota .tc S256x256 32 [0] iota_S256x256_d0_w32
def iota1 : IVec S256x256 32 := iota .tc S256x256 32 [1] iota_S256x256_d1_w32
def w64 : BitVec 32 := Scalar.extui (Scalar.cmpi .sgt 64#32 0#32)

/-- The result of one head of one batch row block, by the printed payloads that compute it. -/
def hd : ℕ → ℕ → FVec F S256x64 .bf16
  | 0, 0 => k0_pay14 (vb0 i) (k0_pay9 (kb0 i) (wq16 i) (xb0 i)) k0_pay10 iota1 64#32 k0_pay11 k0_pay12 k0_pay13
  | 0, 1 => k0_pay20 (vb0 i) (k0_pay19 (k0_pay15 (kb0 i) (q0 i)) iota0 64#32 k0_pay16 k0_pay17 k0_pay18)
  | 0, 2 => k0_pay24 (vb0 i) (k0_pay21 (kb0 i) (q0 i)) k0_pay22 iota1 64#32 k0_pay23 0#32
  | 0, _ => k0_pay29 (vb0 i) (k0_pay25 (kb0 i) (q0 i)) (k0_pay27 iota0 64#32 k0_pay26) k0_pay28
  | _, 0 => k0_pay36 (k0_pay35 (vb1 i) (k0_pay31 (kb1 i) (wq16 i) (xb1 i)) iota0 k0_pay32 k0_pay33 k0_pay34)
  | _, 1 => k0_pay41 (vb1 i) (k0_pay37 (kb1 i) (q1 i)) k0_pay38 iota1 64#32 k0_pay39 k0_pay40 w64 (Scalar.cmpi .slt 64#32 0#32)
  | _, 2 => k0_pay47 (k0_pay45 (k0_pay42 (kb1 i) (q1 i)) iota0 64#32 k0_pay43 k0_pay44 w64 0#32) (k0_pay46 (vb1 i)) (constant S256x64 .f32 0x00000000#32)
  | _, _ => k0_pay53 (vb1 i) (k0_pay48 (kb1 i) (q1 i)) k0_pay49 iota1 64#32 k0_pay50 k0_pay51 k0_pay52

/-- The concatenated heads of both batch row blocks: what the head buffer holds after the eight stores. -/
def ctx : S512x256.Idx → F .bf16 := fun x => at2 (hd i ((x 0).val / 256) ((x 1).val / 64)) ((x 0).val % 256) ((x 1).val % 64)

/-- One batch row block of the concatenated heads. -/
def ctxHalf (b : ℕ) : Vec F S256x256 .bf16 := fun x => at2 (ctx i) (256 * b + (x 0).val) (x 1).val

/-- This device's partial product, before any exchange. -/
def prod0 : S512x512.Idx → F .bf16 := fun x =>
  at2 (k0_pay56 (wo16 i) (ctxHalf i ((x 0).val / 256))) ((x 0).val % 256) (x 1).val

end Dev

/-! ## The sums -/

variable (I : Dev nD → In F)

/-- The product summed over a pair. -/
def sum2 (c : Dev nD) : FVec F S512x512 .bf16 := addf (prod0 (I c)) (prod0 (I (pr 0 c)))
/-- The product summed over four devices. -/
def sum4 (c : Dev nD) : FVec F S512x512 .bf16 := addf (sum2 I c) (sum2 I (pr 1 c))
/-- The product summed over all devices, in the order of the device that adds. -/
def sum32 (c : Dev nD) : FVec F S512x512 .bf16 :=
  addf (addf (addf (addf (addf (addf (addf (sum4 I c) (sum4 I (pr 2 c))) (sum4 I (pr 3 c))) (sum4 I (pr 4 c)))
    (sum4 I (pr 5 c))) (sum4 I (pr 6 c))) (sum4 I (pr 7 c))) (sum4 I (pr 8 c))

/-- What lands in a device's row buffer: the pair's rows, then the quarter's. -/
def land2 (c : Dev nD) : S496x512.Idx → F .bf16 := fun x =>
  if (x 0).val < 256 then at2 (prod0 (I (pr 0 c))) (lo2 c + (x 0).val) (x 1).val
  else at2 (sum2 I (pr 1 c)) (lo4 c + ((x 0).val - 256)) (x 1).val

/-- What lands in a device's seven sixteen-row slots. -/
def land8 (c : Dev nD) : S7x16x512.Idx → F .bf16 := fun x =>
  at2 (sum4 I (pr (Fin.ofNat 9 ((x 0).val + 2)) c)) (lo32 c + (x 1).val) (x 2).val

set_option backward.proofsInPublic true in
/-- The device that finishes the `n`-th sixteen rows. -/
def owner (n : ℕ) : Dev nD := ⟨(n / 16 + 2 * (n / 8 % 2) + 4 * (n % 8)) % 32, Nat.mod_lt _ (by decide)⟩

/-- The owner of a row among a device's finished rows is the device. -/
theorem owner_lo32 (c : Dev nD) : owner (lo32 c / 16) = c := by revert c; decide +kernel

/-- The gathered array: every sixteen rows as their owner finished them. -/
def gath : S512x512.Idx → F .bf16 := fun x => sum32 I (owner ((x 0).val / 16)) x

/-- One batch row block of the gathered array. -/
def gathHalf (b : ℕ) : Vec F S256x512 .bf16 := fun x => at2 (gath I) (256 * b + (x 0).val) (x 1).val

/-- What every device's output holds at the end. -/
def outV : S2x256x512.Idx → F .f32 := fun x => k0_pay64 (gathHalf I (x 0).val) (ix3 0 (x 1) (x 2))

/-! ## Views: writing named contents -/

/-- Where the written values are what the view reads of `G`, the written contents are `G` on the view's elements. -/
theorem write_eq_on {sp : Space} {s : Shape} {e : EltTy} {κ : Kind} (v : View sig κ sp s e) (f G : v.ty.Contents (Elt F))
    (w : s.Idx → Elt F e) (h : v.read (Elt F) G = w) :
    ∀ j ∈ v.set, v.write (Elt F) f w Finset.univ j = G j := by
  intro j hj
  obtain ⟨x, -, rfl⟩ := Finset.mem_map.mp hj
  rw [View.write_emb_of_mem _ _ (Finset.mem_univ x), ← h, View.read_apply]
  simp

/-- A block of rows and columns, read: the array at the shifted coordinates. -/
theorem emb_at2 {a b : ℕ} [NeZero a] [NeZero b] {α : Type} (f : (⟨2, ![a, b]⟩ : Shape).Idx → α) {off size : Fin 2 → ℕ}
    (inb : ∀ t, off t + size t ≤ (⟨2, ![a, b]⟩ : Shape).size t) {o₀ o₁ : ℕ} (h : off = ![o₀, o₁])
    (j : (Rect.unit (s := ⟨2, ![a, b]⟩) off size inb).shape.Idx) :
    f ((Rect.unit (s := ⟨2, ![a, b]⟩) off size inb).emb j) = at2 f (o₀ + (j 0).val) (o₁ + (j 1).val) := by
  subst h
  refine at2_of f ?_ ?_
  · show o₀ + 1 * (j 0).val = _; omega
  · show o₁ + 1 * (j 1).val = _; omega

abbrev ctxM : Memref sig .tc .vmem S512x256 .bf16 := Memref.whole cc0_scratch0
abbrev accM : Memref sig .tc .vmem S512x512 .bf16 := Memref.whole cc0_scratch1
abbrev rsM : Memref sig .tc .vmem S496x512 .bf16 := Memref.whole cc0_scratch2
abbrev r8M : Memref sig .tc .vmem S7x16x512 .bf16 := Memref.whole cc0_scratch3
abbrev gM : Memref sig .tc .vmem S512x512 .bf16 := Memref.whole cc0_scratch4
abbrev outM : Memref sig .tc .vmem S2x256x512 .f32 := Memref.whole cc0_stg5_0

/-- Reading at equal numbers gives equal values. -/
theorem at2_congr {a b : ℕ} [NeZero a] [NeZero b] {α : Type} (f : (⟨2, ![a, b]⟩ : Shape).Idx → α) {i j i' j' : ℕ}
    (hi : i = i') (hj : j = j') : at2 f i j = at2 f i' j' := by rw [hi, hj]

/-- A number below the bound is its own remainder. -/
theorem val_ofNat (n i : ℕ) [NeZero n] (h : i < n) : (Fin.ofNat n i).val = i := Nat.mod_eq_of_lt h

/-- A load of one batch's rows of the head buffer reads that batch's heads. -/
theorem read_ctx (i : In F) {off : Fin 2 → ℕ} (inb) {o b : ℕ} (h : off = ![o, 0]) (hb : o = 256 * b) :
    ctxM.view.readAt (Elt F) (Rect.unit (s := S512x256) off S256x256.size inb).toLoadRect (ctx i) = ctxHalf i b := by
  subst hb
  funext j
  refine (emb_at2 (ctx i) inb h j).trans ?_
  unfold ctxHalf
  refine at2_congr _ rfl (by omega)

/-- A device's product at a batch's row is that batch's product at the row. -/
theorem at2_prod0 (i : In F) (b : ℕ) (hb : b < 2) (r k : ℕ) (hr : r < 256) (hk : k < 512) :
    at2 (prod0 i) (256 * b + r) k = at2 (k0_pay56 (wo16 i) (ctxHalf i b)) r k := by
  show at2 (k0_pay56 (wo16 i) (ctxHalf i ((Fin.ofNat 512 (256 * b + r)).val / 256))) ((Fin.ofNat 512 (256 * b + r)).val % 256) (Fin.ofNat 512 k).val = _
  rw [val_ofNat _ _ (by omega), val_ofNat _ _ hk]
  have h1 : (256 * b + r) / 256 = b := by omega
  have h2 : (256 * b + r) % 256 = r := by omega
  rw [h1, h2]

/-- The product's rows of one batch row block are the payload the kernel stores there. -/
theorem read_prod0 (i : In F) {off off' : Fin 2 → ℕ} (inb inb') {o b : ℕ} (h : off = ![o, 0]) (h' : off' = ![o, 0]) (hb : o = 256 * b) (hb2 : b < 2) :
    (accM.access (Rect.unit (s := S512x512) off S256x512.size inb)).read (Elt F) (prod0 i)
      = k0_pay56 (wo16 i) (ctxM.view.readAt (Elt F) (Rect.unit (s := S512x256) off' S256x256.size inb').toLoadRect (ctx i)) := by
  rw [read_ctx i inb' h' hb]
  subst hb
  funext j
  refine (emb_at2 (prod0 i) inb h j).trans ?_
  have h1 := (j 1).isLt
  rw [at2_prod0 i b hb2 _ _ (j 0).isLt (by change 0 + _ < _; rw [Nat.zero_add]; exact h1)]
  rw [Nat.zero_add]
  exact at2_self (a := 256) (b := 512) _ j

end Cert.Attn
-- ==== Proof.Reads.lean ====
/-
The buffers' named contents agree with each other through the views the kernel's copies, loads and stores go through.
-/
module

public import proofs.«01_k».proof.Proof.Contents

@[expose] public section

noncomputable section

namespace Cert.Attn

open Cert.KernelIdeal Cert.KernelIdeal.Gen
open Idealize.ShloMosaic
open Idealize.ShloMosaic.ValueIdx

variable {F : FTy → Type} [FloatOps F] (I : Dev nD → In F)

/-- A half lies within the rows. -/
theorem lo2_lt (c : Dev nD) : lo2 c + 256 ≤ 512 := by rcases lo2_cases c with h | h <;> omega
/-- A quarter lies within the rows. -/
theorem lo4_lt (c : Dev nD) : lo4 c + 128 ≤ 512 := by have := lo2_lt c; rcases lo4_cases c with h | h <;> omega
/-- A chunk lies within the rows. -/
theorem lo32_lt (c : Dev nD) : lo32 c + 16 ≤ 512 := by revert c; decide +kernel

/-- The first landing area holds the first peer's product at the device's half. -/
theorem at2_land2_lo (c : Dev nD) (r k : ℕ) (hr : r < 256) (hk : k < 512) :
    at2 (land2 I c) r k = at2 (prod0 (I (pr 0 c))) (lo2 c + r) k := by
  show (if (Fin.ofNat 496 r).val < 256 then at2 _ (lo2 c + (Fin.ofNat 496 r).val) (Fin.ofNat 512 k).val else _) = _
  rw [val_ofNat _ _ (by omega), val_ofNat _ _ hk, if_pos hr]

/-- The second landing area holds the second peer's sum of two at the device's quarter. -/
theorem at2_land2_hi (c : Dev nD) (r k : ℕ) (hr : r < 128) (hk : k < 512) :
    at2 (land2 I c) (256 + r) k = at2 (sum2 I (pr 1 c)) (lo4 c + r) k := by
  show (if (Fin.ofNat 496 (256 + r)).val < 256 then _ else at2 _ (lo4 c + ((Fin.ofNat 496 (256 + r)).val - 256)) (Fin.ofNat 512 k).val) = _
  rw [val_ofNat _ _ (by omega), val_ofNat _ _ hk, if_neg (by omega)]
  exact at2_congr _ (by omega) rfl

/-- A sum of arrays at an element is the elements' sum. -/
theorem at2_addf {a b : ℕ} [NeZero a] [NeZero b] (f g : FVec F ⟨2, ![a, b]⟩ .bf16) (i j : ℕ) :
    at2 (addf f g) i j = FloatOps.addf (at2 f i j) (at2 g i j) := rfl

/-- The first exchange: the half of the product a device sends is what its peer's row buffer is to hold. -/
theorem land_ch0 (c : Dev nD) (inb inb') :
    (rsM.access (Rect.unit (s := S496x512) ![0, 0] S256x512.size inb)).read (Elt F) (land2 I (pr 0 c))
      = (accM.access (Rect.unit (s := S512x512) (k0_off3 c) S256x512.size inb')).read (Elt F) (prod0 (I c)) := by
  funext j
  have h0 : (j 0).val < 256 := (j 0).isLt
  have h1 : (j 1).val < 512 := (j 1).isLt
  refine (emb_at2 (land2 I (pr 0 c)) inb rfl j).trans (Eq.trans ?_ (emb_at2 (prod0 (I c)) inb' (off3_eq c) j).symm)
  rw [at2_land2_lo I _ _ _ (by omega) (by omega), pr_pr]
  exact at2_congr _ (by omega) rfl

/-- The second exchange. -/
theorem land_ch1 (c : Dev nD) (inb inb') :
    (rsM.access (Rect.unit (s := S496x512) ![256, 0] S128x512.size inb)).read (Elt F) (land2 I (pr 1 c))
      = (accM.access (Rect.unit (s := S512x512) (k0_off6 c) S128x512.size inb')).read (Elt F) (sum2 I c) := by
  funext j
  have h0 : (j 0).val < 128 := (j 0).isLt
  have h1 : (j 1).val < 512 := (j 1).isLt
  refine (emb_at2 (land2 I (pr 1 c)) inb rfl j).trans (Eq.trans ?_ (emb_at2 (sum2 I c) inb' (off6_eq c) j).symm)
  rw [at2_land2_hi I _ _ _ (by omega) (by omega), pr_pr]

/-- The half a device keeps after the first exchange is the printed sum of the rows loaded. -/
theorem read_sum2 (c : Dev nD) (inb inb' inb'') :
    (accM.access (Rect.unit (s := S512x512) (k0_off5 c) S256x512.size inb)).read (Elt F) (sum2 I c)
      = k0_pay58 (k0_pay57 (accM.view.readAt (Elt F) (Rect.unit (s := S512x512) (k0_off5 c) S256x512.size inb').toLoadRect (prod0 (I c)))
          (rsM.view.readAt (Elt F) (Rect.unit (s := S496x512) ![0, 0] S256x512.size inb'').toLoadRect (land2 I c))) := by
  unfold k0_pay58 k0_pay57
  rw [shapeCast_self]
  funext j
  have h0 : (j 0).val < 256 := (j 0).isLt
  have h1 : (j 1).val < 512 := (j 1).isLt
  refine (emb_at2 (sum2 I c) inb (off5_eq c) j).trans ?_
  show _ = FloatOps.addf (prod0 (I c) ((Rect.unit (s := S512x512) (k0_off5 c) S256x512.size inb').emb j)) (land2 I c ((Rect.unit (s := S496x512) ![0, 0] S256x512.size inb'').emb j))
  rw [emb_at2 (prod0 (I c)) inb' (off5_eq c) j, emb_at2 (land2 I c) inb'' rfl j, at2_land2_lo I _ _ _ (by omega) (by omega)]
  unfold sum2
  rw [at2_addf]
  exact congrArg _ (at2_congr _ (by omega) rfl)

/-- The quarter's rows hold the sum of four: the sum of two plus what landed. -/
theorem read_sum4 (c : Dev nD) (inb inb' inb'') :
    (accM.access (Rect.unit (s := S512x512) (k0_off7 c) S128x512.size inb)).read (Elt F) (sum4 I c)
      = k0_pay60 (k0_pay59 (accM.view.readAt (Elt F) (Rect.unit (s := S512x512) (k0_off7 c) S128x512.size inb').toLoadRect (sum2 I c))
          (rsM.view.readAt (Elt F) (Rect.unit (s := S496x512) ![256, 0] S128x512.size inb'').toLoadRect (land2 I c))) := by
  unfold k0_pay60 k0_pay59
  rw [shapeCast_self]
  funext j
  have h0 : (j 0).val < 128 := (j 0).isLt
  have h1 : (j 1).val < 512 := (j 1).isLt
  refine (emb_at2 (sum4 I c) inb (off7_eq c) j).trans ?_
  show _ = FloatOps.addf (sum2 I c ((Rect.unit (s := S512x512) (k0_off7 c) S128x512.size inb').emb j)) (land2 I c ((Rect.unit (s := S496x512) ![256, 0] S128x512.size inb'').emb j))
  rw [emb_at2 (sum2 I c) inb' (off7_eq c) j, emb_at2 (land2 I c) inb'' rfl j, at2_land2_hi I _ _ _ (by omega) (by omega)]
  unfold sum4
  rw [at2_addf]

/-! ## The seven slots -/

/-- A slot's index behind the one coordinate of its leading axis. -/
def slotIx (k : Fin 7) (j : S16x512.Idx) : S7x16x512.Idx := ix3 k (j 0) (j 1)

/-- The `k`-th slot with its leading axis dropped sits at the slot's rows. -/
theorem emb_slot (k : Fin 7) (inb) (h : S16x512.numel = S1x16x512.numel) (j : S16x512.Idx) :
    (Rect.unit (s := S7x16x512) ![k.val, 0, 0] S1x16x512.size inb).emb (Shape.reshapeEquiv h j) = slotIx k j := by
  rw [Shape.reshapeEquiv_cons_one]
  funext a
  apply Fin.ext
  match a with
  | ⟨0, _⟩ => rfl
  | ⟨1, _⟩ => show 0 + 1 * (j 0).val = _; rw [Nat.zero_add, Nat.one_mul]; rfl
  | ⟨2, _⟩ => show 0 + 1 * (j 1).val = _; rw [Nat.zero_add, Nat.one_mul]; rfl

/-- A landing slot holds the group peer's sum of four at the device's chunk. -/
theorem land8_slot (c : Dev nD) (k : Fin 7) (j : S16x512.Idx) :
    land8 I c (slotIx k j) = at2 (sum4 I (pr ⟨k.val + 2, by omega⟩ c)) (lo32 c + (j 0).val) (j 1).val := by
  have hk : (Fin.ofNat 9 (k.val + 2)) = (⟨k.val + 2, by omega⟩ : Fin 9) := Fin.ext (Nat.mod_eq_of_lt (by omega))
  show at2 (sum4 I (pr (Fin.ofNat 9 (k.val + 2)) c)) _ _ = _
  rw [hk]; rfl

/-- What lands in a peer's slot is what the device sends of its sum of four. -/
theorem land_ch8 (c : Dev nD) (k : Fin 7) (inb inb') :
    ((r8M.slice (Rect.unit (s := S7x16x512) ![k.val, 0, 0] S1x16x512.size inb) (fun _ => rfl)).squeeze S16x512 squeezes_S1x16x512_S16x512).view.read (Elt F) (land8 I (pr ⟨k.val + 2, by omega⟩ c))
      = (accM.access (Rect.unit (s := S512x512) (k0_off8 c (BitVec.ofNat 32 (1 + k.val))) S16x512.size inb')).read (Elt F) (sum4 I c) := by
  funext j
  refine Eq.trans ?_ (emb_at2 (sum4 I c) inb' (off8_eq c k) j).symm
  refine (congrArg (land8 I (pr ⟨k.val + 2, by omega⟩ c)) (emb_slot k inb squeezes_S1x16x512_S16x512.numel_eq j)).trans ?_
  rw [land8_slot, pr_pr]
  exact at2_congr _ rfl (by omega)

/-- A slot seen as rows holds the group peer's sum of four at the device's chunk. -/
theorem cast_slot (c : Dev nD) (k : Fin 7) (inb) (h : Shape.ShapeCasts (Rect.unit (s := S7x16x512) ![k.val, 0, 0] S1x16x512.size inb).shape S16x512) :
    shapeCast S16x512 (r8M.view.readAt (Elt F) (Rect.unit (s := S7x16x512) ![k.val, 0, 0] S1x16x512.size inb).toLoadRect (land8 I c)) h
      = fun j : S16x512.Idx => at2 (sum4 I (pr ⟨k.val + 2, by omega⟩ c)) (lo32 c + (j 0).val) (j 1).val := by
  funext j
  exact (congrArg (land8 I c) (emb_slot k inb squeezes_S1x16x512_S16x512.numel_eq j)).trans (land8_slot I c k j)

/-- The owner of a chunk's rows is the device that finishes it. -/
theorem lo32_div (c : Dev nD) (r : ℕ) (hr : r < 16) : owner ((lo32 c + r) / 16) = c := by
  have h : (lo32 c + r) / 16 = lo32 c / 16 := by
    have : lo32 c % 16 = 0 := by revert c; decide +kernel
    omega
  rw [h, owner_lo32]

/-- The gathered array at a device's chunk is that device's sum over all. -/
theorem at2_gath (c : Dev nD) (r k : ℕ) (hr : r < 16) :
    at2 (gath I) (lo32 c + r) k = at2 (sum32 I c) (lo32 c + r) k := by
  have := lo32_lt c
  have e : owner ((Fin.ofNat 512 (lo32 c + r)).val / 16) = c := by rw [val_ofNat _ _ (by omega), lo32_div c r hr]
  exact congrFun (congrArg (sum32 I) e) _

/-- The sixteen rows a device finishes, from its own and the seven slots. -/
theorem read_gath (c : Dev nD) (inb inb' i0 i1 i2 i3 i4 i5 i6) :
    (gM.access (Rect.unit (s := S512x512) (k0_off9 c) S16x512.size inb)).read (Elt F) (gath I)
      = k0_pay63 (k0_pay62 (k0_pay61 (accM.view.readAt (Elt F) (Rect.unit (s := S512x512) (k0_off9 c) S16x512.size inb').toLoadRect (sum4 I c))
          (r8M.view.readAt (Elt F) (Rect.unit (s := S7x16x512) ![0, 0, 0] S1x16x512.size i0).toLoadRect (land8 I c))
          (r8M.view.readAt (Elt F) (Rect.unit (s := S7x16x512) ![1, 0, 0] S1x16x512.size i1).toLoadRect (land8 I c)))
          (r8M.view.readAt (Elt F) (Rect.unit (s := S7x16x512) ![2, 0, 0] S1x16x512.size i2).toLoadRect (land8 I c))
          (r8M.view.readAt (Elt F) (Rect.unit (s := S7x16x512) ![3, 0, 0] S1x16x512.size i3).toLoadRect (land8 I c)))
          (r8M.view.readAt (Elt F) (Rect.unit (s := S7x16x512) ![4, 0, 0] S1x16x512.size i4).toLoadRect (land8 I c))
          (r8M.view.readAt (Elt F) (Rect.unit (s := S7x16x512) ![5, 0, 0] S1x16x512.size i5).toLoadRect (land8 I c))
          (r8M.view.readAt (Elt F) (Rect.unit (s := S7x16x512) ![6, 0, 0] S1x16x512.size i6).toLoadRect (land8 I c)) := by
  unfold k0_pay63 k0_pay62 k0_pay61
  simp only []
  rw [shapeCast_self]
  funext j
  have h0 : (j 0).val < 16 := (j 0).isLt
  refine (emb_at2 (gath I) inb (off9_eq c) j).trans ?_
  rw [at2_gath I c _ _ h0, Nat.zero_add]
  have hj : accM.view.readAt (Elt F) (Rect.unit (s := S512x512) (k0_off9 c) S16x512.size inb').toLoadRect (sum4 I c) j = at2 (sum4 I c) (lo32 c + (j 0).val) (j 1).val :=
    (emb_at2 (sum4 I c) inb' (off9_eq c) j).trans (at2_congr _ rfl (by omega))
  unfold sum32
  rw [at2_addf, at2_addf, at2_addf, at2_addf, at2_addf, at2_addf, at2_addf]
  exact congrArg₂ FloatOps.addf (congrArg₂ FloatOps.addf (congrArg₂ FloatOps.addf (congrArg₂ FloatOps.addf (congrArg₂ FloatOps.addf
    (congrArg₂ FloatOps.addf (congrArg₂ FloatOps.addf hj.symm
      (congrFun (cast_slot I c 0 i0 shapeCasts_S1x16x512_S16x512) j).symm) (congrFun (cast_slot I c 1 i1 shapeCasts_S1x16x512_S16x512) j).symm)
      (congrFun (cast_slot I c 2 i2 shapeCasts_S1x16x512_S16x512) j).symm) (congrFun (cast_slot I c 3 i3 shapeCasts_S1x16x512_S16x512) j).symm)
      (congrFun (cast_slot I c 4 i4 shapeCasts_S1x16x512_S16x512) j).symm) (congrFun (cast_slot I c 5 i5 shapeCasts_S1x16x512_S16x512) j).symm)
      (congrFun (cast_slot I c 6 i6 shapeCasts_S1x16x512_S16x512) j).symm

/-- A batch row block of the gathered array, loaded. -/
theorem read_gathHalf {o b : ℕ} (hb : o = 256 * b) (inb) :
    gM.view.readAt (Elt F) (Rect.unit (s := S512x512) ![o, 0] S256x512.size inb).toLoadRect (gath I) = gathHalf I b := by
  subst hb
  funext j
  refine (emb_at2 (gath I) inb rfl j).trans ?_
  exact at2_congr _ rfl (by omega)

/-- A batch's block of the output is that batch's rows of the gathered array. -/
theorem read_outV {b : ℕ} (inb) :
    (outM.access (Rect.unit (s := S2x256x512) ![b, 0, 0] S1x256x512.size inb)).read (Elt F) (outV I)
      = k0_pay64 (gathHalf I b) := by
  funext j
  show outV I ((Rect.unit (s := S2x256x512) ![b, 0, 0] S1x256x512.size inb).emb j) = _
  unfold outV
  have hj : (j 0).val < 1 := (j 0).isLt
  have e0 : ((Rect.unit (s := S2x256x512) ![b, 0, 0] S1x256x512.size inb).emb j 0).val = b := by
    show b + 1 * (j 0).val = b; omega
  rw [e0]
  congr 1
  funext a
  apply Fin.ext
  match a with
  | ⟨0, _⟩ => show 0 = (j 0).val; omega
  | ⟨1, _⟩ => show 0 + 1 * (j 1).val = (j 1).val; omega
  | ⟨2, _⟩ => show 0 + 1 * (j 2).val = (j 2).val; omega

/-! ## The head buffer -/

/-- One head's block of the head buffer is the head's payload. -/
theorem read_ctx_hd (i : In F) (b h : ℕ) (hb : b < 2) (hh : h < 4) {o₀ o₁ : ℕ} (inb : ∀ a : Fin 2, (![o₀, o₁] : Fin 2 → ℕ) a + S256x64.size a ≤ S512x256.size a) (e₀ : o₀ = 256 * b) (e₁ : o₁ = 64 * h) :
    (ctxM.access (Rect.unit (s := S512x256) ![o₀, o₁] S256x64.size inb)).read (Elt F) (ctx i) = hd i b h := by
  subst e₀ e₁
  funext j
  have h0 : (j 0).val < 256 := (j 0).isLt
  have h1 : (j 1).val < 64 := (j 1).isLt
  refine (emb_at2 (ctx i) inb rfl j).trans ?_
  show at2 (hd i ((Fin.ofNat 512 (256 * b + (j 0).val)).val / 256) ((Fin.ofNat 256 (64 * h + (j 1).val)).val / 64)) ((Fin.ofNat 512 (256 * b + (j 0).val)).val % 256) ((Fin.ofNat 256 (64 * h + (j 1).val)).val % 64) = _
  rw [val_ofNat _ _ (by omega), val_ofNat _ _ (by omega)]
  have a1 : (256 * b + (j 0).val) / 256 = b := by omega
  have a2 : (64 * h + (j 1).val) / 64 = h := by omega
  have a3 : (256 * b + (j 0).val) % 256 = (j 0).val := by omega
  have a4 : (64 * h + (j 1).val) % 64 = (j 1).val := by omega
  rw [a1, a2, a3, a4]
  exact at2_self (a := 256) (b := 64) _ j

end Cert.Attn
-- ==== Proof.Protocol.lean ====
/-
The cross-device protocol. Every device first signals each of its nine peers' barrier cell once; the signal hands the
peer the rows of the device's own buffers that the peer's copies land in, and that the device's landing cells are open.
A device waits nine units on its barrier cell. Then come eighteen copies, each with its own send cell and landing cell:
the half (`h2`) to the peer across the lowest bit, the quarter (`q2`) to the peer across the next bit, sixteen rows each
(`s8 k`) to the seven peers across the group bits; then the finished sixteen rows (`g8 k`) to the same seven, the
quarter (`gq`) and the half (`gh`) back. A landing hands its receiver the rows at named contents; a sent copy hands the
sender its source rows back. What is owed is the landing credits still to be paid, in the program's order, and every
wait sits below all of them.
-/
module

public import proofs.«01_k».proof.Proof.Reads
public import Idealize.ShloMosaic.Lib.Pipeline.Regions
public import Idealize.ShloMosaic.Lib.Pipeline.Kit
public import Idealize.ShloMosaic.Lib.Rounds
public import Idealize.ShloMosaic.Lib.Rounds.Family
public import Idealize.ShloMosaic.Lib.StableHlo
public import Idealize.ShloMosaic.Lib.ShareLeaves
public import Idealize.ShloMosaic.PureOps
public import Idealize.ShloMosaic.Lib.Pipeline.RegionTalk

@[expose] public section

noncomputable section

namespace Cert.Attn

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The copies -/

/-- The eighteen copies of a device, by group. -/
inductive Ch where
  | h2 | q2 | s8 (k : Fin 7) | g8 (k : Fin 7) | gq | gh
  deriving DecidableEq

/-- The copies, numbered in the program's order. -/
def Ch.num : Ch → Fin 18
  | .h2 => 0
  | .q2 => 1
  | .s8 k => ⟨2 + k.val, by omega⟩
  | .g8 k => ⟨9 + k.val, by omega⟩
  | .gq => 16
  | .gh => 17

def Ch.ofNum (n : Fin 18) : Ch :=
  if n.val = 0 then .h2 else if n.val = 1 then .q2
  else if h : n.val < 9 then .s8 ⟨n.val - 2, by omega⟩
  else if h : n.val < 16 then .g8 ⟨n.val - 9, by omega⟩
  else if n.val = 16 then .gq else .gh

/-- A copy is the one its number names. -/
theorem Ch.ofNum_num (ch : Ch) : Ch.ofNum ch.num = ch := by
  cases ch with
  | h2 => decide
  | q2 => decide
  | s8 k => revert k; decide
  | g8 k => revert k; decide
  | gq => decide
  | gh => decide
/-- A number is that of the copy it names. -/
theorem Ch.num_ofNum (n : Fin 18) : (Ch.ofNum n).num = n := by revert n; decide

/-- The copies are their numbers. -/
def Ch.equiv : Fin 18 ≃ Ch := ⟨Ch.ofNum, Ch.num, Ch.num_ofNum, Ch.ofNum_num⟩

instance : Fintype Ch := Fintype.ofEquiv _ Ch.equiv

/-- The peer number `k + 2` of the seven group peers. -/
abbrev gp (k : Fin 7) : Fin 9 := ⟨k.val + 2, by omega⟩

/-- Which peer a copy goes to (and comes from). -/
def Ch.peer : Ch → Fin 9
  | .h2 => 0
  | .q2 => 1
  | .s8 k => gp k
  | .g8 k => gp k
  | .gq => 1
  | .gh => 0

/-- The send semaphore of a copy. -/
def Ch.sIx : Ch → DmaSem sig
  | .h2 => (6 : Fin 42)
  | .q2 => (7 : Fin 42)
  | .s8 k => (⟨10 + k.val, by omega⟩ : Fin 42)
  | .g8 k => (⟨24 + k.val, by omega⟩ : Fin 42)
  | .gq => (38 : Fin 42)
  | .gh => (39 : Fin 42)
/-- The landing semaphore of a copy. -/
def Ch.rIx : Ch → DmaSem sig
  | .h2 => (8 : Fin 42)
  | .q2 => (9 : Fin 42)
  | .s8 k => (⟨17 + k.val, by omega⟩ : Fin 42)
  | .g8 k => (⟨31 + k.val, by omega⟩ : Fin 42)
  | .gq => (40 : Fin 42)
  | .gh => (41 : Fin 42)

/-- Which copy, and which side of it, a semaphore number from six on belongs to. -/
def dec (n : ℕ) : Ch × Bool :=
  if n = 6 then (.h2, false) else if n = 7 then (.q2, false) else if n = 8 then (.h2, true) else if n = 9 then (.q2, true)
  else if n < 17 then (.s8 (Fin.ofNat 7 (n - 10)), false) else if n < 24 then (.s8 (Fin.ofNat 7 (n - 17)), true)
  else if n < 31 then (.g8 (Fin.ofNat 7 (n - 24)), false) else if n < 38 then (.g8 (Fin.ofNat 7 (n - 31)), true)
  else if n = 38 then (.gq, false) else if n = 39 then (.gh, false) else if n = 40 then (.gq, true) else (.gh, true)

/-- A copy's send semaphore decodes to the copy's send side. -/
theorem dec_sIx (ch : Ch) : dec ch.sIx.val = (ch, false) := by
  cases ch with
  | h2 => decide
  | q2 => decide
  | s8 k => revert k; decide
  | g8 k => revert k; decide
  | gq => decide
  | gh => decide
/-- A copy's landing semaphore decodes to the copy's landing side. -/
theorem dec_rIx (ch : Ch) : dec ch.rIx.val = (ch, true) := by
  cases ch with
  | h2 => decide
  | q2 => decide
  | s8 k => revert k; decide
  | g8 k => revert k; decide
  | gq => decide
  | gh => decide
/-- Send semaphores come after the six staging ones. -/
theorem six_le_sIx (ch : Ch) : 6 ≤ ch.sIx.val := by
  cases ch with
  | h2 => decide
  | q2 => decide
  | s8 k => revert k; decide
  | g8 k => revert k; decide
  | gq => decide
  | gh => decide
/-- Landing semaphores come after the six staging ones. -/
theorem six_le_rIx (ch : Ch) : 6 ≤ ch.rIx.val := by
  cases ch with
  | h2 => decide
  | q2 => decide
  | s8 k => revert k; decide
  | g8 k => revert k; decide
  | gq => decide
  | gh => decide

/-- The credit of a copy: its bytes in the model's units. -/
def Ch.amt : Ch → ℕ
  | .h2 => RefSig.tileCredit S256x512 .bf16
  | .q2 => RefSig.tileCredit S128x512 .bf16
  | .s8 _ => RefSig.tileCredit S16x512 .bf16
  | .g8 _ => RefSig.tileCredit S16x512 .bf16
  | .gq => RefSig.tileCredit S128x512 .bf16
  | .gh => RefSig.tileCredit S256x512 .bf16

/-- Every copy carries something. -/
theorem amt_pos (ch : Ch) : 0 < ch.amt := by
  have h1 : 0 < RefSig.tileCredit S256x512 .bf16 := RefSig.tileCredit_pos _ _ (by decide)
  have h2 : 0 < RefSig.tileCredit S128x512 .bf16 := RefSig.tileCredit_pos _ _ (by decide)
  have h3 : 0 < RefSig.tileCredit S16x512 .bf16 := RefSig.tileCredit_pos _ _ (by decide)
  cases ch <;> assumption

/-- The level of a copy's landing cell. -/
def Ch.lev : Ch → ℕ
  | .h2 => 2
  | .q2 => 3
  | .s8 _ => 4
  | .g8 _ => 5
  | .gq => 6
  | .gh => 7

/-! ## The resource algebra and the cells -/

abbrev UU : Type := UR sig nD τ × URounds (GSem nD τ sig) (Fin 9)

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) (Fin 9)) (MT nD τ sig Unit (Elt F) ℕ UU ℕ) := embR

abbrev 𝒱₀ : Variants := Variants.none

/-- The barrier semaphore. -/
abbrev barS : Sem sig := sig.barrier 0 rfl

abbrev barCell (c : Dev nD) : GSem nD τ sig := ((c : Thread nD τ), .reg barS)
abbrev sCell (ch : Ch) (c : Dev nD) : GSem nD τ sig := ((c : Thread nD τ), .dma ch.sIx)
abbrev rCell (ch : Ch) (c : Dev nD) : GSem nD τ sig := ((c : Thread nD τ), .dma ch.rIx)

/-! ## Rows -/

/-- Full-width rows `o` to `o + n` of the row arrays. -/
def rows (o n : ℕ) : Finset S512x512.Idx := Finset.univ.filter fun x => o ≤ (x 0).val ∧ (x 0).val < o + n
def rowsR (o n : ℕ) : Finset S496x512.Idx := Finset.univ.filter fun x => o ≤ (x 0).val ∧ (x 0).val < o + n
def slot (k : Fin 7) : Finset S7x16x512.Idx := Finset.univ.filter fun x => (x 0).val = k.val
/-- The block of one head of one batch row block in the head buffer. -/
def blk (b h : ℕ) : Finset S512x256.Idx := Finset.univ.filter fun x => (x 0).val / 256 = b ∧ (x 1).val / 64 = h

/-- The sixteen rows device `c` finishes. -/
abbrev chunk (c : Dev nD) : Finset S512x512.Idx := rows (lo32 c) 16
abbrev quart (c : Dev nD) : Finset S512x512.Idx := rows (lo4 c) 128
abbrev half (c : Dev nD) : Finset S512x512.Idx := rows (lo2 c) 256

abbrev ctxP (c : Dev nD) (S : Finset S512x256.Idx) (f : S512x256.Idx → F .bf16) : sProp 𝕄 :=
  ((c : Thread nD τ).loc cc0_scratch0) ↦[S]{fullShare} f
abbrev accP (c : Dev nD) (S : Finset S512x512.Idx) (f : S512x512.Idx → F .bf16) : sProp 𝕄 :=
  ((c : Thread nD τ).loc cc0_scratch1) ↦[S]{fullShare} f
abbrev rsP (c : Dev nD) (S : Finset S496x512.Idx) (f : S496x512.Idx → F .bf16) : sProp 𝕄 :=
  ((c : Thread nD τ).loc cc0_scratch2) ↦[S]{fullShare} f
abbrev r8P (c : Dev nD) (S : Finset S7x16x512.Idx) (f : S7x16x512.Idx → F .bf16) : sProp 𝕄 :=
  ((c : Thread nD τ).loc cc0_scratch3) ↦[S]{fullShare} f
abbrev gP (c : Dev nD) (S : Finset S512x512.Idx) (q : PosShare TreeShare) (f : S512x512.Idx → F .bf16) : sProp 𝕄 :=
  ((c : Thread nD τ).loc cc0_scratch4) ↦[S]{q} f

/-- The four quarters of the full share: one for the 256-row send, one for the 128-row send, one for the last loads, one
    whose leaves the seven sixteen-row sends take. -/
abbrev qA : PosShare TreeShare := fullShare.left.left
abbrev qB : PosShare TreeShare := fullShare.left.right
abbrev qC : PosShare TreeShare := fullShare.right.left
abbrev qD : PosShare TreeShare := fullShare.right.right
abbrev qL (k : Fin 8) : PosShare TreeShare := ShareLeaves.leaf 3 qD k

/-! ## Payloads -/

variable (I : Dev nD → In F)

/-- What a sent copy hands back to the sender. -/
def sendPay : Ch → Dev nD → sProp 𝕄
  | .h2, c => accP c (half (pr 0 c)) (prod0 (I c))
  | .q2, c => accP c (quart (pr 1 c)) (sum2 I c)
  | .s8 k, c => accP c (chunk (pr (gp k) c)) (sum4 I c)
  | .g8 k, c => gP c (chunk c) (qL k.castSucc) (gath I)
  | .gq, c => gP c (quart c) qB (gath I)
  | .gh, c => gP c (half c) qA (gath I)

/-- What a landing hands the receiver. -/
def recvPay : Ch → Dev nD → sProp 𝕄
  | .h2, c => rsP c (rowsR 0 256) (land2 I c)
  | .q2, c => rsP c (rowsR 256 128) (land2 I c)
  | .s8 k, c => r8P c (slot k) (land8 I c)
  | .g8 k, c => gP c (chunk (pr (gp k) c)) fullShare (gath I)
  | .gq, c => gP c (quart (pr 1 c)) fullShare (gath I)
  | .gh, c => gP c (half (pr 0 c)) fullShare (gath I)

/-- What device `c` hands its `d`-th peer with the barrier signal: the rows the peer's two copies land in, and that
    their landing cells are open. -/
def give (d : Fin 9) (c : Dev nD) : sProp 𝕄 :=
  if h0 : d.val = 0 then iprop((∃ f, rsP c (rowsR 0 256) f) ∗ (∃ f, gP c (half (pr 0 c)) fullShare f) ∗ reached ER (rCell .h2 c) 0 ∗ reached ER (rCell .gh c) 0)
  else if h1 : d.val = 1 then iprop((∃ f, rsP c (rowsR 256 128) f) ∗ (∃ f, gP c (quart (pr 1 c)) fullShare f) ∗ reached ER (rCell .q2 c) 0 ∗ reached ER (rCell .gq c) 0)
  else iprop((∃ f, r8P c (slot ⟨d.val - 2, by omega⟩) f) ∗ (∃ f, gP c (chunk (pr d c)) fullShare f) ∗ reached ER (rCell (.s8 ⟨d.val - 2, by omega⟩) c) 0
    ∗ reached ER (rCell (.g8 ⟨d.val - 2, by omega⟩) c) 0)

/-- What goes to the first peer with the barrier signal. -/
theorem give_0 (c : Dev nD) : give 0 c = (iprop((∃ f, rsP c (rowsR 0 256) f) ∗ (∃ f, gP c (half (pr 0 c)) fullShare f) ∗ reached ER (rCell .h2 c) 0 ∗ reached ER (rCell .gh c) 0) : sProp 𝕄) := rfl
/-- What goes to the second peer with the barrier signal. -/
theorem give_1 (c : Dev nD) : give 1 c = (iprop((∃ f, rsP c (rowsR 256 128) f) ∗ (∃ f, gP c (quart (pr 1 c)) fullShare f) ∗ reached ER (rCell .q2 c) 0 ∗ reached ER (rCell .gq c) 0) : sProp 𝕄) := rfl
/-- What goes to a group peer with the barrier signal. -/
theorem give_k (k : Fin 7) (c : Dev nD) : give (gp k) c = (iprop((∃ f, r8P c (slot k) f) ∗ (∃ f, gP c (chunk (pr (gp k) c)) fullShare f) ∗ reached ER (rCell (.s8 k) c) 0 ∗ reached ER (rCell (.g8 k) c) 0) : sProp 𝕄) := by
  unfold give
  rw [dif_neg (show ¬ k.val + 2 = 0 by omega), dif_neg (show ¬ k.val + 2 = 1 by omega)]
  rfl

/-! ## The schedule -/

def duty (g : GSem nD τ sig) : Finset (Fin 9) :=
  if g.1.2 = .tc then
    match g.2 with
    | .reg s => if s = barS then Finset.univ else ∅
    | .dma n => if 6 ≤ n.val then {0} else ∅
  else ∅

def pay (g : GSem nD τ sig) (d : Fin 9) : sProp 𝕄 :=
  match g.2 with
  | .reg _ => give d (pr d g.1.1)
  | .dma n => if (dec n.val).2 = true then recvPay I (dec n.val).1 g.1.1 else sendPay I (dec n.val).1 g.1.1

def price (g : GSem nD τ sig) : ℕ :=
  match g.2 with
  | .reg _ => 1
  | .dma n => (dec n.val).1.amt

/-- One round on every cell: nine duties of one unit on a barrier cell, one duty on each side of each copy. -/
def rd : Rounds.Schedule (GSem nD τ sig) (Fin 9) 𝕄 where
  duties g r := if r = 0 then duty g else ∅
  unitless _ := False
  amount g _ _ := price g
  payload g _ d := pay I g d
  amount_pos g _ _ _ := by
    show 0 < price g
    unfold price
    split
    · exact Nat.one_pos
    · exact amt_pos _

instance sendPay_storable (ch : Ch) (c : Dev nD) : BI.Storable (upEmb : UEmb _ 𝕄) (sendPay I ch c) := by
  cases ch <;> (unfold sendPay; infer_instance)
instance recvPay_storable (ch : Ch) (c : Dev nD) : BI.Storable (upEmb : UEmb _ 𝕄) (recvPay I ch c) := by
  cases ch <;> (unfold recvPay; infer_instance)
instance give_storable (d : Fin 9) (c : Dev nD) : BI.Storable (upEmb : UEmb _ 𝕄) (give (F := F) d c) := by
  unfold give
  (repeat' split) <;> infer_instance
instance rd_payload_storable (g : GSem nD τ sig) (r : ℕ) (d : Fin 9) :
    BI.Storable (upEmb : UEmb _ 𝕄) ((rd I).payload g r d) := by
  show BI.Storable upEmb (pay I g d)
  unfold pay
  (repeat' split) <;> infer_instance

section Sched
variable (c : Dev nD) (ch : Ch) (d : Fin 9)

/-- A barrier cell's round has nine duties. -/
theorem duties_bar : (rd I).duties (barCell c) 0 = Finset.univ := by
  show (if (0 : ℕ) = 0 then duty (barCell c) else ∅) = _
  rw [if_pos rfl]; unfold duty; rw [if_pos rfl]; exact if_pos rfl
/-- A send cell's round has one duty. -/
theorem duties_s : (rd I).duties (sCell ch c) 0 = {0} := by
  show (if (0 : ℕ) = 0 then duty (sCell ch c) else ∅) = _
  rw [if_pos rfl]; unfold duty; rw [if_pos rfl]; exact if_pos (six_le_sIx ch)
/-- A landing cell's round has one duty. -/
theorem duties_r : (rd I).duties (rCell ch c) 0 = {0} := by
  show (if (0 : ℕ) = 0 then duty (rCell ch c) else ∅) = _
  rw [if_pos rfl]; unfold duty; rw [if_pos rfl]; exact if_pos (six_le_rIx ch)
/-- No cell has a second round. -/
theorem duties_later (g : GSem nD τ sig) : ∀ r, 1 ≤ r → (rd I).duties g r = ∅ :=
  fun r hr => if_neg (by omega)
/-- A barrier duty is one unit. -/
theorem amount_bar : (rd I).amount (barCell c) 0 d = 1 := rfl
/-- A send duty is the copy's credit. -/
theorem amount_s : (rd I).amount (sCell ch c) 0 0 = ch.amt := by
  show (dec ch.sIx.val).1.amt = _; rw [dec_sIx]
/-- A landing duty is the copy's credit. -/
theorem amount_r : (rd I).amount (rCell ch c) 0 0 = ch.amt := by
  show (dec ch.rIx.val).1.amt = _; rw [dec_rIx]
/-- A barrier duty carries what the peer gives. -/
theorem payload_bar : (rd I).payload (barCell c) 0 d = give d (pr d c) := rfl
/-- A send duty carries the sent rows back. -/
theorem payload_s : (rd I).payload (sCell ch c) 0 0 = sendPay I ch c := by
  show (if (dec ch.sIx.val).2 = true then recvPay I (dec ch.sIx.val).1 c else sendPay I (dec ch.sIx.val).1 c) = _
  rw [dec_sIx]; exact if_neg Bool.false_ne_true
/-- A landing duty carries the landed rows. -/
theorem payload_r : (rd I).payload (rCell ch c) 0 0 = recvPay I ch c := by
  show (if (dec ch.rIx.val).2 = true then recvPay I (dec ch.rIx.val).1 c else sendPay I (dec ch.rIx.val).1 c) = _
  rw [dec_rIx]; exact if_pos rfl
/-- A whole send round's payload is the sent rows. -/
theorem rest_s : (bigSep ((rd I).duties (sCell ch c) 0 \ ∅) (fun u => (rd I).payload (sCell ch c) 0 u) : sProp 𝕄) = sendPay I ch c := by
  rw [Finset.sdiff_empty, duties_s, BI.bigSep_singleton, payload_s]
/-- A whole landing round's payload is the landed rows. -/
theorem rest_r : (bigSep ((rd I).duties (rCell ch c) 0 \ ∅) (fun u => (rd I).payload (rCell ch c) 0 u) : sProp 𝕄) = recvPay I ch c := by
  rw [Finset.sdiff_empty, duties_r, BI.bigSep_singleton, payload_r]
/-- A whole barrier round's payload is what the nine peers give. -/
theorem rest_bar : (bigSep ((rd I).duties (barCell c) 0 \ ∅) (fun u => (rd I).payload (barCell c) 0 u) : sProp 𝕄)
    = bigSep Finset.univ fun d => give d (pr d c) := by
  rw [Finset.sdiff_empty, duties_bar]; rfl
/-- A send cell waits for the copy's credit. -/
theorem expect_s : (rd I).expect (sCell ch c) 0 = ch.amt := by
  unfold Schedule.expect Schedule.amountOf; rw [duties_s, Finset.sum_singleton, amount_s]
/-- A landing cell waits for the copy's credit. -/
theorem expect_r : (rd I).expect (rCell ch c) 0 = ch.amt := by
  unfold Schedule.expect Schedule.amountOf; rw [duties_r, Finset.sum_singleton, amount_r]
/-- A barrier cell waits for nine units. -/
theorem expect_bar : (rd I).expect (barCell c) 0 = 9 := by
  unfold Schedule.expect Schedule.amountOf; rw [duties_bar]
  show (∑ _d : Fin 9, 1) = 9
  decide

/-- A cell after its round gives its counter back, at zero. -/
theorem closeCell (κ : ℕ) (g : GSem nD τ sig) :
    iprop(cellInv ER (rd I) κ g ∗ atPos ER g (0 + 1) ∅ 0) ⊢ (|={Set.univ}=> semVal g 0 : sProp 𝕄) :=
  Rounds.cell_close ER (rd I) (Set.mem_univ κ) id (duties_later I g)

end Sched

/-! ## Levels and what is owed -/

def L (g : GSem nD τ sig) : Finset Unit := if g.1.2 = .tc then {()} else ∅
/-- Barrier cells at one, landing cells by group from two on, send cells and the staging cells at zero. -/
def lv (g : GSem nD τ sig) (_ : Unit) : ℕ :=
  match g.2 with
  | .reg _ => 1
  | .dma n => if 6 ≤ n.val ∧ (dec n.val).2 = true then (dec n.val).1.lev else 0

/-- A TensorCore's cells have one index. -/
theorem L_tc (c : Dev nD) (sm : SemLoc sig) : L ((c : Thread nD τ), sm) = {()} := if_pos rfl
/-- No other cell has any. -/
theorem L_of_ne (g : GSem nD τ sig) (h : g.1.2 ≠ .tc) : L g = ∅ := if_neg h
/-- Barrier cells are at level one. -/
theorem lv_bar (c : Dev nD) : lv (barCell c) () = 1 := rfl
/-- Landing cells are at their copy's level. -/
theorem lv_r (ch : Ch) (c : Dev nD) : lv (rCell ch c) () = ch.lev := by
  show (if 6 ≤ ch.rIx.val ∧ (dec ch.rIx.val).2 = true then (dec ch.rIx.val).1.lev else 0) = _
  rw [dec_rIx]; exact if_pos ⟨six_le_rIx ch, rfl⟩
/-- Every copy's level is above the barrier's. -/
theorem lev_pos (ch : Ch) : 1 < ch.lev := by cases ch <;> simp [Ch.lev]

/-- What is owed for the copies still to be sent. -/
def owedC (c : Dev nD) : List Ch → CellTallies nD τ sig Unit
  | [] => 0
  | ch :: l => owedC c l + tallyAt (rCell ch (pr ch.peer c)) () ch.amt
/-- With the barrier units still to be signalled. -/
def owedB (c : Dev nD) (l : List Ch) : List (Fin 9) → CellTallies nD τ sig Unit
  | [] => owedC c l
  | d :: ds => owedB c l ds + tallyAt (barCell (pr d c)) () 1

/-- The copies in the program's order. -/
abbrev allCh : List Ch := [.h2, .q2, .s8 0, .s8 1, .s8 2, .s8 3, .s8 4, .s8 5, .s8 6, .g8 0, .g8 1, .g8 2, .g8 3, .g8 4, .g8 5, .g8 6, .gq, .gh]
abbrev allD : List (Fin 9) := [0, 1, 2, 3, 4, 5, 6, 7, 8]

abbrev owed₀ (c : Dev nD) : CellTallies nD τ sig Unit := owedB c allCh allD

/-- What is owed for copies is owed at the landing cells of their peers. -/
theorem owedC_pos {c : Dev nD} {l : List Ch} {g : GSem nD τ sig} {u : Unit} (h : 0 < owedC c l g u) :
    ∃ ch ∈ l, g = rCell ch (pr ch.peer c) := by
  induction l with
  | nil => exact absurd h (Nat.lt_irrefl 0)
  | cons ch l ih =>
    unfold owedC at h
    rw [Pi.add_apply, Finsupp.add_apply] at h
    rcases Nat.add_pos_iff_pos_or_pos.mp h with h | h
    · obtain ⟨ch', hm, e⟩ := ih h
      exact ⟨ch', List.mem_cons_of_mem _ hm, e⟩
    · rw [tallyAt_apply] at h
      split at h
      · next hg => exact ⟨ch, List.mem_cons_self .., hg.1⟩
      · exact absurd h (Nat.lt_irrefl 0)

/-- What is owed in all is owed at peers' landing cells or at peers' barrier cells. -/
theorem owedB_pos {c : Dev nD} {l : List Ch} {ds : List (Fin 9)} {g : GSem nD τ sig} {u : Unit} (h : 0 < owedB c l ds g u) :
    (∃ ch ∈ l, g = rCell ch (pr ch.peer c)) ∨ ∃ d ∈ ds, g = barCell (pr d c) := by
  induction ds with
  | nil => exact .inl (owedC_pos h)
  | cons d ds ih =>
    unfold owedB at h
    rw [Pi.add_apply, Finsupp.add_apply] at h
    rcases Nat.add_pos_iff_pos_or_pos.mp h with h | h
    · rcases ih h with h | ⟨d', hm, e⟩
      · exact .inl h
      · exact .inr ⟨d', List.mem_cons_of_mem _ hm, e⟩
    · rw [tallyAt_apply] at h
      split at h
      · next hg => exact .inr ⟨d, List.mem_cons_self .., hg.1⟩
      · exact absurd h (Nat.lt_irrefl 0)

/-- A wait below every copy still owed is allowed. -/
theorem mayWait (c : Dev nD) (sm : SemLoc sig) (l : List Ch) (h : ∀ ch ∈ l, lv ((c : Thread nD τ), sm) () < ch.lev) :
    (levAts L lv : sProp 𝕄) ⊢ MayWait (c : Thread nD τ) sm () (owedC c l) :=
  MayOwe.of_cut (L := L) (lev := lv) (lv ((c : Thread nD τ), sm) ())
    (fun p hp => by rw [Finset.mem_singleton.mp hp, L_tc]; exact Finset.mem_singleton_self _)
    (fun g u hg => by obtain ⟨ch, -, rfl⟩ := owedC_pos hg; rw [L_tc]; exact Finset.mem_singleton_self _)
    (fun p hp => by rw [Finset.mem_singleton.mp hp])
    (fun g u hg => by obtain ⟨ch, hm, rfl⟩ := owedC_pos hg; rw [lv_r]; exact h ch hm)

/-! ## The invariants -/

/-- One member of a finite family. -/
theorem bigSep_pick {J : Type} [DecidableEq J] {s : Finset J} {i : J} {Φ : J → sProp 𝕄} (h : i ∈ s) : bigSep s Φ ⊢ Φ i :=
  fun m hm => BI.bigSep_elim h m hm

/-- Every cell's invariant, of every device, at the names the launch allocated them at. -/
def invs (K : GSem nD τ sig → ℕ) : sProp 𝕄 :=
  iprop((bigSep Finset.univ fun c : Dev nD => cellInv ER (rd I) (K (barCell c)) (barCell c))
    ∗ bigSep Finset.univ fun p : Dev nD × Ch => iprop(cellInv ER (rd I) (K (sCell p.2 p.1)) (sCell p.2 p.1) ∗ cellInv ER (rd I) (K (rCell p.2 p.1)) (rCell p.2 p.1)))

instance invs_persistent (K : GSem nD τ sig → ℕ) : BI.Persistent (invs I K) := by unfold invs; infer_instance

/-- The invariants hold a barrier cell's. -/
theorem inv_bar (K : GSem nD τ sig → ℕ) (c : Dev nD) : invs I K ⊢ cellInv ER (rd I) (K (barCell c)) (barCell c) := by
  unfold invs
  iintro ⟨H, -⟩
  ihave H := (bigSep_pick (Finset.mem_univ c)) $$ H
  iexact H
/-- The invariants hold a send cell's. -/
theorem inv_s (K : GSem nD τ sig → ℕ) (ch : Ch) (c : Dev nD) : invs I K ⊢ cellInv ER (rd I) (K (sCell ch c)) (sCell ch c) := by
  unfold invs
  iintro ⟨-, H⟩
  ihave H := (bigSep_pick (Finset.mem_univ ((c, ch) : Dev nD × Ch))) $$ H
  icases H with ⟨H, -⟩
  iexact H
/-- The invariants hold a landing cell's. -/
theorem inv_r (K : GSem nD τ sig → ℕ) (ch : Ch) (c : Dev nD) : invs I K ⊢ cellInv ER (rd I) (K (rCell ch c)) (rCell ch c) := by
  unfold invs
  iintro ⟨-, H⟩
  ihave H := (bigSep_pick (Finset.mem_univ ((c, ch) : Dev nD × Ch))) $$ H
  icases H with ⟨-, H⟩
  iexact H

end Cert.Attn
-- ==== Proof.Rows.lean ====
/-
The row blocks partition the buffers: halves, quarters, sixteen-row chunks, slots and head blocks; and the views the
program's loads, stores and copies go through cover exactly these blocks.
-/
module

public import proofs.«01_k».proof.Proof.Protocol

@[expose] public section

noncomputable section

namespace Cert.Attn

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-- An element is of a run of rows if its row is. -/
theorem mem_rows {o n : ℕ} {x : S512x512.Idx} : x ∈ rows o n ↔ o ≤ (x 0).val ∧ (x 0).val < o + n := by
  unfold rows; rw [Finset.mem_filter]; exact ⟨fun h => h.2, fun h => ⟨Finset.mem_univ _, h⟩⟩
/-- The same of the landing buffer's rows. -/
theorem mem_rowsR {o n : ℕ} {x : S496x512.Idx} : x ∈ rowsR o n ↔ o ≤ (x 0).val ∧ (x 0).val < o + n := by
  unfold rowsR; rw [Finset.mem_filter]; exact ⟨fun h => h.2, fun h => ⟨Finset.mem_univ _, h⟩⟩
/-- An element is of a slot if its first coordinate is the slot's number. -/
theorem mem_slot {k : Fin 7} {x : S7x16x512.Idx} : x ∈ slot k ↔ (x 0).val = k.val := by
  unfold slot; rw [Finset.mem_filter]; exact ⟨fun h => h.2, fun h => ⟨Finset.mem_univ _, h⟩⟩
/-- An element is of a head's block if its row is the batch's and its column the head's. -/
theorem mem_blk {b h : ℕ} {x : S512x256.Idx} : x ∈ blk b h ↔ (x 0).val / 256 = b ∧ (x 1).val / 64 = h := by
  unfold blk; rw [Finset.mem_filter]; exact ⟨fun h => h.2, fun h => ⟨Finset.mem_univ _, h⟩⟩

/-! ## The rectangles -/

/-- A full-width rectangle is a run of rows. -/
theorem rect_rows {off size : Fin 2 → ℕ} (inb) {o n : ℕ} (h : off = ![o, 0]) (hs : size = ![n, 512]) :
    (Rect.unit (s := S512x512) off size inb).set = rows o n := by
  subst h hs
  ext x
  rw [Rect.mem_set_unit, mem_rows]
  have h1 : (x 1).val < 512 := (x 1).isLt
  constructor
  · intro h; exact h 0
  · intro h a
    match a with
    | ⟨0, _⟩ => exact h
    | ⟨1, _⟩ => exact ⟨Nat.zero_le _, by show (x 1).val < 0 + 512; omega⟩

/-- The same of the landing buffer's rows. -/
theorem rect_rowsR {off size : Fin 2 → ℕ} (inb) {o n : ℕ} (h : off = ![o, 0]) (hs : size = ![n, 512]) :
    (Rect.unit (s := S496x512) off size inb).set = rowsR o n := by
  subst h hs
  ext x
  rw [Rect.mem_set_unit, mem_rowsR]
  have h1 : (x 1).val < 512 := (x 1).isLt
  constructor
  · intro h; exact h 0
  · intro h a
    match a with
    | ⟨0, _⟩ => exact h
    | ⟨1, _⟩ => exact ⟨Nat.zero_le _, by show (x 1).val < 0 + 512; omega⟩

/-- A one-slot rectangle is the slot. -/
theorem rect_slot (k : Fin 7) (inb) :
    (Rect.unit (s := S7x16x512) ![k.val, 0, 0] S1x16x512.size inb).set = slot k := by
  ext x
  rw [Rect.mem_set_unit, mem_slot]
  have h1 : (x 1).val < 16 := (x 1).isLt
  have h2 : (x 2).val < 512 := (x 2).isLt
  constructor
  · intro h
    have h0 : k.val ≤ (x 0).val ∧ (x 0).val < k.val + 1 := h 0
    omega
  · intro h a
    match a with
    | ⟨0, _⟩ => exact ⟨by show k.val ≤ (x 0).val; omega, by show (x 0).val < k.val + 1; omega⟩
    | ⟨1, _⟩ => exact ⟨Nat.zero_le _, by show (x 1).val < 0 + 16; omega⟩
    | ⟨2, _⟩ => exact ⟨Nat.zero_le _, by show (x 2).val < 0 + 512; omega⟩

/-- A 256 by 64 rectangle is a head's block. -/
theorem rect_blk {b h o₀ o₁ : ℕ} (inb) (e₀ : o₀ = 256 * b) (e₁ : o₁ = 64 * h) :
    (Rect.unit (s := S512x256) ![o₀, o₁] S256x64.size inb).set = blk b h := by
  subst e₀ e₁
  ext x
  rw [Rect.mem_set_unit, mem_blk]
  constructor
  · intro hx
    have h0 : 256 * b ≤ (x 0).val ∧ (x 0).val < 256 * b + 256 := hx 0
    have h1 : 64 * h ≤ (x 1).val ∧ (x 1).val < 64 * h + 64 := hx 1
    omega
  · intro hx a
    match a with
    | ⟨0, _⟩ => exact ⟨by show 256 * b ≤ (x 0).val; omega, by show (x 0).val < 256 * b + 256; omega⟩
    | ⟨1, _⟩ => exact ⟨by show 64 * h ≤ (x 1).val; omega, by show (x 1).val < 64 * h + 64; omega⟩

/-! ## The partitions -/

/-- Every row is of a device's half or of its first peer's. -/
theorem mem_halves (c : Dev nD) (x : S512x512.Idx) : x ∈ half c ∨ x ∈ half (pr 0 c) := by
  have hx : (x 0).val < 512 := (x 0).isLt
  simp only [mem_rows]
  rcases lo2_cases c with h | h <;> omega
/-- The two halves are disjoint. -/
theorem no_halves (c : Dev nD) (x : S512x512.Idx) : x ∈ half c → x ∈ half (pr 0 c) → False := by
  simp only [mem_rows]
  rcases lo2_cases c with h | h <;> omega
/-- A half is a device's quarter and its second peer's. -/
theorem mem_quarts (c : Dev nD) (x : S512x512.Idx) : x ∈ half c ↔ x ∈ quart c ∨ x ∈ quart (pr 1 c) := by
  simp only [mem_rows]
  rcases lo4_cases c with h | h <;> omega
/-- The two quarters are disjoint. -/
theorem no_quarts (c : Dev nD) (x : S512x512.Idx) : x ∈ quart c → x ∈ quart (pr 1 c) → False := by
  simp only [mem_rows]
  rcases lo4_cases c with h | h <;> omega

/-- Every sixteen rows of a quarter are a chunk of the device or of a group peer. -/
theorem chunk_find (c : Dev nD) (j : Fin 8) : lo32 c = lo4 c + 16 * j.val ∨ ∃ k : Fin 7, lo32 (pr (gp k) c) = lo4 c + 16 * j.val := by
  revert c j; decide +kernel
/-- A device's chunk is one of the eight of its quarter. -/
theorem chunk_in (c : Dev nD) : ∃ j : Fin 8, lo32 c = lo4 c + 16 * j.val := by revert c; decide +kernel
/-- A group peer's chunk is one of the eight of the device's quarter. -/
theorem chunk_in' (c : Dev nD) (k : Fin 7) : ∃ j : Fin 8, lo32 (pr (gp k) c) = lo4 c + 16 * j.val := by revert c k; decide +kernel
/-- A group peer finishes other rows than the device. -/
theorem chunk_ne (c : Dev nD) (k : Fin 7) : lo32 (pr (gp k) c) ≠ lo32 c := by revert c k; decide +kernel
/-- Two group peers finish different rows. -/
theorem chunk_ne' (c : Dev nD) (k k' : Fin 7) (h : k ≠ k') : lo32 (pr (gp k) c) ≠ lo32 (pr (gp k') c) := by
  revert c k k'; decide +kernel

/-- The seven other chunks of a quarter. -/
def others (c : Dev nD) : Finset S512x512.Idx := Finset.univ.filter fun x => ∃ k : Fin 7, x ∈ chunk (pr (gp k) c)
/-- The other chunks are those of the group peers. -/
theorem mem_others (c : Dev nD) (x : S512x512.Idx) : x ∈ others c ↔ ∃ k : Fin 7, x ∈ chunk (pr (gp k) c) := by
  unfold others; rw [Finset.mem_filter]; exact ⟨fun h => h.2, fun h => ⟨Finset.mem_univ _, h⟩⟩

/-- A quarter is the device's chunk and the others. -/
theorem mem_chunks (c : Dev nD) (x : S512x512.Idx) : x ∈ quart c ↔ x ∈ chunk c ∨ x ∈ others c := by
  simp only [mem_others, mem_rows]
  constructor
  · intro h
    rcases chunk_find c ⟨((x 0).val - lo4 c) / 16, by omega⟩ with e | ⟨k, e⟩
    · left; dsimp only at e; omega
    · right; exact ⟨k, by dsimp only at e; omega⟩
  · rintro (h | ⟨k, h⟩)
    · obtain ⟨j, e⟩ := chunk_in c; omega
    · obtain ⟨j, e⟩ := chunk_in' c k; omega
/-- A device's chunk is none of the others. -/
theorem no_chunks (c : Dev nD) (x : S512x512.Idx) : x ∈ chunk c → x ∈ others c → False := by
  simp only [mem_others, mem_rows]
  rintro h1 ⟨k, h2⟩
  obtain ⟨j, e⟩ := chunk_in c
  obtain ⟨j', e'⟩ := chunk_in' c k
  have := chunk_ne c k
  omega
/-- The others are disjoint. -/
theorem no_others (c : Dev nD) (k k' : Fin 7) (x : S512x512.Idx) (h1 : x ∈ chunk (pr (gp k) c)) (h2 : x ∈ chunk (pr (gp k') c)) : k = k' := by
  by_contra hk
  rw [mem_rows] at h1 h2
  obtain ⟨j, e⟩ := chunk_in' c k
  obtain ⟨j', e'⟩ := chunk_in' c k'
  have := chunk_ne' c k k' hk
  omega

/-- The landing buffer is its first 256 rows and the rest. -/
theorem mem_R1 (x : S496x512.Idx) : x ∈ rowsR 0 256 ∨ x ∈ rowsR 256 240 := by
  have hx : (x 0).val < 496 := (x 0).isLt
  simp only [mem_rowsR]
  omega
/-- The two are disjoint. -/
theorem no_R1 (x : S496x512.Idx) : x ∈ rowsR 0 256 → x ∈ rowsR 256 240 → False := by
  simp only [mem_rowsR]; omega
/-- The rest is the next 128 rows and the last 112. -/
theorem mem_R2 (x : S496x512.Idx) : x ∈ rowsR 256 240 ↔ x ∈ rowsR 256 128 ∨ x ∈ rowsR 384 112 := by
  simp only [mem_rowsR]; omega
/-- These two are disjoint. -/
theorem no_R2 (x : S496x512.Idx) : x ∈ rowsR 256 128 → x ∈ rowsR 384 112 → False := by
  simp only [mem_rowsR]; omega

/-- The head buffer is the blocks of its heads. -/
theorem mem_blks (x : S512x256.Idx) : ∃ p : Fin 2 × Fin 4, x ∈ blk p.1.val p.2.val := by
  have h0 : (x 0).val < 512 := (x 0).isLt
  have h1 : (x 1).val < 256 := (x 1).isLt
  exact ⟨(⟨(x 0).val / 256, by omega⟩, ⟨(x 1).val / 64, by omega⟩), mem_blk.mpr ⟨rfl, rfl⟩⟩
/-- The blocks are disjoint. -/
theorem no_blks (p p' : Fin 2 × Fin 4) (x : S512x256.Idx) (h1 : x ∈ blk p.1.val p.2.val) (h2 : x ∈ blk p'.1.val p'.2.val) : p = p' := by
  rw [mem_blk] at h1 h2
  exact Prod.ext (Fin.ext (h1.1.symm.trans h2.1)) (Fin.ext (h1.2.symm.trans h2.2))

/-! ## Points-tos over the partitions -/

variable {F : FTy → Type} [FloatOps F]

local notation "𝕄" => MT nD τ sig Unit (Elt F) ℕ UU ℕ

section Pts
variable {ℓ : Loc nD τ sig} {q : PosShare TreeShare}

/-- A block that is two disjoint blocks, at one contents. -/
theorem pts_two {U A B : Finset (Idx ℓ)} (hU : ∀ x, x ∈ U ↔ x ∈ A ∨ x ∈ B) (hd : ∀ x, x ∈ A → x ∈ B → False) (f : Buf (Elt F) ℓ) :
    (ℓ ↦[U]{q} f : sProp 𝕄) = iprop((ℓ ↦[A]{q} f) ∗ ℓ ↦[B]{q} f) := by
  classical
  have e : U = A ∪ B := by ext x; rw [Finset.mem_union]; exact hU x
  have h : Disjoint A B := Finset.disjoint_left.mpr fun {x} h1 h2 => hd x h1 h2
  rw [e]
  refine BI.Entails.antisymm ((BI.Region.is_union ?_).1) ((BI.Region.is_union ?_).2)
  · convert h
  · convert h

/-- A block that is a family of disjoint blocks, at one contents. -/
theorem pts_fam {T : Type} [Fintype T] [DecidableEq T] {U : Finset (Idx ℓ)} (A : T → Finset (Idx ℓ)) (hU : ∀ x, x ∈ U ↔ ∃ t, x ∈ A t)
    (hd : ∀ t t' x, x ∈ A t → x ∈ A t' → t = t') (f : Buf (Elt F) ℓ) :
    (ℓ ↦[U]{q} f : sProp 𝕄) = bigSep Finset.univ fun t => ℓ ↦[A t]{q} f := by
  have e : U = Finset.univ.biUnion A := by
    ext x; rw [hU, Finset.mem_biUnion]; exact ⟨fun ⟨t, h⟩ => ⟨t, Finset.mem_univ _, h⟩, fun ⟨t, _, h⟩ => ⟨t, h⟩⟩
  rw [e]
  exact pointsTo_biUnion Finset.univ A fun t _ t' _ hn => Finset.disjoint_left.mpr fun {x} h1 h2 => hn (hd t t' x h1 h2)

/-- Two disjoint blocks at some contents are their union at some contents. -/
theorem any_two {U A B : Finset (Idx ℓ)} (hU : ∀ x, x ∈ U ↔ x ∈ A ∨ x ∈ B) (hd : ∀ x, x ∈ A → x ∈ B → False) :
    iprop((∃ f : Buf (Elt F) ℓ, ℓ ↦[A]{q} f) ∗ ∃ f : Buf (Elt F) ℓ, ℓ ↦[B]{q} f) ⊢ (iprop(∃ f : Buf (Elt F) ℓ, ℓ ↦[U]{q} f) : sProp 𝕄) := by
  have e : U = A ∪ B := by ext x; rw [Finset.mem_union]; exact hU x
  have h : Disjoint A B := Finset.disjoint_left.mpr fun {x} h1 h2 => hd x h1 h2
  rw [e]
  iintro ⟨⟨%f, H1⟩, ⟨%g, H2⟩⟩
  iexists _
  iapply (pointsTo_join (f := f) (g := g) h)
  isplitl [H1] <;> iassumption

/-- A share is its two halves. -/
theorem ptsShare (q : PosShare TreeShare) (A : Finset (Idx ℓ)) (f : Buf (Elt F) ℓ) :
    (ℓ ↦[A]{q} f : sProp 𝕄) = iprop((ℓ ↦[A]{q.left} f) ∗ ℓ ↦[A]{q.right} f) :=
  BI.Entails.antisymm (pointsTo_share (PosShare.mem_left_op_right q)).1 (pointsTo_share (PosShare.mem_left_op_right q)).2

/-- The full share is its four quarters. -/
theorem share_four (A : Finset (Idx ℓ)) (f : Buf (Elt F) ℓ) :
    (ℓ ↦[A]{fullShare} f : sProp 𝕄) = iprop((ℓ ↦[A]{qA} f) ∗ (ℓ ↦[A]{qB} f) ∗ (ℓ ↦[A]{qC} f) ∗ ℓ ↦[A]{qD} f) := by
  have e := ptsShare (F := F) (ℓ := ℓ) fullShare A f
  have e1 := ptsShare (F := F) (ℓ := ℓ) fullShare.left A f
  have e2 := ptsShare (F := F) (ℓ := ℓ) fullShare.right A f
  unfold qA qB qC qD
  rw [e, e1, e2]
  generalize (ℓ ↦[A]{fullShare.left.left} f : sProp 𝕄) = P1
  generalize (ℓ ↦[A]{fullShare.left.right} f : sProp 𝕄) = P2
  generalize (ℓ ↦[A]{fullShare.right.left} f : sProp 𝕄) = P3
  generalize (ℓ ↦[A]{fullShare.right.right} f : sProp 𝕄) = P4
  have h1 : iprop((P1 ∗ P2) ∗ P3 ∗ P4) ⊢ (iprop(P1 ∗ P2 ∗ P3 ∗ P4) : sProp 𝕄) := by
    iintro ⟨⟨H1, H2⟩, H3, H4⟩
    isplitl [H1]; · iassumption
    isplitl [H2]; · iassumption
    isplitl [H3] <;> iassumption
  have h2 : iprop(P1 ∗ P2 ∗ P3 ∗ P4) ⊢ (iprop((P1 ∗ P2) ∗ P3 ∗ P4) : sProp 𝕄) := by
    iintro ⟨H1, H2, H3, H4⟩
    isplitl [H1 H2]
    · isplitl [H1] <;> iassumption
    isplitl [H3] <;> iassumption
  exact BI.Entails.antisymm h1 h2
/-- The last quarter is its eight leaves. -/
theorem leaves8 (A : Finset (Idx ℓ)) (f : Buf (Elt F) ℓ) : (ℓ ↦[A]{qD} f : sProp 𝕄) = bigSep Finset.univ fun k : Fin 8 => ℓ ↦[A]{qL k} f :=
  ShareLeaves.pointsTo_leaves A f 3 qD
end Pts

/-- A family over seven, written out. -/
theorem bigSep_7 (Φ : Fin 7 → sProp 𝕄) : (bigSep Finset.univ Φ : sProp 𝕄) = iprop(Φ 0 ∗ Φ 1 ∗ Φ 2 ∗ Φ 3 ∗ Φ 4 ∗ Φ 5 ∗ Φ 6) := by
  rw [bigSep_univ_eq_bigSepL [0, 1, 2, 3, 4, 5, 6] (by decide) (by decide) Φ]; rfl
/-- A family over eight, written out. -/
theorem bigSep_8 (Φ : Fin 8 → sProp 𝕄) : (bigSep Finset.univ Φ : sProp 𝕄) = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide) Φ]; rfl
/-- A family over the nine peers, written out. -/
theorem bigSep_9 (Φ : Fin 9 → sProp 𝕄) : (bigSep Finset.univ Φ : sProp 𝕄)
    = iprop(Φ 0 ∗ Φ 1 ∗ Φ (gp 0) ∗ Φ (gp 1) ∗ Φ (gp 2) ∗ Φ (gp 3) ∗ Φ (gp 4) ∗ Φ (gp 5) ∗ Φ (gp 6)) := by
  rw [bigSep_univ_eq_bigSepL [0, 1, 2, 3, 4, 5, 6, 7, 8] (by decide) (by decide) Φ]; rfl
/-- A family over the batches' heads, written out. -/
theorem bigSep_24 (Φ : Fin 2 × Fin 4 → sProp 𝕄) : (bigSep Finset.univ Φ : sProp 𝕄)
    = iprop(Φ (0, 0) ∗ Φ (0, 1) ∗ Φ (0, 2) ∗ Φ (0, 3) ∗ Φ (1, 0) ∗ Φ (1, 1) ∗ Φ (1, 2) ∗ Φ (1, 3)) := by
  rw [bigSep_univ_eq_bigSepL [(0, 0), (0, 1), (0, 2), (0, 3), (1, 0), (1, 1), (1, 2), (1, 3)] (by decide) (by decide) Φ]; rfl
/-- A family over the eighteen copies, written out. -/
theorem bigSep_Ch (Φ : Ch → sProp 𝕄) : (bigSep Finset.univ Φ : sProp 𝕄)
    = iprop(Φ .h2 ∗ Φ .q2 ∗ Φ (.s8 0) ∗ Φ (.s8 1) ∗ Φ (.s8 2) ∗ Φ (.s8 3) ∗ Φ (.s8 4) ∗ Φ (.s8 5) ∗ Φ (.s8 6)
      ∗ Φ (.g8 0) ∗ Φ (.g8 1) ∗ Φ (.g8 2) ∗ Φ (.g8 3) ∗ Φ (.g8 4) ∗ Φ (.g8 5) ∗ Φ (.g8 6) ∗ Φ .gq ∗ Φ .gh) := by
  rw [bigSep_univ_eq_bigSepL allCh (by decide) (by decide) Φ]; rfl

variable (c : Dev nD)

/-- The accumulator is its two halves. -/
theorem acc_halves (f : S512x512.Idx → F .bf16) : ((((c : Thread nD τ).loc cc0_scratch1) ↦{fullShare} f) : sProp 𝕄) = iprop(accP c (half c) f ∗ accP c (half (pr 0 c)) f) :=
  pts_two (ℓ := (c : Thread nD τ).loc cc0_scratch1) (fun x => ⟨fun _ => mem_halves c x, fun _ => Finset.mem_univ _⟩) (no_halves c) f
/-- A half of the accumulator is its two quarters. -/
theorem acc_quarts (f) : (accP c (half c) f : sProp 𝕄) = iprop(accP c (quart c) f ∗ accP c (quart (pr 1 c)) f) :=
  pts_two (ℓ := (c : Thread nD τ).loc cc0_scratch1) (mem_quarts c) (no_quarts c) f
/-- A quarter of the accumulator is the device's chunk and the group peers'. -/
theorem acc_chunks (f) : (accP c (quart c) f : sProp 𝕄) = iprop(accP c (chunk c) f ∗ bigSep Finset.univ fun k : Fin 7 => accP c (chunk (pr (gp k) c)) f) := by
  rw [show (accP c (quart c) f : sProp 𝕄) = iprop(accP c (chunk c) f ∗ accP c (others c) f) from pts_two (ℓ := (c : Thread nD τ).loc cc0_scratch1) (mem_chunks c) (no_chunks c) f]
  rw [show (accP c (others c) f : sProp 𝕄) = bigSep Finset.univ fun k : Fin 7 => accP c (chunk (pr (gp k) c)) f from
    pts_fam (ℓ := (c : Thread nD τ).loc cc0_scratch1) _ (mem_others c) (no_others c) f]

section
variable (q : PosShare TreeShare)
/-- The gather buffer is its two halves. -/
theorem g_halves (f : S512x512.Idx → F .bf16) : ((((c : Thread nD τ).loc cc0_scratch4) ↦{q} f) : sProp 𝕄) = iprop(gP c (half c) q f ∗ gP c (half (pr 0 c)) q f) :=
  pts_two (ℓ := (c : Thread nD τ).loc cc0_scratch4) (fun x => ⟨fun _ => mem_halves c x, fun _ => Finset.mem_univ _⟩) (no_halves c) f
/-- A half of the gather buffer is its two quarters. -/
theorem g_quarts (f) : (gP c (half c) q f : sProp 𝕄) = iprop(gP c (quart c) q f ∗ gP c (quart (pr 1 c)) q f) :=
  pts_two (ℓ := (c : Thread nD τ).loc cc0_scratch4) (mem_quarts c) (no_quarts c) f
/-- A quarter of the gather buffer is the device's chunk and the group peers'. -/
theorem g_chunks (f) : (gP c (quart c) q f : sProp 𝕄) = iprop(gP c (chunk c) q f ∗ bigSep Finset.univ fun k : Fin 7 => gP c (chunk (pr (gp k) c)) q f) := by
  rw [show (gP c (quart c) q f : sProp 𝕄) = iprop(gP c (chunk c) q f ∗ gP c (others c) q f) from pts_two (ℓ := (c : Thread nD τ).loc cc0_scratch4) (mem_chunks c) (no_chunks c) f]
  rw [show (gP c (others c) q f : sProp 𝕄) = bigSep Finset.univ fun k : Fin 7 => gP c (chunk (pr (gp k) c)) q f from
    pts_fam (ℓ := (c : Thread nD τ).loc cc0_scratch4) _ (mem_others c) (no_others c) f]

end

/-- The landing buffer is its two landing areas and the unused rows. -/
theorem rs_parts (f : S496x512.Idx → F .bf16) : ((((c : Thread nD τ).loc cc0_scratch2) ↦{fullShare} f) : sProp 𝕄)
    = iprop(rsP c (rowsR 0 256) f ∗ rsP c (rowsR 256 128) f ∗ rsP c (rowsR 384 112) f) := by
  rw [show ((((c : Thread nD τ).loc cc0_scratch2) ↦{fullShare} f) : sProp 𝕄) = iprop(rsP c (rowsR 0 256) f ∗ rsP c (rowsR 256 240) f) from
    pts_two (ℓ := (c : Thread nD τ).loc cc0_scratch2) (fun x => ⟨fun _ => mem_R1 x, fun _ => Finset.mem_univ _⟩) no_R1 f]
  rw [show (rsP c (rowsR 256 240) f : sProp 𝕄) = iprop(rsP c (rowsR 256 128) f ∗ rsP c (rowsR 384 112) f) from pts_two (ℓ := (c : Thread nD τ).loc cc0_scratch2) mem_R2 no_R2 f]
/-- The eight-way landing buffer is its seven slots. -/
theorem r8_slots (f : S7x16x512.Idx → F .bf16) : ((((c : Thread nD τ).loc cc0_scratch3) ↦{fullShare} f) : sProp 𝕄)
    = bigSep Finset.univ fun k : Fin 7 => r8P c (slot k) f :=
  pts_fam (ℓ := (c : Thread nD τ).loc cc0_scratch3) slot (fun x => ⟨fun _ => ⟨x 0, mem_slot.mpr rfl⟩, fun _ => Finset.mem_univ _⟩)
    (fun k k' x h1 h2 => Fin.ext ((mem_slot.mp h1).symm.trans (mem_slot.mp h2))) f
/-- The head buffer is its heads' blocks. -/
theorem ctx_blks (f : S512x256.Idx → F .bf16) : ((((c : Thread nD τ).loc cc0_scratch0) ↦{fullShare} f) : sProp 𝕄)
    = bigSep Finset.univ fun p : Fin 2 × Fin 4 => ctxP c (blk p.1.val p.2.val) f :=
  pts_fam (ℓ := (c : Thread nD τ).loc cc0_scratch0) (fun p : Fin 2 × Fin 4 => blk p.1.val p.2.val) (fun x => ⟨fun _ => mem_blks x, fun _ => Finset.mem_univ _⟩)
    (fun p p' x h1 h2 => no_blks p p' x h1 h2) f

/-- Rows of the gather buffer at the last quarter share are those rows at its eight leaves. -/
theorem g_leaves (A : Finset S512x512.Idx) (f) : (gP c A qD f : sProp 𝕄) = bigSep Finset.univ fun k : Fin 8 => gP c A (qL k) f :=
  leaves8 (ℓ := (c : Thread nD τ).loc cc0_scratch4) A f

/-- The buffers joined again at some contents. -/
theorem rs_any : iprop((∃ f, rsP c (rowsR 0 256) f) ∗ (∃ f, rsP c (rowsR 256 128) f) ∗ ∃ f, rsP c (rowsR 384 112) f)
    ⊢ (iprop(∃ f : S496x512.Idx → F .bf16, ((c : Thread nD τ).loc cc0_scratch2) ↦{fullShare} f) : sProp 𝕄) := by
  have h1 : iprop((∃ f, rsP c (rowsR 256 128) f) ∗ ∃ f, rsP c (rowsR 384 112) f) ⊢ (iprop(∃ f, rsP c (rowsR 256 240) f) : sProp 𝕄) :=
    any_two (ℓ := (c : Thread nD τ).loc cc0_scratch2) (U := rowsR 256 240) (A := rowsR 256 128) (B := rowsR 384 112) mem_R2 no_R2
  have h2 : iprop((∃ f, rsP c (rowsR 0 256) f) ∗ ∃ f, rsP c (rowsR 256 240) f)
      ⊢ (iprop(∃ f : S496x512.Idx → F .bf16, ((c : Thread nD τ).loc cc0_scratch2) ↦{fullShare} f) : sProp 𝕄) :=
    any_two (ℓ := (c : Thread nD τ).loc cc0_scratch2) (A := rowsR 0 256) (B := rowsR 256 240) (fun x => ⟨fun _ => mem_R1 x, fun _ => Finset.mem_univ _⟩) no_R1
  exact BIBase.Entails.trans (sep_mono_right h1) h2
/-- Two quarters at some contents are a half at some contents. -/
theorem acc_any_half : iprop((∃ f, accP c (quart c) f) ∗ ∃ f, accP c (quart (pr 1 c)) f) ⊢ (iprop(∃ f, accP c (half c) f) : sProp 𝕄) :=
  any_two (ℓ := (c : Thread nD τ).loc cc0_scratch1) (mem_quarts c) (no_quarts c)
/-- Two halves at some contents are the accumulator at some contents. -/
theorem acc_any : iprop((∃ f, accP c (half c) f) ∗ ∃ f, accP c (half (pr 0 c)) f)
    ⊢ (iprop(∃ f : S512x512.Idx → F .bf16, ((c : Thread nD τ).loc cc0_scratch1) ↦{fullShare} f) : sProp 𝕄) :=
  any_two (ℓ := (c : Thread nD τ).loc cc0_scratch1) (fun x => ⟨fun _ => mem_halves c x, fun _ => Finset.mem_univ _⟩) (no_halves c)

end Cert.Attn
-- ==== Proof.Steps.lean ====
/-
The steps of the body, one rule per kind of effect, each from what the device holds before to what it holds after. The
rules are over any memory references: a call names the rows the reference covers and the copy it belongs to.
-/
module

public import proofs.«01_k».proof.Proof.Rows

@[expose] public section

noncomputable section

namespace Cert.Attn

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a device owes, whatever it has waited for. -/
abbrev ow (c : Dev nD) (O : CellTallies nD τ sig Unit) : sProp 𝕄 := iprop(∃ W : Waits sig Unit, owes (c : Thread nD τ) O W)

/-- The tokens a device sends a copy with, and its position on the copy's send cell. -/
def toSend (ch : Ch) (c : Dev nD) : sProp 𝕄 :=
  iprop(dutyTok ER (sCell ch c) 0 0 ∗ reached ER (sCell ch c) 0 ∗ dutyTok ER (rCell ch (pr ch.peer c)) 0 0 ∗ atPos ER (sCell ch c) 0 ∅ 0)
/-- A copy on its way: the credit to wait for its source with. -/
def sent (ch : Ch) (c : Dev nD) : sProp 𝕄 := iprop(cred (tallyAt (sCell ch c) () ch.amt) ∗ atPos ER (sCell ch c) 0 ∅ 0)
/-- A copy a device is to receive. -/
def toRecv (ch : Ch) (c : Dev nD) : sProp 𝕄 := iprop(cred (tallyAt (rCell ch c) () ch.amt) ∗ atPos ER (rCell ch c) 0 ∅ 0)
/-- The token a device signals its `d`-th peer with. -/
def toSignal (d : Fin 9) (c : Dev nD) : sProp 𝕄 := iprop(dutyTok ER (barCell (pr d c)) 0 d ∗ reached ER (barCell (pr d c)) 0)

variable (I : Dev nD → In F) (K : GSem nD τ sig → ℕ) (c : Dev nD)

section

/-- One barrier signal. -/
theorem signal_step {α : Type} {Q : α → sProp 𝕄} {k : PUnit → Prog (TpuEff nD τ sig (Elt F) Λ₀ .tc) α} (d : Fin 9) {n : Dev nD} (hn : n = pr d c) (l : List Ch) (ds : List (Fin 9)) {N : ℕ} (hN : N = 1) {s : Sem sig} (hs : s = barS) :
    iprop(invs I K ∗ ow c (owedB c l (d :: ds)) ∗ toSignal d c ∗ give d c)
      ⊢ iprop((ow c (owedB c l ds) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) s N) k) Q) := by
  subst hn hN hs
  unfold toSignal
  iintro ⟨#HI, ⟨%W, HO⟩, ⟨Ht, Hr⟩, Hg⟩ Hk
  iapply (Rounds.wp_signal 𝒱₀ ER (rd I) (c : Thread nD τ) none (dst := (pr d c : Thread nD τ)) (κ := K (barCell (pr d c))) (r := 0) (d := d)
      (by rw [duties_bar]; exact Finset.mem_univ _) (amount_bar I (pr d c) d) () (owedB c l ds) rfl) $$ [HO Ht Hr Hg]
  · isplitr; · iapply (inv_bar I K (pr d c)); iexact HI
    isplitl [HO]; · iexact HO
    isplitl [Ht]; · iexact Ht
    isplitl [Hg]; · rw [payload_bar, pr_pr]; iexact Hg
    iexact Hr
  iintro HO
  iapply Hk
  iexists W; iexact HO

/-- The barrier wait: what the nine peers handed over, and the barrier cell back at zero. -/
theorem barrier_step {α : Type} {Q : α → sProp 𝕄} {k : PUnit → Prog (TpuEff nD τ sig (Elt F) Λ₀ .tc) α} {N : ℕ} (hN : N = 9) {s : Sem sig} (hs : s = barS) :
    iprop(invs I K ∗ levAts L lv ∗ ow c (owedC c allCh) ∗ cred (tallyAt (barCell c) () 9) ∗ atPos ER (barCell c) 0 ∅ 0)
      ⊢ iprop(((ow c (owedC c allCh) ∗ (bigSep Finset.univ fun d : Fin 9 => give d (pr d c)) ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s N) k) Q) := by
  subst hN hs
  iintro ⟨#HI, #Hl, ⟨%W, HO⟩, Hc, Ha⟩ Hk
  iapply (Rounds.wp_wait_rest_token 𝒱₀ ER (rd I) (c : Thread nD τ) none (κ := K (barCell c))
      (wpE_semWait_eq 𝒱₀ (c : Thread nD τ) none Set.univ) (Set.mem_univ _) () (O := owedC c allCh) (W := W) (R := 0) (m := 0) (T := ∅)
      (by rw [expect_bar])) $$ [Hc HO Ha]
  · isplitr; · iapply (inv_bar I K c); iexact HI
    isplitl [Hc]; · iexact Hc
    isplitl [HO]; · iexact HO
    isplitr; · iapply (mayWait c (.reg barS) allCh (fun ch _ => lev_pos ch)); iexact Hl
    iexact Ha
  iintro ⟨HO, Ha, -, Hp⟩
  imod (closeCell I (K (barCell c)) (barCell c)) $$ [Ha] with Hz
  · isplitr; · iapply (inv_bar I K c); iexact HI
    iexact Ha
  iapply Hk
  isplitl [HO]; · iexists _; iexact HO
  isplitl [Hp]; · rw [← rest_bar I c]; iexact Hp
  iexact Hz

/-- One copy sent: the rows sent and the peer's rows go, the credit to wait for the source with comes. -/
theorem send_step {α : Type} {Q : α → sProp 𝕄} {k : PUnit → Prog (TpuEff nD τ sig (Elt F) Λ₀ .tc) α} (ch : Ch) (l : List Ch) {n : Dev nD} (hn : n = pr ch.peer c) {s : Shape} {e : EltTy} {sp sp' : Space}
    {src : Memref sig .tc sp s e} {dst : Memref sig .tc sp' s e} {sS sem : DmaSem sig} (hs : sS = ch.sIx) (hr : sem = ch.rIx)
    {hsc : (dst : Memref sig (n : Thread nD τ).2.kind sp' s e).view.ref.isScScratch = false}
    {hsrc : src.view.WordExact} {hdst : (dst : Memref sig (n : Thread nD τ).2.kind sp' s e).view.WordExact}
    {hsem : DmaTarget.Typed sp (.dma sem) (.remote (n : Thread nD τ) dst (.dma sS) hsc)}
    {q : PosShare TreeShare} (fs : Buf (Elt F) (src.view.loc (c : Thread nD τ))) (fd : Buf (Elt F) (dst.view.loc (pr ch.peer c : Thread nD τ)))
    (hamt : dst.view.amount (.dma ch.rIx) = ch.amt)
    (h1 : (src.view.loc (c : Thread nD τ) ↦[src.view.set]{q} fs) ⊢ sendPay I ch c)
    (h2 : (dst.view.loc (pr ch.peer c : Thread nD τ) ↦[dst.view.set]{fullShare} (dst.view.write (Elt F) fd (src.view.read (Elt F) fs) Finset.univ)) ⊢ recvPay I ch (pr ch.peer c)) :
    iprop(invs I K ∗ ow c (owedC c (ch :: l)) ∗ toSend ch c ∗ reached ER (rCell ch (pr ch.peer c)) 0
        ∗ (src.view.loc (c : Thread nD τ) ↦[src.view.set]{q} fs) ∗ (dst.view.loc (pr ch.peer c : Thread nD τ) ↦[dst.view.set]{fullShare} fd))
      ⊢ iprop(((ow c (owedC c l) ∗ sent ch c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (n : Thread nD τ) dst (.dma sS) hsc) (.dma sem) hsrc hdst hsem) k) Q) := by
  subst hn hs hr
  unfold toSend sent
  iintro ⟨#HI, ⟨%W, HO⟩, ⟨Hts, Hrs, Htr, Has⟩, Hrr, Hsrc, Hdst⟩ Hk
  iapply (Rounds.wp_send_pointsTo 𝒱₀ ER (rd I) (c : Thread nD τ) none (c' := (pr ch.peer c : Thread nD τ)) (κ₁ := K (sCell ch c)) (κ₂ := K (rCell ch (pr ch.peer c)))
      (r₁ := 0) (r₂ := 0) (d₁ := 0) (d₂ := 0) (fs := fs) (fd := fd) (q := q)
      (by rw [duties_s]; exact Finset.mem_singleton_self _) (by rw [duties_r]; exact Finset.mem_singleton_self _)
      () () ch.amt hamt (amount_s I c ch) (amount_r I (pr ch.peer c) ch) (owedC c l) rfl (W := W)
      (by rw [payload_s]; exact h1) (by rw [payload_r]; exact h2)) $$ [HO Hts Hrs Htr Hrr Hsrc Hdst]
  · isplitr; · iapply (inv_s I K ch c); iexact HI
    isplitr; · iapply (inv_r I K ch (pr ch.peer c)); iexact HI
    isplitl [Hsrc]; · iexact Hsrc
    isplitl [Hdst]; · iexact Hdst
    isplitl [HO]; · iexact HO
    isplitl [Hts]; · iexact Hts
    isplitl [Hrs]; · iexact Hrs
    isplitl [Htr]; · iexact Htr
    iexact Hrr
  iintro ⟨Hc, HO⟩
  iapply Hk
  isplitl [HO]; · iexists W; iexact HO
  isplitl [Hc]; · iexact Hc
  iexact Has

/-- The wait for a copy's landing: the rows at their contents, and the landing cell back at zero. -/
theorem recv_step {α : Type} {Q : α → sProp 𝕄} {k : PUnit → Prog (TpuEff nD τ sig (Elt F) Λ₀ .tc) α} (ch : Ch) (l : List Ch) (hl : ∀ ch' ∈ l, ch.lev < ch'.lev) {s : Shape} {e : EltTy} {sp sp' : Space}
    {src : Memref sig .tc sp s e} {dst : Memref sig .tc sp' s e} {sem : DmaSem sig} (hr : sem = ch.rIx)
    {hsrc : src.view.WordExact} {hdst : dst.view.WordExact} (hamt : dst.view.amount (.dma ch.rIx) = ch.amt) :
    iprop(invs I K ∗ levAts L lv ∗ ow c (owedC c l) ∗ toRecv ch c)
      ⊢ iprop(((ow c (owedC c l) ∗ recvPay I ch c ∗ semVal (rCell ch c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hr
  unfold toRecv
  iintro ⟨#HI, #Hl, ⟨%W, HO⟩, Hc, Ha⟩ Hk
  iapply (Rounds.wp_wait_rest_token 𝒱₀ ER (rd I) (c : Thread nD τ) none (κ := K (rCell ch c))
      (wpE_waitDma2_eq 𝒱₀ (c : Thread nD τ) none Set.univ) (Set.mem_univ _) () (O := owedC c l) (W := W) (R := 0) (m := 0) (T := ∅)
      (by rw [expect_r, Nat.zero_add]; exact hamt)) $$ [Hc HO Ha]
  · isplitr; · iapply (inv_r I K ch c); iexact HI
    isplitl [Hc]; · rw [show dst.view.dmaCredit = ch.amt from hamt]; iexact Hc
    isplitl [HO]; · iexact HO
    isplitr; · iapply (mayWait c _ l (fun ch' hm => by rw [lv_r]; exact hl ch' hm)); iexact Hl
    iexact Ha
  iintro ⟨HO, Ha, -, Hp⟩
  imod (closeCell I (K (rCell ch c)) (rCell ch c)) $$ [Ha] with Hz
  · isplitr; · iapply (inv_r I K ch c); iexact HI
    iexact Ha
  iapply Hk
  isplitl [HO]; · iexists _; iexact HO
  isplitl [Hp]; · rw [← rest_r I c ch]; iexact Hp
  iexact Hz

/-- The wait for a copy's source: the rows sent are back, and the send cell is back at zero. -/
theorem sent_step {α : Type} {Q : α → sProp 𝕄} {k : PUnit → Prog (TpuEff nD τ sig (Elt F) Λ₀ .tc) α} (ch : Ch) {s : Shape} {e : EltTy} {sp sp' : Space}
    {src : Memref sig .tc sp s e} {dst : Memref sig .tc sp' s e} {sem : DmaSem sig} (hs : sem = ch.sIx)
    {hsrc : src.view.WordExact} {hdst : dst.view.WordExact} (hamt : dst.view.amount (.dma ch.sIx) = ch.amt) :
    iprop(invs I K ∗ ow c 0 ∗ sent ch c)
      ⊢ iprop(((ow c 0 ∗ sendPay I ch c ∗ semVal (sCell ch c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hs
  unfold sent
  iintro ⟨#HI, ⟨%W, HO⟩, Hc, Ha⟩ Hk
  iapply (Rounds.wp_wait_rest_token 𝒱₀ ER (rd I) (c : Thread nD τ) none (κ := K (sCell ch c))
      (wpE_waitDma2_eq 𝒱₀ (c : Thread nD τ) none Set.univ) (Set.mem_univ _) () (O := 0) (W := W) (R := 0) (m := 0) (T := ∅)
      (by rw [expect_s, Nat.zero_add]; exact hamt)) $$ [Hc HO Ha]
  · isplitr; · iapply (inv_s I K ch c); iexact HI
    isplitl [Hc]; · rw [show dst.view.dmaCredit = ch.amt from hamt]; iexact Hc
    isplitl [HO]; · iexact HO
    isplitr; · rw [MayWait_zero]; iempintro
    iexact Ha
  iintro ⟨HO, Ha, -, Hp⟩
  imod (closeCell I (K (sCell ch c)) (sCell ch c)) $$ [Ha] with Hz
  · isplitr; · iapply (inv_s I K ch c); iexact HI
    iexact Ha
  iapply Hk
  isplitl [HO]; · iexists _; iexact HO
  isplitl [Hp]; · rw [← rest_s I c ch]; iexact Hp
  iexact Hz

/-- A store that makes the covered elements those of `G`. -/
theorem store_step {α : Type} {Q : α → sProp 𝕄} {k : PUnit → Prog (TpuEff nD τ sig (Elt F) Λ₀ .tc) α} {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    (G : (m.access r).ty.Contents (Elt F)) (hG : (m.access r).read (Elt F) G = w) (f : Buf (Elt F) ((m.access r).loc (c : Thread nD τ))) :
    ((m.access r).loc (c : Thread nD τ) ↦[(m.access r).set]{fullShare} f)
      ⊢ iprop((((m.access r).loc (c : Thread nD τ) ↦[(m.access r).set]{fullShare} G) -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  have e : ((m.access r).loc (c : Thread nD τ) ↦[(m.access r).set]{fullShare} (m.access r).write (Elt F) f w Finset.univ : sProp 𝕄)
      = ((m.access r).loc (c : Thread nD τ) ↦[(m.access r).set]{fullShare} G) := pointsTo_congr (write_eq_on (m.access r) f G w hG)
  rw [← e]
  exact wp_store 𝒱₀ (c : Thread nD τ) none Set.univ (m := m) (r := r) (Mk := Finset.univ) (S := (m.access r).set) (le_of_eq (View.setOn_univ _))
end

end Cert.Attn
-- ==== Proof.Calls.lean ====
/-
The steps specialised to the kernel's buffers: loads and stores of each buffer's rows, and the eighteen copies, at the
memory references the program names.
-/
module

public import proofs.«01_k».proof.Proof.Steps

@[expose] public section

noncomputable section

namespace Cert.Attn

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : GSem nD τ sig → ℕ) (c : Dev nD)

abbrev xM : Memref sig .tc .vmem S2x256x512 .f32 := Memref.whole cc0_stg0_0
abbrev wqM : Memref sig .tc .vmem S512x256 .f32 := Memref.whole cc0_stg1_0
abbrev kM : Memref sig .tc .vmem S2x256x64x4 .bf16 := Memref.whole cc0_stg2_0
abbrev vM : Memref sig .tc .vmem S2x256x64x4 .bf16 := Memref.whole cc0_stg3_0
abbrev woM : Memref sig .tc .vmem S256x512 .f32 := Memref.whole cc0_stg4_0

/-- What is loaded lies among the elements held. -/
theorem setOn_sub {b : Ref sig .tc} {r : Rect b.ty.shape} {S : Finset b.ty.shape.Idx} (h : r.set ⊆ S) :
    (Memref.whole b).view.setOn r.toLoadRect.set ⊆ S := by
  have e : (Memref.whole b).view.setOn r.toLoadRect.set = r.set := (View.set_slice (View.whole b) r).symm.trans (View.set_slice_whole b r)
  rw [e]; exact h

/-- A load from the whole buffer `cc0_stg0_0`. -/
theorem load_x {α : Type} {Q : α → sProp 𝕄} {r : Rect S2x256x512} {f : S2x256x512.Idx → F .f32}
    {hl : (xM).view.LoadsAt (r).toLoadRect} {k : ((r).toLoadRect.shape.Idx → Elt F .f32) → Prog (TpuEff nD τ sig (Elt F) Λ₀ .tc) α} :
    (((c : Thread nD τ).loc cc0_stg0_0) ↦{fullShare} f) ⊢ iprop(((((c : Thread nD τ).loc cc0_stg0_0) ↦{fullShare} f) -∗ wp frame (wpE (defs₀ (F := F)) 𝒱₀ (c : Thread nD τ) none) Set.univ (k ((xM).view.readAt (Elt F) (r).toLoadRect f)) Q)
      -∗ wp frame (wpE (defs₀ (F := F)) 𝒱₀ (c : Thread nD τ) none) Set.univ (.op (.load xM (r).toLoadRect hl) k) Q) :=
  wp_load 𝒱₀ (c : Thread nD τ) none Set.univ (m := xM) ((setOn_sub (Finset.subset_univ _)))

/-- A load from the whole buffer `cc0_stg1_0`. -/
theorem load_wq {α : Type} {Q : α → sProp 𝕄} {r : Rect S512x256} {f : S512x256.Idx → F .f32}
    {hl : (wqM).view.LoadsAt (r).toLoadRect} {k : ((r).toLoadRect.shape.Idx → Elt F .f32) → Prog (TpuEff nD τ sig (Elt F) Λ₀ .tc) α} :
    (((c : Thread nD τ).loc cc0_stg1_0) ↦{fullShare} f) ⊢ iprop(((((c : Thread nD τ).loc cc0_stg1_0) ↦{fullShare} f) -∗ wp frame (wpE (defs₀ (F := F)) 𝒱₀ (c : Thread nD τ) none) Set.univ (k ((wqM).view.readAt (Elt F) (r).toLoadRect f)) Q)
      -∗ wp frame (wpE (defs₀ (F := F)) 𝒱₀ (c : Thread nD τ) none) Set.univ (.op (.load wqM (r).toLoadRect hl) k) Q) :=
  wp_load 𝒱₀ (c : Thread nD τ) none Set.univ (m := wqM) ((setOn_sub (Finset.subset_univ _)))

/-- A load from the whole buffer `cc0_stg2_0`. -/
theorem load_k {α : Type} {Q : α → sProp 𝕄} {r : Rect S2x256x64x4} {f : S2x256x64x4.Idx → F .bf16}
    {hl : (kM).view.LoadsAt (r).toLoadRect} {k : ((r).toLoadRect.shape.Idx → Elt F .bf16) → Prog (TpuEff nD τ sig (Elt F) Λ₀ .tc) α} :
    (((c : Thread nD τ).loc cc0_stg2_0) ↦{fullShare} f) ⊢ iprop(((((c : Thread nD τ).loc cc0_stg2_0) ↦{fullShare} f) -∗ wp frame (wpE (defs₀ (F := F)) 𝒱₀ (c : Thread nD τ) none) Set.univ (k ((kM).view.readAt (Elt F) (r).toLoadRect f)) Q)
      -∗ wp frame (wpE (defs₀ (F := F)) 𝒱₀ (c : Thread nD τ) none) Set.univ (.op (.load kM (r).toLoadRect hl) k) Q) :=
  wp_load 𝒱₀ (c : Thread nD τ) none Set.univ (m := kM) ((setOn_sub (Finset.subset_univ _)))

/-- A load from the whole buffer `cc0_stg3_0`. -/
theorem load_v {α : Type} {Q : α → sProp 𝕄} {r : Rect S2x256x64x4} {f : S2x256x64x4.Idx → F .bf16}
    {hl : (vM).view.LoadsAt (r).toLoadRect} {k : ((r).toLoadRect.shape.Idx → Elt F .bf16) → Prog (TpuEff nD τ sig (Elt F) Λ₀ .tc) α} :
    (((c : Thread nD τ).loc cc0_stg3_0) ↦{fullShare} f) ⊢ iprop(((((c : Thread nD τ).loc cc0_stg3_0) ↦{fullShare} f) -∗ wp frame (wpE (defs₀ (F := F)) 𝒱₀ (c : Thread nD τ) none) Set.univ (k ((vM).view.readAt (Elt F) (r).toLoadRect f)) Q)
      -∗ wp frame (wpE (defs₀ (F := F)) 𝒱₀ (c : Thread nD τ) none) Set.univ (.op (.load vM (r).toLoadRect hl) k) Q) :=
  wp_load 𝒱₀ (c : Thread nD τ) none Set.univ (m := vM) ((setOn_sub (Finset.subset_univ _)))

/-- A load from the whole buffer `cc0_stg4_0`. -/
theorem load_wo {α : Type} {Q : α → sProp 𝕄} {r : Rect S256x512} {f : S256x512.Idx → F .f32}
    {hl : (woM).view.LoadsAt (r).toLoadRect} {k : ((r).toLoadRect.shape.Idx → Elt F .f32) → Prog (TpuEff nD τ sig (Elt F) Λ₀ .tc) α} :
    (((c : Thread nD τ).loc cc0_stg4_0) ↦{fullShare} f) ⊢ iprop(((((c : Thread nD τ).loc cc0_stg4_0) ↦{fullShare} f) -∗ wp frame (wpE (defs₀ (F := F)) 𝒱₀ (c : Thread nD τ) none) Set.univ (k ((woM).view.readAt (Elt F) (r).toLoadRect f)) Q)
      -∗ wp frame (wpE (defs₀ (F := F)) 𝒱₀ (c : Thread nD τ) none) Set.univ (.op (.load woM (r).toLoadRect hl) k) Q) :=
  wp_load 𝒱₀ (c : Thread nD τ) none Set.univ (m := woM) ((setOn_sub (Finset.subset_univ _)))

/-- A load from the whole buffer `cc0_stg5_0`. -/
theorem load_out {α : Type} {Q : α → sProp 𝕄} {r : Rect S2x256x512} {f : S2x256x512.Idx → F .f32}
    {hl : (outM).view.LoadsAt (r).toLoadRect} {k : ((r).toLoadRect.shape.Idx → Elt F .f32) → Prog (TpuEff nD τ sig (Elt F) Λ₀ .tc) α} :
    (((c : Thread nD τ).loc cc0_stg5_0) ↦{fullShare} f) ⊢ iprop(((((c : Thread nD τ).loc cc0_stg5_0) ↦{fullShare} f) -∗ wp frame (wpE (defs₀ (F := F)) 𝒱₀ (c : Thread nD τ) none) Set.univ (k ((outM).view.readAt (Elt F) (r).toLoadRect f)) Q)
      -∗ wp frame (wpE (defs₀ (F := F)) 𝒱₀ (c : Thread nD τ) none) Set.univ (.op (.load outM (r).toLoadRect hl) k) Q) :=
  wp_load 𝒱₀ (c : Thread nD τ) none Set.univ (m := outM) ((setOn_sub (Finset.subset_univ _)))

/-- A load from the whole buffer `cc0_scratch0`. -/
theorem load_ctx {α : Type} {Q : α → sProp 𝕄} {r : Rect S512x256} {f : S512x256.Idx → F .bf16}
    {hl : (ctxM).view.LoadsAt (r).toLoadRect} {k : ((r).toLoadRect.shape.Idx → Elt F .bf16) → Prog (TpuEff nD τ sig (Elt F) Λ₀ .tc) α} :
    (((c : Thread nD τ).loc cc0_scratch0) ↦{fullShare} f) ⊢ iprop(((((c : Thread nD τ).loc cc0_scratch0) ↦{fullShare} f) -∗ wp frame (wpE (defs₀ (F := F)) 𝒱₀ (c : Thread nD τ) none) Set.univ (k ((ctxM).view.readAt (Elt F) (r).toLoadRect f)) Q)
      -∗ wp frame (wpE (defs₀ (F := F)) 𝒱₀ (c : Thread nD τ) none) Set.univ (.op (.load ctxM (r).toLoadRect hl) k) Q) :=
  wp_load 𝒱₀ (c : Thread nD τ) none Set.univ (m := ctxM) ((setOn_sub (Finset.subset_univ _)))

/-- A load from the gathered rows, at any share. -/
theorem load_g {α : Type} {Q : α → sProp 𝕄} {r : Rect S512x512} {q : PosShare TreeShare} {f : S512x512.Idx → F .bf16}
    {hl : (gM).view.LoadsAt (r).toLoadRect} {k : ((r).toLoadRect.shape.Idx → Elt F .bf16) → Prog (TpuEff nD τ sig (Elt F) Λ₀ .tc) α} :
    (((c : Thread nD τ).loc cc0_scratch4) ↦{q} f) ⊢ iprop(((((c : Thread nD τ).loc cc0_scratch4) ↦{q} f) -∗ wp frame (wpE (defs₀ (F := F)) 𝒱₀ (c : Thread nD τ) none) Set.univ (k ((gM).view.readAt (Elt F) (r).toLoadRect f)) Q)
      -∗ wp frame (wpE (defs₀ (F := F)) 𝒱₀ (c : Thread nD τ) none) Set.univ (.op (.load gM (r).toLoadRect hl) k) Q) :=
  wp_load 𝒱₀ (c : Thread nD τ) none Set.univ (m := gM) ((setOn_sub (Finset.subset_univ _)))

/-- A load of held elements. -/
theorem load_acc {α : Type} {Q : α → sProp 𝕄} {r : Rect S512x512} {S : Finset S512x512.Idx} {f : S512x512.Idx → F .bf16} (hS : r.set ⊆ S)
    {hl : (accM).view.LoadsAt (r).toLoadRect} {k : ((r).toLoadRect.shape.Idx → Elt F .bf16) → Prog (TpuEff nD τ sig (Elt F) Λ₀ .tc) α} :
    accP c S f ⊢ iprop((accP c S f -∗ wp frame (wpE (defs₀ (F := F)) 𝒱₀ (c : Thread nD τ) none) Set.univ (k ((accM).view.readAt (Elt F) (r).toLoadRect f)) Q)
      -∗ wp frame (wpE (defs₀ (F := F)) 𝒱₀ (c : Thread nD τ) none) Set.univ (.op (.load accM (r).toLoadRect hl) k) Q) :=
  wp_load 𝒱₀ (c : Thread nD τ) none Set.univ (m := accM) (setOn_sub hS)

/-- A load of held elements. -/
theorem load_rs {α : Type} {Q : α → sProp 𝕄} {r : Rect S496x512} {S : Finset S496x512.Idx} {f : S496x512.Idx → F .bf16} (hS : r.set ⊆ S)
    {hl : (rsM).view.LoadsAt (r).toLoadRect} {k : ((r).toLoadRect.shape.Idx → Elt F .bf16) → Prog (TpuEff nD τ sig (Elt F) Λ₀ .tc) α} :
    rsP c S f ⊢ iprop((rsP c S f -∗ wp frame (wpE (defs₀ (F := F)) 𝒱₀ (c : Thread nD τ) none) Set.univ (k ((rsM).view.readAt (Elt F) (r).toLoadRect f)) Q)
      -∗ wp frame (wpE (defs₀ (F := F)) 𝒱₀ (c : Thread nD τ) none) Set.univ (.op (.load rsM (r).toLoadRect hl) k) Q) :=
  wp_load 𝒱₀ (c : Thread nD τ) none Set.univ (m := rsM) (setOn_sub hS)

/-- A load of held elements. -/
theorem load_r8 {α : Type} {Q : α → sProp 𝕄} {r : Rect S7x16x512} {S : Finset S7x16x512.Idx} {f : S7x16x512.Idx → F .bf16} (hS : r.set ⊆ S)
    {hl : (r8M).view.LoadsAt (r).toLoadRect} {k : ((r).toLoadRect.shape.Idx → Elt F .bf16) → Prog (TpuEff nD τ sig (Elt F) Λ₀ .tc) α} :
    r8P c S f ⊢ iprop((r8P c S f -∗ wp frame (wpE (defs₀ (F := F)) 𝒱₀ (c : Thread nD τ) none) Set.univ (k ((r8M).view.readAt (Elt F) (r).toLoadRect f)) Q)
      -∗ wp frame (wpE (defs₀ (F := F)) 𝒱₀ (c : Thread nD τ) none) Set.univ (.op (.load r8M (r).toLoadRect hl) k) Q) :=
  wp_load 𝒱₀ (c : Thread nD τ) none Set.univ (m := r8M) (setOn_sub hS)

/-- A load of held elements. -/
theorem load_gS {α : Type} {Q : α → sProp 𝕄} {r : Rect S512x512} {q : PosShare TreeShare} {S : Finset S512x512.Idx} {f : S512x512.Idx → F .bf16} (hS : r.set ⊆ S)
    {hl : (gM).view.LoadsAt (r).toLoadRect} {k : ((r).toLoadRect.shape.Idx → Elt F .bf16) → Prog (TpuEff nD τ sig (Elt F) Λ₀ .tc) α} :
    gP c S q f ⊢ iprop((gP c S q f -∗ wp frame (wpE (defs₀ (F := F)) 𝒱₀ (c : Thread nD τ) none) Set.univ (k ((gM).view.readAt (Elt F) (r).toLoadRect f)) Q)
      -∗ wp frame (wpE (defs₀ (F := F)) 𝒱₀ (c : Thread nD τ) none) Set.univ (.op (.load gM (r).toLoadRect hl) k) Q) :=
  wp_load 𝒱₀ (c : Thread nD τ) none Set.univ (m := gM) (setOn_sub hS)

/-- A load of held elements. -/
theorem load_ctxB {α : Type} {Q : α → sProp 𝕄} {r : Rect S512x256} {S : Finset S512x256.Idx} {f : S512x256.Idx → F .bf16} (hS : r.set ⊆ S)
    {hl : (ctxM).view.LoadsAt (r).toLoadRect} {k : ((r).toLoadRect.shape.Idx → Elt F .bf16) → Prog (TpuEff nD τ sig (Elt F) Λ₀ .tc) α} :
    ctxP c S f ⊢ iprop((ctxP c S f -∗ wp frame (wpE (defs₀ (F := F)) 𝒱₀ (c : Thread nD τ) none) Set.univ (k ((ctxM).view.readAt (Elt F) (r).toLoadRect f)) Q)
      -∗ wp frame (wpE (defs₀ (F := F)) 𝒱₀ (c : Thread nD τ) none) Set.univ (.op (.load ctxM (r).toLoadRect hl) k) Q) :=
  wp_load 𝒱₀ (c : Thread nD τ) none Set.univ (m := ctxM) (setOn_sub hS)

/-- A store over held elements. -/
theorem store_acc {α : Type} {Q : α → sProp 𝕄} {k : PUnit → Prog (TpuEff nD τ sig (Elt F) Λ₀ .tc) α} {r : Rect S512x512} {w : r.shape.Idx → Elt F .bf16}
    {hx : ((accM).access r).Stores Finset.univ} {hm : (Finset.univ : Finset r.shape.Idx) = Finset.univ ∨ ∀ a, r.stride a = 1} {S : Finset S512x512.Idx} (hS : r.set = S)
    {G : S512x512.Idx → F .bf16} (hG : ((accM).access r).read (Elt F) G = w) {f : S512x512.Idx → F .bf16} :
    accP c S f ⊢ iprop((accP c S G -∗ wp frame (wpE (defs₀ (F := F)) 𝒱₀ (c : Thread nD τ) none) Set.univ (k ⟨⟩) Q) -∗ wp frame (wpE (defs₀ (F := F)) 𝒱₀ (c : Thread nD τ) none) Set.univ (.op (.store accM r w Finset.univ hx hm) k) Q) := by
  have e : ((accM).access r).set = S := (View.set_slice_whole cc0_scratch1 r).trans hS
  have h := store_step (Q := Q) (k := k) (hx := hx) (hm := hm) c (m := accM) (r := r) (w := w) G hG f
  rw [e] at h
  exact h

/-- A store over held elements. -/
theorem store_ctxB {α : Type} {Q : α → sProp 𝕄} {k : PUnit → Prog (TpuEff nD τ sig (Elt F) Λ₀ .tc) α} {r : Rect S512x256} {w : r.shape.Idx → Elt F .bf16}
    {hx : ((ctxM).access r).Stores Finset.univ} {hm : (Finset.univ : Finset r.shape.Idx) = Finset.univ ∨ ∀ a, r.stride a = 1} {S : Finset S512x256.Idx} (hS : r.set = S)
    {G : S512x256.Idx → F .bf16} (hG : ((ctxM).access r).read (Elt F) G = w) {f : S512x256.Idx → F .bf16} :
    ctxP c S f ⊢ iprop((ctxP c S G -∗ wp frame (wpE (defs₀ (F := F)) 𝒱₀ (c : Thread nD τ) none) Set.univ (k ⟨⟩) Q) -∗ wp frame (wpE (defs₀ (F := F)) 𝒱₀ (c : Thread nD τ) none) Set.univ (.op (.store ctxM r w Finset.univ hx hm) k) Q) := by
  have e : ((ctxM).access r).set = S := (View.set_slice_whole cc0_scratch0 r).trans hS
  have h := store_step (Q := Q) (k := k) (hx := hx) (hm := hm) c (m := ctxM) (r := r) (w := w) G hG f
  rw [e] at h
  exact h

/-- A store over held elements. -/
theorem store_gS {α : Type} {Q : α → sProp 𝕄} {k : PUnit → Prog (TpuEff nD τ sig (Elt F) Λ₀ .tc) α} {r : Rect S512x512} {w : r.shape.Idx → Elt F .bf16}
    {hx : ((gM).access r).Stores Finset.univ} {hm : (Finset.univ : Finset r.shape.Idx) = Finset.univ ∨ ∀ a, r.stride a = 1} {S : Finset S512x512.Idx} (hS : r.set = S)
    {G : S512x512.Idx → F .bf16} (hG : ((gM).access r).read (Elt F) G = w) {f : S512x512.Idx → F .bf16} :
    gP c S fullShare f ⊢ iprop((gP c S fullShare G -∗ wp frame (wpE (defs₀ (F := F)) 𝒱₀ (c : Thread nD τ) none) Set.univ (k ⟨⟩) Q) -∗ wp frame (wpE (defs₀ (F := F)) 𝒱₀ (c : Thread nD τ) none) Set.univ (.op (.store gM r w Finset.univ hx hm) k) Q) := by
  have e : ((gM).access r).set = S := (View.set_slice_whole cc0_scratch4 r).trans hS
  have h := store_step (Q := Q) (k := k) (hx := hx) (hm := hm) c (m := gM) (r := r) (w := w) G hG f
  rw [e] at h
  exact h

/-! ## The copies -/

section
variable (l : List Ch)

/-- A copy sent, where the rows sent are what the peer's buffer is to hold as `G`. -/
theorem send_as {α : Type} {Q : α → sProp 𝕄} {k : PUnit → Prog (TpuEff nD τ sig (Elt F) Λ₀ .tc) α} (ch : Ch) {n : Dev nD} (hn : n = pr ch.peer c) {s : Shape} {e : EltTy} {sp sp' : Space}
    {src : Memref sig .tc sp s e} {dst : Memref sig .tc sp' s e} {sS sem : DmaSem sig} (hs : sS = ch.sIx) (hr : sem = ch.rIx)
    {hsc : (dst : Memref sig (n : Thread nD τ).2.kind sp' s e).view.ref.isScScratch = false}
    {hsrc : src.view.WordExact} {hdst : (dst : Memref sig (n : Thread nD τ).2.kind sp' s e).view.WordExact}
    {hsem : DmaTarget.Typed sp (.dma sem) (.remote (n : Thread nD τ) dst (.dma sS) hsc)}
    {q : PosShare TreeShare} (fs : Buf (Elt F) (src.view.loc (c : Thread nD τ))) (G : Buf (Elt F) (dst.view.loc (pr ch.peer c : Thread nD τ)))
    (hG : dst.view.read (Elt F) G = src.view.read (Elt F) fs)
    (hamt : dst.view.amount (.dma ch.rIx) = ch.amt)
    (P2 : sProp 𝕄)
    (h1 : (src.view.loc (c : Thread nD τ) ↦[src.view.set]{q} fs) = sendPay I ch c)
    (h2 : (dst.view.loc (pr ch.peer c : Thread nD τ) ↦[dst.view.set]{fullShare} G) = recvPay I ch (pr ch.peer c))
    (h3 : P2 ⊢ iprop(∃ fd, dst.view.loc (pr ch.peer c : Thread nD τ) ↦[dst.view.set]{fullShare} fd)) :
    iprop(invs I K ∗ ow c (owedC c (ch :: l)) ∗ toSend ch c ∗ reached ER (rCell ch (pr ch.peer c)) 0 ∗ sendPay I ch c ∗ P2)
      ⊢ iprop(((ow c (owedC c l) ∗ sent ch c) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (n : Thread nD τ) dst (.dma sS) hsc) (.dma sem) hsrc hdst hsem) k) Q) := by
  iintro ⟨HI, HO, Ht, Hr, Hs, Hd⟩
  ihave Hd := h3 $$ Hd
  icases Hd with ⟨%fd, Hd⟩
  iapply (send_step I K c ch l hn hs hr (q := q) fs fd hamt (by rw [h1])
    (by rw [pointsTo_congr (write_eq_on dst.view fd G (src.view.read (Elt F) fs) hG), h2]))
  isplitl [HI]; · iexact HI
  isplitl [HO]; · iexact HO
  isplitl [Ht]; · iexact Ht
  isplitl [Hr]; · iexact Hr
  isplitl [Hs]; · rw [h1]; iexact Hs
  iexact Hd

/-- The half of the product, sent. -/
theorem send_h2 {α : Type} {Q : α → sProp 𝕄} {k : PUnit → Prog (TpuEff nD τ sig (Elt F) Λ₀ .tc) α} {n : Dev nD} (hn : n = pr 0 c) {sS sem : DmaSem sig} (hs : sS = Ch.h2.sIx) (hr : sem = Ch.h2.rIx)
    {inb inb'} {hsc hsrc hdst hsem} :
    iprop(invs I K ∗ ow c (owedC c (.h2 :: l)) ∗ toSend .h2 c ∗ reached ER (rCell .h2 (pr 0 c)) 0 ∗ accP c (half (pr 0 c)) (prod0 (I c)) ∗ (∃ f, rsP (pr 0 c) (rowsR 0 256) f))
      ⊢ iprop(((ow c (owedC c l) ∗ sent .h2 c) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (accM.slice (Rect.unit (s := S512x512) (k0_off3 c) S256x512.size inb) (fun _ => rfl))
            (.remote (n : Thread nD τ) (rsM.slice (Rect.unit (s := S496x512) ![0, 0] S256x512.size inb') (fun _ => rfl)) (.dma sS) hsc) (.dma sem) hsrc hdst hsem) k) Q) := by
  have e1 : (accM.slice (Rect.unit (s := S512x512) (k0_off3 c) S256x512.size inb) (fun _ => rfl)).view.set = half (pr 0 c) :=
    (View.set_slice_whole cc0_scratch1 _).trans (rect_rows inb (off3_eq c) rfl)
  have e2 : (rsM.slice (Rect.unit (s := S496x512) ![0, 0] S256x512.size inb') (fun _ => rfl)).view.set = rowsR 0 256 :=
    (View.set_slice_whole cc0_scratch2 _).trans (rect_rowsR inb' rfl rfl)
  refine send_as I K c l .h2 hn hs hr (hsc := hsc) (q := fullShare) (prod0 (I c)) (land2 I (pr 0 c)) (land_ch0 I c inb' inb) rfl _ ?_ ?_ ?_
  · rw [e1]; rfl
  · rw [e2]; rfl
  · rw [e2]; exact .rfl

/-- The quarter of the pair sum, sent. -/
theorem send_q2 {α : Type} {Q : α → sProp 𝕄} {k : PUnit → Prog (TpuEff nD τ sig (Elt F) Λ₀ .tc) α} {n : Dev nD} (hn : n = pr 1 c) {sS sem : DmaSem sig} (hs : sS = (Ch.q2).sIx) (hr : sem = (Ch.q2).rIx)
    {inb inb'} {hsc hsrc hdst hsem} :
    iprop(invs I K ∗ ow c (owedC c (.q2 :: l)) ∗ toSend (.q2) c ∗ reached ER (rCell (.q2) (pr 1 c)) 0 ∗ accP c (quart (pr 1 c)) (sum2 I c) ∗ (∃ f, rsP (pr 1 c) (rowsR 256 128) f))
      ⊢ iprop(((ow c (owedC c l) ∗ sent (.q2) c) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (accM.slice (Rect.unit (s := S512x512) (k0_off6 c) S128x512.size inb) (fun _ => rfl))
            (.remote (n : Thread nD τ) (rsM.slice (Rect.unit (s := S496x512) ![256, 0] S128x512.size inb') (fun _ => rfl)) (.dma sS) hsc) (.dma sem) hsrc hdst hsem) k) Q) := by
  have e1 : ((accM.slice (Rect.unit (s := S512x512) (k0_off6 c) S128x512.size inb) (fun _ => rfl))).view.set = quart (pr 1 c) :=
    (View.set_slice_whole cc0_scratch1 _).trans (rect_rows inb (off6_eq c) rfl)
  have e2 : ((rsM.slice (Rect.unit (s := S496x512) ![256, 0] S128x512.size inb') (fun _ => rfl))).view.set = rowsR 256 128 :=
    (View.set_slice_whole cc0_scratch2 _).trans (rect_rowsR inb' rfl rfl)
  refine send_as I K c l (.q2) hn hs hr (hsc := hsc) (q := fullShare) (sum2 I c) (land2 I (pr 1 c)) (land_ch1 I c inb' inb) rfl _ ?_ ?_ ?_
  · rw [e1]; rfl
  · rw [e2]; rfl
  · rw [e2]; exact .rfl

/-- Sixteen rows of the sum over four, sent to one of seven peers. -/
theorem send_s8 {α : Type} {Q : α → sProp 𝕄} {k : PUnit → Prog (TpuEff nD τ sig (Elt F) Λ₀ .tc) α} (j : Fin 7) {n : Dev nD} (hn : n = pr (gp j) c) {sS sem : DmaSem sig} (hs : sS = (Ch.s8 j).sIx) (hr : sem = (Ch.s8 j).rIx)
    {w : BitVec 32} (hw : w = BitVec.ofNat 32 (1 + j.val)) {m : ℕ} (hm : m = j.val) {inb inb'} {hsc hsrc hdst hsem} :
    iprop(invs I K ∗ ow c (owedC c (.s8 j :: l)) ∗ toSend (.s8 j) c ∗ reached ER (rCell (.s8 j) (pr (gp j) c)) 0 ∗ accP c (chunk (pr (gp j) c)) (sum4 I c) ∗ (∃ f, r8P (pr (gp j) c) (slot j) f))
      ⊢ iprop(((ow c (owedC c l) ∗ sent (.s8 j) c) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (accM.slice (Rect.unit (s := S512x512) (k0_off8 c w) S16x512.size inb) (fun _ => rfl))
            (.remote (n : Thread nD τ) ((r8M.slice (Rect.unit (s := S7x16x512) ![m, 0, 0] S1x16x512.size inb') (fun _ => rfl)).squeeze S16x512 squeezes_S1x16x512_S16x512) (.dma sS) hsc) (.dma sem) hsrc hdst hsem) k) Q) := by
  subst hw hm
  have e1 : ((accM.slice (Rect.unit (s := S512x512) (k0_off8 c (BitVec.ofNat 32 (1 + j.val))) S16x512.size inb) (fun _ => rfl))).view.set = chunk (pr (gp j) c) :=
    (View.set_slice_whole cc0_scratch1 _).trans (rect_rows inb (off8_eq c j) rfl)
  have e2 : (((r8M.slice (Rect.unit (s := S7x16x512) ![j.val, 0, 0] S1x16x512.size inb') (fun _ => rfl)).squeeze S16x512 squeezes_S1x16x512_S16x512)).view.set = slot j :=
    (View.set_reshape _ _).trans ((View.set_slice_whole cc0_scratch3 _).trans (rect_slot j inb'))
  refine send_as I K c l (.s8 j) hn hs hr (hsc := hsc) (q := fullShare) (sum4 I c) (land8 I (pr (gp j) c)) (land_ch8 I c j inb' inb) rfl _ ?_ ?_ ?_
  · rw [e1]; rfl
  · rw [e2]; rfl
  · rw [e2]; exact .rfl

/-- The sixteen finished rows, sent to one of seven peers. -/
theorem send_g8 {α : Type} {Q : α → sProp 𝕄} {k : PUnit → Prog (TpuEff nD τ sig (Elt F) Λ₀ .tc) α} (j : Fin 7) {n : Dev nD} (hn : n = pr (gp j) c) {sS sem : DmaSem sig} (hs : sS = (Ch.g8 j).sIx) (hr : sem = (Ch.g8 j).rIx)
    {inb inb'} {hsc hsrc hdst hsem} :
    iprop(invs I K ∗ ow c (owedC c (.g8 j :: l)) ∗ toSend (.g8 j) c ∗ reached ER (rCell (.g8 j) (pr (gp j) c)) 0 ∗ gP c (chunk c) (qL j.castSucc) (gath I) ∗ (∃ f, gP (pr (gp j) c) (chunk c) fullShare f))
      ⊢ iprop(((ow c (owedC c l) ∗ sent (.g8 j) c) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (gM.slice (Rect.unit (s := S512x512) (k0_off10 c) S16x512.size inb) (fun _ => rfl))
            (.remote (n : Thread nD τ) (gM.slice (Rect.unit (s := S512x512) (k0_off10 c) S16x512.size inb') (fun _ => rfl)) (.dma sS) hsc) (.dma sem) hsrc hdst hsem) k) Q) := by
  have e1 : ((gM.slice (Rect.unit (s := S512x512) (k0_off10 c) S16x512.size inb) (fun _ => rfl))).view.set = chunk c :=
    (View.set_slice_whole cc0_scratch4 _).trans (rect_rows inb (off10_eq c) rfl)
  have e2 : ((gM.slice (Rect.unit (s := S512x512) (k0_off10 c) S16x512.size inb') (fun _ => rfl))).view.set = chunk c :=
    (View.set_slice_whole cc0_scratch4 _).trans (rect_rows inb' (off10_eq c) rfl)
  refine send_as I K c l (.g8 j) hn hs hr (hsc := hsc) (q := (qL j.castSucc)) (gath I) (gath I) (rfl) rfl _ ?_ ?_ ?_
  · rw [e1]; rfl
  · rw [e2]; show _ = gP (pr (gp j) c) (chunk (pr (gp j) (pr (gp j) c))) fullShare (gath I); rw [pr_pr]; rfl
  · rw [e2]; exact .rfl

/-- The finished quarter, sent. -/
theorem send_gq {α : Type} {Q : α → sProp 𝕄} {k : PUnit → Prog (TpuEff nD τ sig (Elt F) Λ₀ .tc) α} {n : Dev nD} (hn : n = pr 1 c) {sS sem : DmaSem sig} (hs : sS = (Ch.gq).sIx) (hr : sem = (Ch.gq).rIx)
    {inb inb'} {hsc hsrc hdst hsem} :
    iprop(invs I K ∗ ow c (owedC c (.gq :: l)) ∗ toSend (.gq) c ∗ reached ER (rCell (.gq) (pr 1 c)) 0 ∗ gP c (quart c) qB (gath I) ∗ (∃ f, gP (pr 1 c) (quart c) fullShare f))
      ⊢ iprop(((ow c (owedC c l) ∗ sent (.gq) c) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (gM.slice (Rect.unit (s := S512x512) (k0_off11 c) S128x512.size inb) (fun _ => rfl))
            (.remote (n : Thread nD τ) (gM.slice (Rect.unit (s := S512x512) (k0_off11 c) S128x512.size inb') (fun _ => rfl)) (.dma sS) hsc) (.dma sem) hsrc hdst hsem) k) Q) := by
  have e1 : ((gM.slice (Rect.unit (s := S512x512) (k0_off11 c) S128x512.size inb) (fun _ => rfl))).view.set = quart c :=
    (View.set_slice_whole cc0_scratch4 _).trans (rect_rows inb (off11_eq c) rfl)
  have e2 : ((gM.slice (Rect.unit (s := S512x512) (k0_off11 c) S128x512.size inb') (fun _ => rfl))).view.set = quart c :=
    (View.set_slice_whole cc0_scratch4 _).trans (rect_rows inb' (off11_eq c) rfl)
  refine send_as I K c l (.gq) hn hs hr (hsc := hsc) (q := qB) (gath I) (gath I) (rfl) rfl _ ?_ ?_ ?_
  · rw [e1]; rfl
  · rw [e2]; show _ = gP (pr 1 c) (quart (pr 1 (pr 1 c))) fullShare (gath I); rw [pr_pr]; rfl
  · rw [e2]; exact .rfl

/-- The finished half, sent. -/
theorem send_gh {α : Type} {Q : α → sProp 𝕄} {k : PUnit → Prog (TpuEff nD τ sig (Elt F) Λ₀ .tc) α} {n : Dev nD} (hn : n = pr 0 c) {sS sem : DmaSem sig} (hs : sS = (Ch.gh).sIx) (hr : sem = (Ch.gh).rIx)
    {inb inb'} {hsc hsrc hdst hsem} :
    iprop(invs I K ∗ ow c (owedC c (.gh :: l)) ∗ toSend (.gh) c ∗ reached ER (rCell (.gh) (pr 0 c)) 0 ∗ gP c (half c) qA (gath I) ∗ (∃ f, gP (pr 0 c) (half c) fullShare f))
      ⊢ iprop(((ow c (owedC c l) ∗ sent (.gh) c) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (gM.slice (Rect.unit (s := S512x512) (k0_off12 c) S256x512.size inb) (fun _ => rfl))
            (.remote (n : Thread nD τ) (gM.slice (Rect.unit (s := S512x512) (k0_off12 c) S256x512.size inb') (fun _ => rfl)) (.dma sS) hsc) (.dma sem) hsrc hdst hsem) k) Q) := by
  have e1 : ((gM.slice (Rect.unit (s := S512x512) (k0_off12 c) S256x512.size inb) (fun _ => rfl))).view.set = half c :=
    (View.set_slice_whole cc0_scratch4 _).trans (rect_rows inb (off12_eq c) rfl)
  have e2 : ((gM.slice (Rect.unit (s := S512x512) (k0_off12 c) S256x512.size inb') (fun _ => rfl))).view.set = half c :=
    (View.set_slice_whole cc0_scratch4 _).trans (rect_rows inb' (off12_eq c) rfl)
  refine send_as I K c l (.gh) hn hs hr (hsc := hsc) (q := qA) (gath I) (gath I) (rfl) rfl _ ?_ ?_ ?_
  · rw [e1]; rfl
  · rw [e2]; show _ = gP (pr 0 c) (half (pr 0 (pr 0 c))) fullShare (gath I); rw [pr_pr]; rfl
  · rw [e2]; exact .rfl
end

end Cert.Attn
-- ==== Proof.Bundles.lean ====
/-
Bundles of what the parts of the body hand on: the values carried between parts, where the copies land on the peers,
and the assembly of the gathered rows at the shares the copies need.
-/
module

public import proofs.«01_k».proof.Proof.Calls

@[expose] public section

noncomputable section

namespace Cert.Attn

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : GSem nD τ sig → ℕ) (c : Dev nD)

/-- The pair sum of the half kept, as the program computes it. -/
def val669 : FVec F S256x512 .bf16 :=
  k0_pay57 (accM.view.readAt (Elt F) (Rect.unit (s := S512x512) (k0_off5 c) S256x512.size (k0_off5_inb c)).toLoadRect (prod0 (I c))) (rsM.view.readAt (Elt F) (Rect.unit (s := S496x512) ![0, 0] S256x512.size inb_S496x512_S256x512_0_0).toLoadRect (land2 I c))
/-- The sum over four of the quarter kept. -/
def val701 : FVec F S128x512 .bf16 :=
  k0_pay59 (accM.view.readAt (Elt F) (Rect.unit (s := S512x512) (k0_off7 c) S128x512.size (k0_off7_inb c)).toLoadRect (sum2 I c)) (rsM.view.readAt (Elt F) (Rect.unit (s := S496x512) ![256, 0] S128x512.size inb_S496x512_S128x512_256_0).toLoadRect (land2 I c))
/-- The first three of the eight summands of the sixteen rows. -/
def val830 : FVec F S16x512 .bf16 :=
  k0_pay61 (accM.view.readAt (Elt F) (Rect.unit (s := S512x512) (k0_off9 c) S16x512.size (k0_off9_inb c)).toLoadRect (sum4 I c)) (r8M.view.readAt (Elt F) (Rect.unit (s := S7x16x512) ![0, 0, 0] S1x16x512.size inb_S7x16x512_S1x16x512_0_0_0).toLoadRect (land8 I c)) (r8M.view.readAt (Elt F) (Rect.unit (s := S7x16x512) ![1, 0, 0] S1x16x512.size inb_S7x16x512_S1x16x512_1_0_0).toLoadRect (land8 I c))
/-- Five of the eight summands. -/
def val850 : FVec F S16x512 .bf16 := k0_pay62 (val830 I c) (r8M.view.readAt (Elt F) (Rect.unit (s := S7x16x512) ![2, 0, 0] S1x16x512.size inb_S7x16x512_S1x16x512_2_0_0).toLoadRect (land8 I c)) (r8M.view.readAt (Elt F) (Rect.unit (s := S7x16x512) ![3, 0, 0] S1x16x512.size inb_S7x16x512_S1x16x512_3_0_0).toLoadRect (land8 I c))

/-- Where the half lands on the peer, and its landing cell open. -/
abbrev dst0 : sProp 𝕄 := iprop((∃ f, rsP (pr 0 c) (rowsR 0 256) f) ∗ reached ER (rCell .h2 (pr 0 c)) 0)
abbrev dstG0 : sProp 𝕄 := iprop((∃ f, gP (pr 0 c) (half c) fullShare f) ∗ reached ER (rCell .gh (pr 0 c)) 0)
abbrev dst1 : sProp 𝕄 := iprop((∃ f, rsP (pr 1 c) (rowsR 256 128) f) ∗ reached ER (rCell .q2 (pr 1 c)) 0)
abbrev dstG1 : sProp 𝕄 := iprop((∃ f, gP (pr 1 c) (quart c) fullShare f) ∗ reached ER (rCell .gq (pr 1 c)) 0)
abbrev dstK (k : Fin 7) (c : Dev nD) : sProp 𝕄 := iprop((∃ f, r8P (pr (gp k) c) (slot k) f) ∗ reached ER (rCell (.s8 k) (pr (gp k) c)) 0)
abbrev dstGK (k : Fin 7) (c : Dev nD) : sProp 𝕄 := iprop((∃ f, gP (pr (gp k) c) (chunk c) fullShare f) ∗ reached ER (rCell (.g8 k) (pr (gp k) c)) 0)

/-- One peer's gift, sorted. -/
theorem give_K (k : Fin 7) : give (F := F) (gp k) (pr (gp k) c) ⊢ iprop(dstK k c ∗ dstGK k c) := by
  rw [give_k, pr_pr]
  iintro ⟨H1, H2, H3, H4⟩
  isplitl [H1 H3]
  · isplitl [H1] <;> iassumption
  isplitl [H2] <;> iassumption

/-- What the nine peers handed over, by copy. -/
theorem gives_split : (bigSep Finset.univ fun d : Fin 9 => give (F := F) d (pr d c))
    ⊢ iprop(dst0 c ∗ dstG0 c ∗ dst1 c ∗ dstG1 c ∗ (bigSep Finset.univ fun k : Fin 7 => dstK k c) ∗ bigSep Finset.univ fun k : Fin 7 => dstGK k c) := by
  have h : (bigSep Finset.univ fun k : Fin 7 => give (F := F) (gp k) (pr (gp k) c))
      ⊢ iprop((bigSep Finset.univ fun k : Fin 7 => dstK k c) ∗ bigSep Finset.univ fun k : Fin 7 => dstGK k c) :=
    (bigSep_mono fun k _ => give_K c k).trans (Entails.of_eq (bigSep_sep' Finset.univ _ _))
  rw [bigSep_9, give_0, give_1, pr_pr, pr_pr]
  iintro ⟨⟨A1, A2, A3, A4⟩, ⟨B1, B2, B3, B4⟩, HC⟩
  ihave HC := (Entails.of_eq (bigSep_7 fun k : Fin 7 => give (F := F) (gp k) (pr (gp k) c)).symm) $$ HC
  ihave HC := h $$ HC
  isplitl [A1 A3]
  · isplitl [A1] <;> iassumption
  isplitl [A2 A4]
  · isplitl [A2] <;> iassumption
  isplitl [B1 B3]
  · isplitl [B1] <;> iassumption
  isplitl [B2 B4]
  · isplitl [B2] <;> iassumption
  iexact HC

/-- The wait for a landing, the rows named. -/
theorem recv_as {α : Type} {Q : α → sProp 𝕄} {k : PUnit → Prog (TpuEff nD τ sig (Elt F) Λ₀ .tc) α} (ch : Ch) (l : List Ch) (hl : ∀ ch' ∈ l, ch.lev < ch'.lev) {s : Shape} {e : EltTy} {sp sp' : Space}
    {src : Memref sig .tc sp s e} {dst : Memref sig .tc sp' s e} {sem : DmaSem sig} (hr : sem = ch.rIx)
    {hsrc : src.view.WordExact} {hdst : dst.view.WordExact} (hamt : dst.view.amount (.dma ch.rIx) = ch.amt) (P : sProp 𝕄) (hP : recvPay I ch c = P) :
    iprop(invs I K ∗ levAts L lv ∗ ow c (owedC c l) ∗ toRecv ch c)
      ⊢ iprop(((ow c (owedC c l) ∗ P ∗ semVal (rCell ch c) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hP
  exact recv_step I K c ch l hl hr hamt

/-- The half a device keeps starts at a batch's first row. -/
theorem lo2_b (c : Dev nD) : ∃ b, b < 2 ∧ lo2 c = 256 * b := by
  rcases lo2_cases c with h | h
  · exact ⟨0, by decide, h.1⟩
  · exact ⟨1, by decide, h.1⟩

/-- The half sent is stored at the product. -/
theorem read_half2 :
    (accM.access (Rect.unit (s := S512x512) (k0_off2 c) S256x512.size (k0_off2_inb c))).read (Elt F) (prod0 (I c))
      = k0_pay55 (k0_pay54 (wo16 (I c)) (ctxM.view.readAt (Elt F) (Rect.unit (s := S512x256) (k0_off1 c) S256x256.size (k0_off1_inb c)).toLoadRect (ctx (I c)))) := by
  obtain ⟨b, hb2, hb⟩ := lo2_b (pr 0 c)
  exact read_prod0 (I c) _ _ (off2_eq c) (off1_eq c) hb hb2
/-- The half kept is stored at the product. -/
theorem read_half5 :
    (accM.access (Rect.unit (s := S512x512) (k0_off5 c) S256x512.size (k0_off5_inb c))).read (Elt F) (prod0 (I c))
      = k0_pay56 (wo16 (I c)) (ctxM.view.readAt (Elt F) (Rect.unit (s := S512x256) (k0_off4 c) S256x256.size (k0_off4_inb c)).toLoadRect (ctx (I c))) := by
  obtain ⟨b, hb2, hb⟩ := lo2_b c
  exact read_prod0 (I c) _ _ (off5_eq c) (off4_eq c) hb hb2

/-! ## The gathered rows, assembled -/

/-- The quarter from the eight chunks: at three shares whole, at the fourth the seven others. -/
theorem join_quart :
    iprop(gP c (chunk c) qA (gath I) ∗ gP c (chunk c) qB (gath I) ∗ gP c (chunk c) qC (gath I) ∗ gP c (chunk (pr (gp 0) c)) fullShare (gath I) ∗ gP c (chunk (pr (gp 1) c)) fullShare (gath I) ∗ gP c (chunk (pr (gp 2) c)) fullShare (gath I) ∗ gP c (chunk (pr (gp 3) c)) fullShare (gath I) ∗ gP c (chunk (pr (gp 4) c)) fullShare (gath I) ∗ gP c (chunk (pr (gp 5) c)) fullShare (gath I) ∗ gP c (chunk (pr (gp 6) c)) fullShare (gath I))
      ⊢ (iprop(gP c (quart c) qA (gath I) ∗ gP c (quart c) qB (gath I) ∗ gP c (quart c) qC (gath I) ∗ bigSep Finset.univ (fun k : Fin 7 => gP c (chunk (pr (gp k) c)) qD (gath I))) : sProp 𝕄) := by
  have h : (bigSep Finset.univ fun k : Fin 7 => gP c (chunk (pr (gp k) c)) fullShare (gath I))
      ⊢ (iprop((bigSep Finset.univ fun k : Fin 7 => gP c (chunk (pr (gp k) c)) qA (gath I)) ∗ (bigSep Finset.univ fun k : Fin 7 => gP c (chunk (pr (gp k) c)) qB (gath I))
        ∗ (bigSep Finset.univ fun k : Fin 7 => gP c (chunk (pr (gp k) c)) qC (gath I)) ∗ bigSep Finset.univ fun k : Fin 7 => gP c (chunk (pr (gp k) c)) qD (gath I)) : sProp 𝕄) := by
    rw [← bigSep_sep', ← bigSep_sep', ← bigSep_sep']
    exact bigSep_mono fun k _ => Entails.of_eq (share_four (ℓ := (c : Thread nD τ).loc cc0_scratch4) _ (gath I))
  rw [g_chunks c qA, g_chunks c qB, g_chunks c qC]
  iintro ⟨H1, H2, H3, HC⟩
  ihave HC := (Entails.of_eq (bigSep_7 fun k : Fin 7 => gP c (chunk (pr (gp k) c)) fullShare (gath I)).symm) $$ HC
  ihave HC := h $$ HC
  icases HC with ⟨C1, C2, C3, C4⟩
  isplitl [H1 C1]
  · isplitl [H1] <;> iassumption
  isplitl [H2 C2]
  · isplitl [H2] <;> iassumption
  isplitl [H3 C3]
  · isplitl [H3] <;> iassumption
  iexact C4

/-- The half from the two quarters. -/
theorem join_half :
    iprop(gP c (quart c) qA (gath I) ∗ gP c (quart c) qC (gath I) ∗ gP c (quart (pr 1 c)) fullShare (gath I))
      ⊢ (iprop(gP c (half c) qA (gath I) ∗ gP c (half c) qC (gath I) ∗ gP c (quart (pr 1 c)) qB (gath I) ∗ gP c (quart (pr 1 c)) qD (gath I)) : sProp 𝕄) := by
  rw [g_quarts c qA, g_quarts c qC]
  iintro ⟨H1, H2, HC⟩
  ihave HC := (Entails.of_eq (share_four (ℓ := (c : Thread nD τ).loc cc0_scratch4) _ (gath I))) $$ HC
  icases HC with ⟨C1, C2, C3, C4⟩
  isplitl [H1 C1]
  · isplitl [H1] <;> iassumption
  isplitl [H2 C3]
  · isplitl [H2] <;> iassumption
  isplitl [C2] <;> iassumption

/-- The whole from the two halves, at the share of the last loads. -/
theorem join_whole :
    iprop(gP c (half c) qC (gath I) ∗ gP c (half (pr 0 c)) fullShare (gath I))
      ⊢ (iprop((((c : Thread nD τ).loc cc0_scratch4) ↦{qC} gath I) ∗ gP c (half (pr 0 c)) qA (gath I) ∗ gP c (half (pr 0 c)) qB (gath I) ∗ gP c (half (pr 0 c)) qD (gath I)) : sProp 𝕄) := by
  rw [g_halves c qC]
  iintro ⟨H1, HC⟩
  ihave HC := (Entails.of_eq (share_four (ℓ := (c : Thread nD τ).loc cc0_scratch4) _ (gath I))) $$ HC
  icases HC with ⟨C1, C2, C3, C4⟩
  isplitl [H1 C3]
  · isplitl [H1] <;> iassumption
  isplitl [C1]; · iassumption
  isplitl [C2] <;> iassumption

/-! ## The output -/

abbrev outR (b : ℕ) (inb : ∀ a, (![b, 0, 0] : Fin 3 → ℕ) a + S1x256x512.size a ≤ S2x256x512.size a) : Rect S2x256x512 := Rect.unit (s := S2x256x512) ![b, 0, 0] S1x256x512.size inb
abbrev outR0 : Rect S2x256x512 := outR 0 inb_S2x256x512_S1x256x512_0_0_0
abbrev outR1 : Rect S2x256x512 := outR 1 inb_S2x256x512_S1x256x512_1_0_0

/-- An element is of a batch's block of the output if its first coordinate is that batch. -/
theorem mem_outR (b : ℕ) (inb) (x : S2x256x512.Idx) : x ∈ (outR b inb).set ↔ (x 0).val = b := by
  rw [Rect.mem_set_unit]
  have h1 : (x 1).val < 256 := (x 1).isLt
  have h2 : (x 2).val < 512 := (x 2).isLt
  constructor
  · intro h
    have h0 : b ≤ (x 0).val ∧ (x 0).val < b + 1 := h 0
    omega
  · intro h a
    match a with
    | ⟨0, _⟩ => exact ⟨by show b ≤ (x 0).val; omega, by show (x 0).val < b + 1; omega⟩
    | ⟨1, _⟩ => exact ⟨Nat.zero_le _, by show (x 1).val < 0 + 256; omega⟩
    | ⟨2, _⟩ => exact ⟨Nat.zero_le _, by show (x 2).val < 0 + 512; omega⟩

/-- The output's two batch rows. -/
theorem out_parts (o : S2x256x512.Idx → F .f32) : ((((c : Thread nD τ).loc cc0_stg5_0) ↦{fullShare} o) : sProp 𝕄)
    = iprop((((c : Thread nD τ).loc cc0_stg5_0) ↦[outR0.set]{fullShare} o) ∗ (((c : Thread nD τ).loc cc0_stg5_0) ↦[outR1.set]{fullShare} o)) :=
  pts_two (ℓ := (c : Thread nD τ).loc cc0_stg5_0) (A := outR0.set) (B := outR1.set)
    (fun x => ⟨fun _ => by
      have h0 : (x 0).val < 2 := (x 0).isLt
      rw [mem_outR, mem_outR]; omega, fun _ => Finset.mem_univ _⟩)
    (fun x h0 h1 => by rw [mem_outR] at h0 h1; omega) o

/-- The output's first batch holds what the last store of batch 0 computes. -/
theorem read_out0 : (outM.access outR0).read (Elt F) (outV I)
    = k0_pay64 (gM.view.readAt (Elt F) (Rect.unit (s := S512x512) ![0, 0] S256x512.size inb_S512x512_S256x512_0_0).toLoadRect (gath I)) := by
  rw [read_gathHalf I (o := 0) (b := 0) rfl]
  exact read_outV I _
/-- The output's second batch holds what the last store of batch 1 computes. -/
theorem read_out1 : (outM.access outR1).read (Elt F) (outV I)
    = k0_pay65 (gM.view.readAt (Elt F) (Rect.unit (s := S512x512) ![256, 0] S256x512.size inb_S512x512_S256x512_256_0).toLoadRect (gath I)) := by
  rw [read_gathHalf I (o := 256) (b := 1) rfl]
  exact read_outV I _

/-- A load of held elements of the output. -/
theorem load_outS {α : Type} {Q : α → sProp 𝕄} {r : Rect S2x256x512} {S : Finset S2x256x512.Idx} {f : S2x256x512.Idx → F .f32} (hS : r.set ⊆ S)
    {hl : outM.view.LoadsAt r.toLoadRect} {k : (r.toLoadRect.shape.Idx → Elt F .f32) → Prog (TpuEff nD τ sig (Elt F) Λ₀ .tc) α} :
    (((c : Thread nD τ).loc cc0_stg5_0) ↦[S]{fullShare} f) ⊢ iprop(((((c : Thread nD τ).loc cc0_stg5_0) ↦[S]{fullShare} f) -∗ wp frame (wpE (defs₀ (F := F)) 𝒱₀ (c : Thread nD τ) none) Set.univ (k (outM.view.readAt (Elt F) r.toLoadRect f)) Q)
      -∗ wp frame (wpE (defs₀ (F := F)) 𝒱₀ (c : Thread nD τ) none) Set.univ (.op (.load outM r.toLoadRect hl) k) Q) :=
  wp_load 𝒱₀ (c : Thread nD τ) none Set.univ (m := outM) (setOn_sub hS)
/-- A store over held elements of the output. -/
theorem store_outS {α : Type} {Q : α → sProp 𝕄} {k : PUnit → Prog (TpuEff nD τ sig (Elt F) Λ₀ .tc) α} {r : Rect S2x256x512} {w : r.shape.Idx → Elt F .f32}
    {hx : (outM.access r).Stores Finset.univ} {hm : (Finset.univ : Finset r.shape.Idx) = Finset.univ ∨ ∀ a, r.stride a = 1} {S : Finset S2x256x512.Idx} (hS : r.set = S)
    {G : S2x256x512.Idx → F .f32} (hG : (outM.access r).read (Elt F) G = w) {f : S2x256x512.Idx → F .f32} :
    (((c : Thread nD τ).loc cc0_stg5_0) ↦[S]{fullShare} f) ⊢ iprop(((((c : Thread nD τ).loc cc0_stg5_0) ↦[S]{fullShare} G) -∗ wp frame (wpE (defs₀ (F := F)) 𝒱₀ (c : Thread nD τ) none) Set.univ (k ⟨⟩) Q) -∗ wp frame (wpE (defs₀ (F := F)) 𝒱₀ (c : Thread nD τ) none) Set.univ (.op (.store outM r w Finset.univ hx hm) k) Q) := by
  have e : (outM.access r).set = S := (View.set_slice_whole cc0_stg5_0 r).trans hS
  have h := store_step (Q := Q) (k := k) (hx := hx) (hm := hm) c (m := outM) (r := r) (w := w) G hG f
  rw [e] at h
  exact h

end Cert.Attn
-- ==== Proof.PartsA.lean ====
/-
The printed parts of the body up to the first product, each from what it needs to what it leaves.
-/
module

public import proofs.«01_k».proof.Proof.Bundles

@[expose] public section

noncomputable section

namespace Cert.Attn

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : GSem nD τ sig → ℕ) (c : Dev nD)

/-- The first six barrier signals. -/
theorem part1 {Q : (Σ' (d0 : Dev nD) (v2 : BitVec 32) (v3 : Sems sig S_), BitVec 32) → sProp 𝕄}   :
    iprop(invs I K ∗ ow c (owed₀ c) ∗ (toSignal 0 c ∗ give 0 c) ∗ (toSignal 1 c ∗ give 1 c) ∗ (toSignal 2 c ∗ give 2 c) ∗ (toSignal 3 c ∗ give 3 c) ∗ (toSignal 4 c ∗ give 4 c) ∗ (toSignal 5 c ∗ give 5 c))
      ⊢ iprop((∀ v2 v23, (ow c (owedB c allCh [6, 7, 8])) -∗ Q ⟨c, v2, (SemArray.scalar (sig.barrier 0 rfl)), v23⟩) -∗ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 ) Q) := by
    rw [k0_part1_eq_skeleton]; unfold k0_part1_skel
    simp only [semSignalWord, semWaitWord, Prog.lift, Prog.bind_op, Prog.bind_ret, Prog.pure_eq_ret, wp_deviceId]
    iintro ⟨#HI, HO, ⟨Ht0, Hg0⟩, ⟨Ht1, Hg1⟩, ⟨Ht2, Hg2⟩, ⟨Ht3, Hg3⟩, ⟨Ht4, Hg4⟩, ⟨Ht5, Hg5⟩⟩ Hk
    iapply (signal_step I K c 0 (dev1_eq c) allCh [1, 2, 3, 4, 5, 6, 7, 8] (by decide) rfl) $$ [HO Ht0 Hg0]
    · isplitr; · iexact HI
      isplitl [HO]; · iexact HO
      isplitl [Ht0]; · iexact Ht0
      iexact Hg0
    iintro HO
    iapply (signal_step I K c 1 (dev2_eq c) allCh [2, 3, 4, 5, 6, 7, 8] (by decide) rfl) $$ [HO Ht1 Hg1]
    · isplitr; · iexact HI
      isplitl [HO]; · iexact HO
      isplitl [Ht1]; · iexact Ht1
      iexact Hg1
    iintro HO
    iapply (signal_step I K c 2 (dev3_eq c) allCh [3, 4, 5, 6, 7, 8] (by decide) rfl) $$ [HO Ht2 Hg2]
    · isplitr; · iexact HI
      isplitl [HO]; · iexact HO
      isplitl [Ht2]; · iexact Ht2
      iexact Hg2
    iintro HO
    iapply (signal_step I K c 3 (dev4_eq c) allCh [4, 5, 6, 7, 8] (by decide) rfl) $$ [HO Ht3 Hg3]
    · isplitr; · iexact HI
      isplitl [HO]; · iexact HO
      isplitl [Ht3]; · iexact Ht3
      iexact Hg3
    iintro HO
    iapply (signal_step I K c 4 (dev5_eq c) allCh [5, 6, 7, 8] (by decide) rfl) $$ [HO Ht4 Hg4]
    · isplitr; · iexact HI
      isplitl [HO]; · iexact HO
      isplitl [Ht4]; · iexact Ht4
      iexact Hg4
    iintro HO
    iapply (signal_step I K c 5 (dev6_eq c) allCh [6, 7, 8] (by decide) rfl) $$ [HO Ht5 Hg5]
    · isplitr; · iexact HI
      isplitl [HO]; · iexact HO
      isplitl [Ht5]; · iexact Ht5
      iexact Hg5
    iintro HO
    rw [wp_ret]; imodintro
    conv => rhs; change Q ⟨c, _, (SemArray.scalar (sig.barrier 0 rfl)), _⟩
    iapply Hk
    iexact HO

/-- The last three barrier signals, and the loads of keys, values and weights. -/
theorem part2 {Q : (Σ' (v34 : FVec F S256x256 .bf16) (v38 : FVec F S256x256 .bf16) (v42 : FVec F S256x256 .bf16) (v46 : FVec F S256x256 .bf16) (v49 : FVec F S512x256 .bf16), FVec F S256x512 .f32) → sProp 𝕄} {v2 : BitVec 32} {v23 : BitVec 32}  :
    iprop(invs I K ∗ ow c (owedB c allCh [6, 7, 8]) ∗ (toSignal 6 c ∗ give 6 c) ∗ (toSignal 7 c ∗ give 7 c) ∗ (toSignal 8 c ∗ give 8 c) ∗ (((c : Thread nD τ).loc cc0_stg2_0) ↦{fullShare} (I c).k) ∗ (((c : Thread nD τ).loc cc0_stg3_0) ↦{fullShare} (I c).v) ∗ (((c : Thread nD τ).loc cc0_stg1_0) ↦{fullShare} (I c).wq) ∗ (((c : Thread nD τ).loc cc0_stg4_0) ↦{fullShare} (I c).wo))
      ⊢ iprop(((ow c (owedC c [.h2, .q2, .s8 0, .s8 1, .s8 2, .s8 3, .s8 4, .s8 5, .s8 6, .g8 0, .g8 1, .g8 2, .g8 3, .g8 4, .g8 5, .g8 6, .gq, .gh]) ∗ (((c : Thread nD τ).loc cc0_stg2_0) ↦{fullShare} (I c).k) ∗ (((c : Thread nD τ).loc cc0_stg3_0) ↦{fullShare} (I c).v) ∗ (((c : Thread nD τ).loc cc0_stg1_0) ↦{fullShare} (I c).wq) ∗ (((c : Thread nD τ).loc cc0_stg4_0) ↦{fullShare} (I c).wo)) -∗ Q ⟨(kb0 (I c)), (kb1 (I c)), (vb0 (I c)), (vb1 (I c)), (wq16 (I c)), (wo32 (I c))⟩) -∗ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 (SemArray.scalar (sig.barrier 0 rfl)) v23) Q) := by
    rw [k0_part2_eq_skeleton]; unfold k0_part2_skel
    simp only [semSignalWord, semWaitWord, Prog.lift, Prog.bind_op, Prog.bind_ret, Prog.pure_eq_ret, wp_deviceId]
    iintro ⟨#HI, HO, ⟨Ht6, Hg6⟩, ⟨Ht7, Hg7⟩, ⟨Ht8, Hg8⟩, Hk2, Hv, Hwq, Hwo⟩ Hk
    iapply (signal_step I K c 6 (dev7_eq c) allCh [7, 8] (by decide) rfl) $$ [HO Ht6 Hg6]
    · isplitr; · iexact HI
      isplitl [HO]; · iexact HO
      isplitl [Ht6]; · iexact Ht6
      iexact Hg6
    iintro HO
    iapply (signal_step I K c 7 (dev8_eq c) allCh [8] (by decide) rfl) $$ [HO Ht7 Hg7]
    · isplitr; · iexact HI
      isplitl [HO]; · iexact HO
      isplitl [Ht7]; · iexact Ht7
      iexact Hg7
    iintro HO
    iapply (signal_step I K c 8 (dev9_eq c) allCh [] (by decide) rfl) $$ [HO Ht8 Hg8]
    · isplitr; · iexact HI
      isplitl [HO]; · iexact HO
      isplitl [Ht8]; · iexact Ht8
      iexact Hg8
    iintro HO
    iapply (load_k c) $$ Hk2; iintro Hk2
    iapply (load_k c) $$ Hk2; iintro Hk2
    iapply (load_v c) $$ Hv; iintro Hv
    iapply (load_v c) $$ Hv; iintro Hv
    iapply (load_wq c) $$ Hwq; iintro Hwq
    iapply (load_wo c) $$ Hwo; iintro Hwo
    rw [wp_ret]; imodintro
    conv => rhs; change Q ⟨(kb0 (I c)), (kb1 (I c)), (vb0 (I c)), (vb1 (I c)), (wq16 (I c)), (wo32 (I c))⟩
    iapply Hk
    isplitl [HO]; · iexact HO
    isplitl [Hk2]; · iexact Hk2
    isplitl [Hv]; · iexact Hv
    isplitl [Hwq]; · iexact Hwq
    iexact Hwo

/-- The first batch row of the activations, loaded. -/
theorem part3 {Q : (Σ' (v52 : FVec F S256x512 .bf16) (v56 : FVec F S256x256 .f32) (v62 : FVec F S256x256 .f32) (v87 : IVec S256x256 32) (v88 : IVec S256x256 32) (c64_i32_56 : BitVec 32) (v90 : IVec S256x256 32) (v93 : IVec S256x256 32), IVec S256x256 1) → sProp 𝕄}   :
    iprop((((c : Thread nD τ).loc cc0_stg0_0) ↦{fullShare} (I c).x))
      ⊢ iprop((((((c : Thread nD τ).loc cc0_stg0_0) ↦{fullShare} (I c).x)) -∗ Q ⟨(wo16 (I c)), (q0 (I c)), (k0_pay9 (kb0 (I c)) (wq16 (I c)) (xb0 (I c))), k0_pay10, iota1, 64#32, k0_pay11, k0_pay12, k0_pay13⟩) -∗ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 (kb0 (I c)) (wq16 (I c)) (wo32 (I c))) Q) := by
    rw [k0_part3_eq_skeleton]; unfold k0_part3_skel
    simp only [semSignalWord, semWaitWord, Prog.lift, Prog.bind_op, Prog.bind_ret, Prog.pure_eq_ret, wp_deviceId]
    iintro Hx Hk
    iapply (load_x c) $$ Hx; iintro Hx
    rw [wp_ret]; imodintro
    conv => rhs; change Q ⟨(wo16 (I c)), (q0 (I c)), (k0_pay9 (kb0 (I c)) (wq16 (I c)) (xb0 (I c))), k0_pay10, iota1, 64#32, k0_pay11, k0_pay12, k0_pay13⟩
    iapply Hk
    iexact Hx

/-- The first head of the first batch row, stored. -/
theorem part4 {Q : (Σ' (v133 : FVec F S256x256 .f32) (v134 : IVec S256x256 32) (c64_i32_70 : BitVec 32) (v136 : IVec S256x256 32) (v139 : IVec S256x256 32), IVec S256x256 32) → sProp 𝕄}  {f : S512x256.Idx → F .bf16} :
    iprop(ctxP c (blk 0 0) f)
      ⊢ iprop(((ctxP c (blk 0 0) (ctx (I c))) -∗ Q ⟨(k0_pay15 (kb0 (I c)) (q0 (I c))), iota0, 64#32, k0_pay16, k0_pay17, k0_pay18⟩) -∗ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 (kb0 (I c)) (vb0 (I c)) (q0 (I c)) (k0_pay9 (kb0 (I c)) (wq16 (I c)) (xb0 (I c))) k0_pay10 iota1 64#32 k0_pay11 k0_pay12 k0_pay13) Q) := by
    rw [k0_part4_eq_skeleton]; unfold k0_part4_skel
    simp only [semSignalWord, semWaitWord, Prog.lift, Prog.bind_op, Prog.bind_ret, Prog.pure_eq_ret, wp_deviceId]
    iintro Hb Hk
    iapply (load_ctxB c (le_of_eq (rect_blk (b := 0) (h := 0) _ rfl rfl))) $$ Hb; iintro Hb
    iapply (store_ctxB c (rect_blk (b := 0) (h := 0) _ rfl rfl) (read_ctx_hd (I c) 0 0 (by decide) (by decide) _ rfl rfl)) $$ Hb; iintro Hb
    rw [wp_ret]; imodintro
    conv => rhs; change Q ⟨(k0_pay15 (kb0 (I c)) (q0 (I c))), iota0, 64#32, k0_pay16, k0_pay17, k0_pay18⟩
    iapply Hk
    iexact Hb

/-- A part without effects. -/
theorem part5 {Q : (FVec F S256x256 .f32) → sProp 𝕄}   :
    (Q (k0_pay19 (k0_pay15 (kb0 (I c)) (q0 (I c))) iota0 64#32 k0_pay16 k0_pay17 k0_pay18) : sProp 𝕄) ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 (k0_pay15 (kb0 (I c)) (q0 (I c))) iota0 64#32 k0_pay16 k0_pay17 k0_pay18) Q := by
    rw [k0_part5_eq_skeleton]; unfold k0_part5_skel
    simp only [semSignalWord, semWaitWord, Prog.lift, Prog.bind_op, Prog.bind_ret, Prog.pure_eq_ret, wp_deviceId]
    rw [wp_ret]; iintro H; imodintro; iexact H

/-- The second head of the first batch row, stored. -/
theorem part6 {Q : (Σ' (v204 : FVec F S256x256 .f32) (v229 : IVec S256x256 32) (v230 : IVec S256x256 32) (c64_i32_97 : BitVec 32) (v232 : IVec S256x256 32), BitVec 32) → sProp 𝕄}  {f : S512x256.Idx → F .bf16} :
    iprop(ctxP c (blk 0 1) f)
      ⊢ iprop(((ctxP c (blk 0 1) (ctx (I c))) -∗ Q ⟨(k0_pay21 (kb0 (I c)) (q0 (I c))), k0_pay22, iota1, 64#32, k0_pay23, 0#32⟩) -∗ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 (kb0 (I c)) (vb0 (I c)) (q0 (I c)) (k0_pay19 (k0_pay15 (kb0 (I c)) (q0 (I c))) iota0 64#32 k0_pay16 k0_pay17 k0_pay18)) Q) := by
    rw [k0_part6_eq_skeleton]; unfold k0_part6_skel
    simp only [semSignalWord, semWaitWord, Prog.lift, Prog.bind_op, Prog.bind_ret, Prog.pure_eq_ret, wp_deviceId]
    iintro Hb Hk
    iapply (load_ctxB c (le_of_eq (rect_blk (b := 0) (h := 1) _ rfl rfl))) $$ Hb; iintro Hb
    iapply (store_ctxB c (rect_blk (b := 0) (h := 1) _ rfl rfl) (read_ctx_hd (I c) 0 1 (by decide) (by decide) _ rfl rfl)) $$ Hb; iintro Hb
    rw [wp_ret]; imodintro
    conv => rhs; change Q ⟨(k0_pay21 (kb0 (I c)) (q0 (I c))), k0_pay22, iota1, 64#32, k0_pay23, 0#32⟩
    iapply Hk
    iexact Hb

/-- The third head of the first batch row, stored. -/
theorem part7 {Q : (Σ' (v275 : FVec F S256x256 .f32) (v276 : IVec S256x256 32) (c64_i32_110 : BitVec 32), IVec S256x256 32) → sProp 𝕄}  {f : S512x256.Idx → F .bf16} :
    iprop(ctxP c (blk 0 2) f)
      ⊢ iprop(((ctxP c (blk 0 2) (ctx (I c))) -∗ Q ⟨(k0_pay25 (kb0 (I c)) (q0 (I c))), iota0, 64#32, k0_pay26⟩) -∗ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 (kb0 (I c)) (vb0 (I c)) (q0 (I c)) (k0_pay21 (kb0 (I c)) (q0 (I c))) k0_pay22 iota1 64#32 k0_pay23 0#32) Q) := by
    rw [k0_part7_eq_skeleton]; unfold k0_part7_skel
    simp only [semSignalWord, semWaitWord, Prog.lift, Prog.bind_op, Prog.bind_ret, Prog.pure_eq_ret, wp_deviceId]
    iintro Hb Hk
    iapply (load_ctxB c (le_of_eq (rect_blk (b := 0) (h := 2) _ rfl rfl))) $$ Hb; iintro Hb
    iapply (store_ctxB c (rect_blk (b := 0) (h := 2) _ rfl rfl) (read_ctx_hd (I c) 0 2 (by decide) (by decide) _ rfl rfl)) $$ Hb; iintro Hb
    rw [wp_ret]; imodintro
    conv => rhs; change Q ⟨(k0_pay25 (kb0 (I c)) (q0 (I c))), iota0, 64#32, k0_pay26⟩
    iapply Hk
    iexact Hb

/-- A part without effects. -/
theorem part8 {Q : (Σ' (v300 : IVec S256x256 32), IVec S256x256 32) → sProp 𝕄}   :
    (Q ⟨(k0_pay27 iota0 64#32 k0_pay26), k0_pay28⟩ : sProp 𝕄) ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 iota0 64#32 k0_pay26) Q := by
    rw [k0_part8_eq_skeleton]; unfold k0_part8_skel
    simp only [semSignalWord, semWaitWord, Prog.lift, Prog.bind_op, Prog.bind_ret, Prog.pure_eq_ret, wp_deviceId]
    rw [wp_ret]; iintro H; imodintro; iexact H

/-- The last head of the first batch row, stored, and the second batch row loaded. -/
theorem part9 {Q : (Σ' (v344 : FVec F S256x256 .f32) (v350 : FVec F S256x256 .f32) (v351 : IVec S256x256 32) (v353 : IVec S256x256 32) (v367 : IVec S256x256 1), IVec S256x256 32) → sProp 𝕄}  {f : S512x256.Idx → F .bf16} :
    iprop(ctxP c (blk 0 3) f ∗ (((c : Thread nD τ).loc cc0_stg0_0) ↦{fullShare} (I c).x))
      ⊢ iprop(((ctxP c (blk 0 3) (ctx (I c)) ∗ (((c : Thread nD τ).loc cc0_stg0_0) ↦{fullShare} (I c).x)) -∗ Q ⟨(q1 (I c)), (k0_pay31 (kb1 (I c)) (wq16 (I c)) (xb1 (I c))), iota0, k0_pay32, k0_pay33, k0_pay34⟩) -∗ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 (kb1 (I c)) (vb0 (I c)) (wq16 (I c)) (k0_pay25 (kb0 (I c)) (q0 (I c))) (k0_pay27 iota0 64#32 k0_pay26) k0_pay28) Q) := by
    rw [k0_part9_eq_skeleton]; unfold k0_part9_skel
    simp only [semSignalWord, semWaitWord, Prog.lift, Prog.bind_op, Prog.bind_ret, Prog.pure_eq_ret, wp_deviceId]
    iintro ⟨Hb, Hx⟩ Hk
    iapply (load_ctxB c (le_of_eq (rect_blk (b := 0) (h := 3) _ rfl rfl))) $$ Hb; iintro Hb
    iapply (store_ctxB c (rect_blk (b := 0) (h := 3) _ rfl rfl) (read_ctx_hd (I c) 0 3 (by decide) (by decide) _ rfl rfl)) $$ Hb; iintro Hb
    iapply (load_x c) $$ Hx; iintro Hx
    rw [wp_ret]; imodintro
    conv => rhs; change Q ⟨(q1 (I c)), (k0_pay31 (kb1 (I c)) (wq16 (I c)) (xb1 (I c))), iota0, k0_pay32, k0_pay33, k0_pay34⟩
    iapply Hk
    isplitl [Hb]; · iexact Hb
    iexact Hx

/-- A load whose value is not used. -/
theorem part10 {Q : (FVec F S256x64 .bf16) → sProp 𝕄}  {f : S512x256.Idx → F .bf16} :
    iprop(ctxP c (blk 1 0) f)
      ⊢ iprop(((ctxP c (blk 1 0) f) -∗ Q (k0_pay35 (vb1 (I c)) (k0_pay31 (kb1 (I c)) (wq16 (I c)) (xb1 (I c))) iota0 k0_pay32 k0_pay33 k0_pay34)) -∗ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 (vb1 (I c)) (k0_pay31 (kb1 (I c)) (wq16 (I c)) (xb1 (I c))) iota0 k0_pay32 k0_pay33 k0_pay34) Q) := by
    rw [k0_part10_eq_skeleton]; unfold k0_part10_skel
    simp only [semSignalWord, semWaitWord, Prog.lift, Prog.bind_op, Prog.bind_ret, Prog.pure_eq_ret, wp_deviceId]
    iintro Hb Hk
    iapply (load_ctxB c (le_of_eq (rect_blk (b := 1) (h := 0) _ rfl rfl))) $$ Hb; iintro Hb
    rw [wp_ret]; imodintro
    conv => rhs; change Q (k0_pay35 (vb1 (I c)) (k0_pay31 (kb1 (I c)) (wq16 (I c)) (xb1 (I c))) iota0 k0_pay32 k0_pay33 k0_pay34)
    iapply Hk
    iexact Hb

/-- The first head of the second batch row, stored. -/
theorem part11 {Q : (Σ' (v421 : FVec F S256x256 .f32) (v446 : IVec S256x256 32) (v447 : IVec S256x256 32) (c64_i32_161 : BitVec 32) (v449 : IVec S256x256 32) (v456 : IVec S256x256 32) (v458 : BitVec 32), BitVec 1) → sProp 𝕄}  {f : S512x256.Idx → F .bf16} :
    iprop(ctxP c (blk 1 0) f)
      ⊢ iprop(((ctxP c (blk 1 0) (ctx (I c))) -∗ Q ⟨(k0_pay37 (kb1 (I c)) (q1 (I c))), k0_pay38, iota1, 64#32, k0_pay39, k0_pay40, w64, (Scalar.cmpi .slt 64#32 0#32)⟩) -∗ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 (kb1 (I c)) (q1 (I c)) (k0_pay35 (vb1 (I c)) (k0_pay31 (kb1 (I c)) (wq16 (I c)) (xb1 (I c))) iota0 k0_pay32 k0_pay33 k0_pay34)) Q) := by
    rw [k0_part11_eq_skeleton]; unfold k0_part11_skel
    simp only [semSignalWord, semWaitWord, Prog.lift, Prog.bind_op, Prog.bind_ret, Prog.pure_eq_ret, wp_deviceId]
    iintro Hb Hk
    iapply (store_ctxB c (rect_blk (b := 1) (h := 0) _ rfl rfl) (read_ctx_hd (I c) 1 0 (by decide) (by decide) _ rfl rfl)) $$ Hb; iintro Hb
    rw [wp_ret]; imodintro
    conv => rhs; change Q ⟨(k0_pay37 (kb1 (I c)) (q1 (I c))), k0_pay38, iota1, 64#32, k0_pay39, k0_pay40, w64, (Scalar.cmpi .slt 64#32 0#32)⟩
    iapply Hk
    iexact Hb

/-- The second head of the second batch row, stored. -/
theorem part12 {Q : (Σ' (v492 : FVec F S256x256 .f32) (v493 : IVec S256x256 32) (c64_i32_175 : BitVec 32) (v495 : IVec S256x256 32) (v502 : IVec S256x256 32) (v504 : BitVec 32), BitVec 32) → sProp 𝕄}  {f : S512x256.Idx → F .bf16} :
    iprop(ctxP c (blk 1 1) f)
      ⊢ iprop(((ctxP c (blk 1 1) (ctx (I c))) -∗ Q ⟨(k0_pay42 (kb1 (I c)) (q1 (I c))), iota0, 64#32, k0_pay43, k0_pay44, w64, 0#32⟩) -∗ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 (kb1 (I c)) (vb1 (I c)) (q1 (I c)) (k0_pay37 (kb1 (I c)) (q1 (I c))) k0_pay38 iota1 64#32 k0_pay39 k0_pay40 w64 (Scalar.cmpi .slt 64#32 0#32)) Q) := by
    rw [k0_part12_eq_skeleton]; unfold k0_part12_skel
    simp only [semSignalWord, semWaitWord, Prog.lift, Prog.bind_op, Prog.bind_ret, Prog.pure_eq_ret, wp_deviceId]
    iintro Hb Hk
    iapply (load_ctxB c (le_of_eq (rect_blk (b := 1) (h := 1) _ rfl rfl))) $$ Hb; iintro Hb
    iapply (store_ctxB c (rect_blk (b := 1) (h := 1) _ rfl rfl) (read_ctx_hd (I c) 1 1 (by decide) (by decide) _ rfl rfl)) $$ Hb; iintro Hb
    rw [wp_ret]; imodintro
    conv => rhs; change Q ⟨(k0_pay42 (kb1 (I c)) (q1 (I c))), iota0, 64#32, k0_pay43, k0_pay44, w64, 0#32⟩
    iapply Hk
    iexact Hb

/-- A part without effects. -/
theorem part13 {Q : (Σ' (v551 : FVec F S256x256 .bf16) (v552 : FVec F S256x64 .bf16), FVec F S256x64 .f32) → sProp 𝕄}   :
    (Q ⟨(k0_pay45 (k0_pay42 (kb1 (I c)) (q1 (I c))) iota0 64#32 k0_pay43 k0_pay44 w64 0#32), (k0_pay46 (vb1 (I c))), (constant S256x64 .f32 0x00000000#32)⟩ : sProp 𝕄) ⊢ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 (vb1 (I c)) (k0_pay42 (kb1 (I c)) (q1 (I c))) iota0 64#32 k0_pay43 k0_pay44 w64 0#32) Q := by
    rw [k0_part13_eq_skeleton]; unfold k0_part13_skel
    simp only [semSignalWord, semWaitWord, Prog.lift, Prog.bind_op, Prog.bind_ret, Prog.pure_eq_ret, wp_deviceId]
    rw [wp_ret]; iintro H; imodintro; iexact H

/-- The third head of the second batch row, stored. -/
theorem part14 {Q : (Σ' (v563 : FVec F S256x256 .f32) (v588 : IVec S256x256 32) (v589 : IVec S256x256 32) (c64_i32_203 : BitVec 32) (v591 : IVec S256x256 32) (v594 : IVec S256x256 32), IVec S256x256 32) → sProp 𝕄}  {f : S512x256.Idx → F .bf16} :
    iprop(ctxP c (blk 1 2) f)
      ⊢ iprop(((ctxP c (blk 1 2) (ctx (I c))) -∗ Q ⟨(k0_pay48 (kb1 (I c)) (q1 (I c))), k0_pay49, iota1, 64#32, k0_pay50, k0_pay51, k0_pay52⟩) -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 (kb1 (I c)) (q1 (I c)) (k0_pay45 (k0_pay42 (kb1 (I c)) (q1 (I c))) iota0 64#32 k0_pay43 k0_pay44 w64 0#32) (k0_pay46 (vb1 (I c))) (constant S256x64 .f32 0x00000000#32)) Q) := by
    rw [k0_part14_eq_skeleton]; unfold k0_part14_skel
    simp only [semSignalWord, semWaitWord, Prog.lift, Prog.bind_op, Prog.bind_ret, Prog.pure_eq_ret, wp_deviceId]
    iintro Hb Hk
    iapply (load_ctxB c (le_of_eq (rect_blk (b := 1) (h := 2) _ rfl rfl))) $$ Hb; iintro Hb
    iapply (store_ctxB c (rect_blk (b := 1) (h := 2) _ rfl rfl) (read_ctx_hd (I c) 1 2 (by decide) (by decide) _ rfl rfl)) $$ Hb; iintro Hb
    rw [wp_ret]; imodintro
    conv => rhs; change Q ⟨(k0_pay48 (kb1 (I c)) (q1 (I c))), k0_pay49, iota1, 64#32, k0_pay50, k0_pay51, k0_pay52⟩
    iapply Hk
    iexact Hb

/-- The last head stored; the half to send, loaded. -/
theorem part15 {Q : (Σ' (v631 : BitVec 32) (v638 : FVec F S256x512 .bf16), Vec F S256x512 .bf16) → sProp 𝕄} {v2 : BitVec 32} {f : S512x256.Idx → F .bf16} {g : S512x512.Idx → F .bf16} :
    iprop(ctxP c (blk 0 0) (ctx (I c)) ∗ ctxP c (blk 0 1) (ctx (I c)) ∗ ctxP c (blk 0 2) (ctx (I c)) ∗ ctxP c (blk 0 3) (ctx (I c)) ∗ ctxP c (blk 1 0) (ctx (I c)) ∗ ctxP c (blk 1 1) (ctx (I c)) ∗ ctxP c (blk 1 2) (ctx (I c)) ∗ ctxP c (blk 1 3) f ∗ accP c (half (pr 0 c)) g)
      ⊢ iprop((∀ v631 v640, ((((c : Thread nD τ).loc cc0_scratch0) ↦{fullShare} ctx (I c)) ∗ accP c (half (pr 0 c)) g) -∗ Q ⟨v631, (k0_pay54 (wo16 (I c)) (ctxM.view.readAt (Elt F) (Rect.unit (s := S512x256) (k0_off1 c) S256x256.size (k0_off1_inb c)).toLoadRect (ctx (I c)))), v640⟩) -∗ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 (vb1 (I c)) (wo16 (I c)) (k0_pay48 (kb1 (I c)) (q1 (I c))) k0_pay49 iota1 64#32 k0_pay50 k0_pay51 k0_pay52) Q) := by
    rw [k0_part15_eq_skeleton]; unfold k0_part15_skel
    simp only [semSignalWord, semWaitWord, Prog.lift, Prog.bind_op, Prog.bind_ret, Prog.pure_eq_ret, wp_deviceId]
    iintro ⟨Hb00, Hb01, Hb02, Hb03, Hb10, Hb11, Hb12, Hb, Hap⟩ Hk
    iapply (load_ctxB c (le_of_eq (rect_blk (b := 1) (h := 3) _ rfl rfl))) $$ Hb; iintro Hb
    iapply (store_ctxB c (rect_blk (b := 1) (h := 3) _ rfl rfl) (read_ctx_hd (I c) 1 3 (by decide) (by decide) _ rfl rfl)) $$ Hb; iintro Hb
    ihave Hc := (show iprop(ctxP c (blk 0 0) (ctx (I c)) ∗ ctxP c (blk 0 1) (ctx (I c)) ∗ ctxP c (blk 0 2) (ctx (I c)) ∗ ctxP c (blk 0 3) (ctx (I c)) ∗ ctxP c (blk 1 0) (ctx (I c)) ∗ ctxP c (blk 1 1) (ctx (I c)) ∗ ctxP c (blk 1 2) (ctx (I c)) ∗ ctxP c (blk 1 3) (ctx (I c))) ⊢ (((c : Thread nD τ).loc cc0_scratch0) ↦{fullShare} ctx (I c) : sProp 𝕄) from by rw [ctx_blks, bigSep_24]; exact .rfl) $$ [Hb00 Hb01 Hb02 Hb03 Hb10 Hb11 Hb12 Hb]
    · isplitl [Hb00]; · iexact Hb00
      isplitl [Hb01]; · iexact Hb01
      isplitl [Hb02]; · iexact Hb02
      isplitl [Hb03]; · iexact Hb03
      isplitl [Hb10]; · iexact Hb10
      isplitl [Hb11]; · iexact Hb11
      isplitl [Hb12]; · iexact Hb12
      iexact Hb
    iapply (load_ctx c) $$ Hc; iintro Hc
    iapply (load_acc c (le_of_eq (rect_rows _ (off2_eq c) rfl))) $$ Hap; iintro Hap
    rw [wp_ret]; imodintro
    conv => rhs; change Q ⟨_, (k0_pay54 (wo16 (I c)) (ctxM.view.readAt (Elt F) (Rect.unit (s := S512x256) (k0_off1 c) S256x256.size (k0_off1_inb c)).toLoadRect (ctx (I c)))), _⟩
    iapply Hk
    isplitl [Hc]; · iexact Hc
    iexact Hap

end Cert.Attn
-- ==== Proof.PartsB.lean ====
/-
The printed parts of the body that sum the products over the devices.
-/
module

public import proofs.«01_k».proof.Proof.Bundles

@[expose] public section

noncomputable section

namespace Cert.Attn

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : GSem nD τ sig → ℕ) (c : Dev nD)

/-- The half of the product stored; the barrier; the first exchange. -/
theorem part16 {Q : (Σ' (v669 : FVec F S256x512 .bf16), Vec F S256x512 .bf16) → sProp 𝕄} {v2 : BitVec 32} {v631 : BitVec 32} {v640 : Vec F S256x512 .bf16} {g : S512x512.Idx → F .bf16} :
    iprop(invs I K ∗ levAts L lv ∗ ow c (owedC c [.h2, .q2, .s8 0, .s8 1, .s8 2, .s8 3, .s8 4, .s8 5, .s8 6, .g8 0, .g8 1, .g8 2, .g8 3, .g8 4, .g8 5, .g8 6, .gq, .gh]) ∗ cred (tallyAt (barCell c) () 9) ∗ atPos ER (barCell c) 0 ∅ 0 ∗ toSend (.h2) c ∗ toRecv (.h2) c ∗ accP c (half (pr 0 c)) g ∗ accP c (half c) g ∗ (((c : Thread nD τ).loc cc0_scratch0) ↦{fullShare} ctx (I c)))
      ⊢ iprop((∀ v671, (ow c (owedC c [.q2, .s8 0, .s8 1, .s8 2, .s8 3, .s8 4, .s8 5, .s8 6, .g8 0, .g8 1, .g8 2, .g8 3, .g8 4, .g8 5, .g8 6, .gq, .gh]) ∗ sent (.h2) c ∗ semVal (barCell c) 0 ∗ semVal (rCell (.h2) c) 0 ∗ dstG0 c ∗ dst1 c ∗ dstG1 c ∗ bigSep Finset.univ (fun k : Fin 7 => dstK k c) ∗ bigSep Finset.univ (fun k : Fin 7 => dstGK k c) ∗ accP c (half c) (prod0 (I c)) ∗ rsP c (rowsR 0 256) (land2 I c) ∗ (((c : Thread nD τ).loc cc0_scratch0) ↦{fullShare} ctx (I c))) -∗ Q ⟨(val669 I c), v671⟩) -∗ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 (SemArray.scalar (sig.barrier 0 rfl)) (wo16 (I c)) v631 (k0_pay54 (wo16 (I c)) (ctxM.view.readAt (Elt F) (Rect.unit (s := S512x256) (k0_off1 c) S256x256.size (k0_off1_inb c)).toLoadRect (ctx (I c)))) v640) Q) := by
    rw [k0_part16_eq_skeleton]; unfold k0_part16_skel
    simp only [semSignalWord, semWaitWord, Prog.lift, Prog.bind_op, Prog.bind_ret, Prog.pure_eq_ret, wp_deviceId]
    iintro ⟨#HI, #Hl, HO, Hcb, Hab, Hts_h2, Htr_h2, Hap, Ha, Hc⟩ Hk
    iapply (store_acc c (rect_rows _ (off2_eq c) rfl) (read_half2 I c)) $$ Hap; iintro Hap
    iapply (barrier_step I K c (by decide) rfl) $$ [HO Hcb Hab]
    · isplitr; · iexact HI
      isplitr; · iexact Hl
      isplitl [HO]; · iexact HO
      isplitl [Hcb]; · iexact Hcb
      iexact Hab
    iintro ⟨HO, Hgs, Hzb⟩
    ihave Hgs := (gives_split c) $$ Hgs
    icases Hgs with ⟨⟨Hd0, Hr0⟩, Hg0, Hd1, Hg1, Hdk, Hgk⟩
    iapply (send_h2 I K c [.q2, .s8 0, .s8 1, .s8 2, .s8 3, .s8 4, .s8 5, .s8 6, .g8 0, .g8 1, .g8 2, .g8 3, .g8 4, .g8 5, .g8 6, .gq, .gh] (dev10_eq c) rfl rfl) $$ [HO Hts_h2 Hr0 Hap Hd0]
    · isplitr; · iexact HI
      isplitl [HO]; · iexact HO
      isplitl [Hts_h2]; · iexact Hts_h2
      isplitl [Hr0]; · iexact Hr0
      isplitl [Hap]; · iexact Hap
      iexact Hd0
    iintro ⟨HO, Hst_h2⟩
    iapply (load_ctx c) $$ Hc; iintro Hc
    iapply (load_acc c (le_of_eq (rect_rows _ (off5_eq c) rfl))) $$ Ha; iintro Ha
    iapply (store_acc c (rect_rows _ (off5_eq c) rfl) (read_half5 I c)) $$ Ha; iintro Ha
    iapply (recv_as I K c (.h2) [.q2, .s8 0, .s8 1, .s8 2, .s8 3, .s8 4, .s8 5, .s8 6, .g8 0, .g8 1, .g8 2, .g8 3, .g8 4, .g8 5, .g8 6, .gq, .gh] (by decide) rfl rfl (rsP c (rowsR 0 256) (land2 I c)) rfl) $$ [HO Htr_h2]
    · isplitr; · iexact HI
      isplitr; · iexact Hl
      isplitl [HO]; · iexact HO
      iexact Htr_h2
    iintro ⟨HO, Hr0, Hzr_h2⟩
    iapply (load_acc c (le_of_eq (rect_rows _ (off5_eq c) rfl))) $$ Ha; iintro Ha
    iapply (load_rs c (le_of_eq (rect_rowsR _ rfl rfl))) $$ Hr0; iintro Hr0
    iapply (load_acc c (le_of_eq (rect_rows _ (off5_eq c) rfl))) $$ Ha; iintro Ha
    rw [wp_ret]; imodintro
    conv => rhs; change Q ⟨(val669 I c), _⟩
    iapply Hk
    isplitl [HO]; · iexact HO
    isplitl [Hst_h2]; · iexact Hst_h2
    isplitl [Hzb]; · iexact Hzb
    isplitl [Hzr_h2]; · iexact Hzr_h2
    isplitl [Hg0]; · iexact Hg0
    isplitl [Hd1]; · iexact Hd1
    isplitl [Hg1]; · iexact Hg1
    isplitl [Hdk]; · iexact Hdk
    isplitl [Hgk]; · iexact Hgk
    isplitl [Ha]; · iexact Ha
    isplitl [Hr0]; · iexact Hr0
    iexact Hc

/-- The pair sum stored; the second exchange. -/
theorem part17 {Q : (Σ' (v678 : BitVec 32), FVec F S128x512 .bf16) → sProp 𝕄} {v2 : BitVec 32} {v631 : BitVec 32} {v671 : Vec F S256x512 .bf16}  :
    iprop(invs I K ∗ levAts L lv ∗ ow c (owedC c [.q2, .s8 0, .s8 1, .s8 2, .s8 3, .s8 4, .s8 5, .s8 6, .g8 0, .g8 1, .g8 2, .g8 3, .g8 4, .g8 5, .g8 6, .gq, .gh]) ∗ toSend (.q2) c ∗ toRecv (.q2) c ∗ dst1 c ∗ accP c (half c) (prod0 (I c)))
      ⊢ iprop((∀ v678, (ow c (owedC c [.s8 0, .s8 1, .s8 2, .s8 3, .s8 4, .s8 5, .s8 6, .g8 0, .g8 1, .g8 2, .g8 3, .g8 4, .g8 5, .g8 6, .gq, .gh]) ∗ sent (.q2) c ∗ semVal (rCell (.q2) c) 0 ∗ accP c (quart c) (sum2 I c) ∗ rsP c (rowsR 256 128) (land2 I c)) -∗ Q ⟨v678, (val701 I c)⟩) -∗ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v631 (val669 I c) v671) Q) := by
    rw [k0_part17_eq_skeleton]; unfold k0_part17_skel
    simp only [semSignalWord, semWaitWord, Prog.lift, Prog.bind_op, Prog.bind_ret, Prog.pure_eq_ret, wp_deviceId]
    iintro ⟨#HI, #Hl, HO, Hts_q2, Htr_q2, ⟨Hd1, Hr1⟩, Ha⟩ Hk
    iapply (store_acc c (rect_rows _ (off5_eq c) rfl) (read_sum2 I c _ _ _)) $$ Ha; iintro Ha
    ihave Ha := (Entails.of_eq (acc_quarts c (sum2 I c))) $$ Ha
    icases Ha with ⟨Ha, Haq⟩
    iapply (send_q2 I K c [.s8 0, .s8 1, .s8 2, .s8 3, .s8 4, .s8 5, .s8 6, .g8 0, .g8 1, .g8 2, .g8 3, .g8 4, .g8 5, .g8 6, .gq, .gh] (dev11_eq c) rfl rfl) $$ [HO Hts_q2 Hr1 Haq Hd1]
    · isplitr; · iexact HI
      isplitl [HO]; · iexact HO
      isplitl [Hts_q2]; · iexact Hts_q2
      isplitl [Hr1]; · iexact Hr1
      isplitl [Haq]; · iexact Haq
      iexact Hd1
    iintro ⟨HO, Hst_q2⟩
    iapply (recv_as I K c (.q2) [.s8 0, .s8 1, .s8 2, .s8 3, .s8 4, .s8 5, .s8 6, .g8 0, .g8 1, .g8 2, .g8 3, .g8 4, .g8 5, .g8 6, .gq, .gh] (by decide) rfl rfl (rsP c (rowsR 256 128) (land2 I c)) rfl) $$ [HO Htr_q2]
    · isplitr; · iexact HI
      isplitr; · iexact Hl
      isplitl [HO]; · iexact HO
      iexact Htr_q2
    iintro ⟨HO, Hr1, Hzr_q2⟩
    iapply (load_acc c (le_of_eq (rect_rows _ (off7_eq c) rfl))) $$ Ha; iintro Ha
    iapply (load_rs c (le_of_eq (rect_rowsR _ rfl rfl))) $$ Hr1; iintro Hr1
    iapply (load_acc c (le_of_eq (rect_rows _ (off7_eq c) rfl))) $$ Ha; iintro Ha
    rw [wp_ret]; imodintro
    conv => rhs; change Q ⟨_, (val701 I c)⟩
    iapply Hk
    isplitl [HO]; · iexact HO
    isplitl [Hst_q2]; · iexact Hst_q2
    isplitl [Hzr_q2]; · iexact Hzr_q2
    isplitl [Ha]; · iexact Ha
    iexact Hr1

/-- The sum over four stored; the first of the seven sixteen-row copies. -/
theorem part18 {Q : (Σ' (v707 : BitVec 32) (v710 : BitVec 32) (v715 : BitVec 32), BitVec 32) → sProp 𝕄} {v2 : BitVec 32} {v678 : BitVec 32}  :
    iprop(invs I K ∗ ow c (owedC c [.s8 0, .s8 1, .s8 2, .s8 3, .s8 4, .s8 5, .s8 6, .g8 0, .g8 1, .g8 2, .g8 3, .g8 4, .g8 5, .g8 6, .gq, .gh]) ∗ toSend (.s8 0) c ∗ dstK 0 c ∗ accP c (quart c) (sum2 I c))
      ⊢ iprop((∀ v707 v710 v715 v729, (ow c (owedC c [.s8 1, .s8 2, .s8 3, .s8 4, .s8 5, .s8 6, .g8 0, .g8 1, .g8 2, .g8 3, .g8 4, .g8 5, .g8 6, .gq, .gh]) ∗ sent (.s8 0) c ∗ accP c (chunk c) (sum4 I c) ∗ accP c (chunk (pr (gp 1) c)) (sum4 I c) ∗ accP c (chunk (pr (gp 2) c)) (sum4 I c) ∗ accP c (chunk (pr (gp 3) c)) (sum4 I c) ∗ accP c (chunk (pr (gp 4) c)) (sum4 I c) ∗ accP c (chunk (pr (gp 5) c)) (sum4 I c) ∗ accP c (chunk (pr (gp 6) c)) (sum4 I c)) -∗ Q ⟨v707, v710, v715, v729⟩) -∗ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v678 (val701 I c)) Q) := by
    rw [k0_part18_eq_skeleton]; unfold k0_part18_skel
    simp only [semSignalWord, semWaitWord, Prog.lift, Prog.bind_op, Prog.bind_ret, Prog.pure_eq_ret, wp_deviceId]
    iintro ⟨#HI, HO, Hts_s80, ⟨Hdk0, Hrk0⟩, Ha⟩ Hk
    iapply (store_acc c (rect_rows _ (off7_eq c) rfl) (read_sum4 I c _ _ _)) $$ Ha; iintro Ha
    ihave Ha := (Entails.of_eq (acc_chunks c (sum4 I c))) $$ Ha
    icases Ha with ⟨Ha, Hak⟩
    ihave Hak := (Entails.of_eq (bigSep_7 fun k : Fin 7 => accP c (chunk (pr (gp k) c)) (sum4 I c))) $$ Hak
    icases Hak with ⟨Hak0, Hak1, Hak2, Hak3, Hak4, Hak5, Hak6⟩
    iapply (send_s8 I K c [.s8 1, .s8 2, .s8 3, .s8 4, .s8 5, .s8 6, .g8 0, .g8 1, .g8 2, .g8 3, .g8 4, .g8 5, .g8 6, .gq, .gh] 0 (dev12_eq c) rfl rfl (w := 1#32) rfl (m := 0) rfl) $$ [HO Hts_s80 Hrk0 Hak0 Hdk0]
    · isplitr; · iexact HI
      isplitl [HO]; · iexact HO
      isplitl [Hts_s80]; · iexact Hts_s80
      isplitl [Hrk0]; · iexact Hrk0
      isplitl [Hak0]; · iexact Hak0
      iexact Hdk0
    iintro ⟨HO, Hst_s80⟩
    rw [wp_ret]; imodintro
    conv => rhs; change Q ⟨_, _, _, _⟩
    iapply Hk
    isplitl [HO]; · iexact HO
    isplitl [Hst_s80]; · iexact Hst_s80
    isplitl [Ha]; · iexact Ha
    isplitl [Hak1]; · iexact Hak1
    isplitl [Hak2]; · iexact Hak2
    isplitl [Hak3]; · iexact Hak3
    isplitl [Hak4]; · iexact Hak4
    isplitl [Hak5]; · iexact Hak5
    iexact Hak6

/-- Three of the seven copies. -/
theorem part19 {Q : (Σ' (v743 : BitVec 32), BitVec 32) → sProp 𝕄} {v2 : BitVec 32} {v678 : BitVec 32} {v707 : BitVec 32}  :
    iprop(invs I K ∗ ow c (owedC c [.s8 1, .s8 2, .s8 3, .s8 4, .s8 5, .s8 6, .g8 0, .g8 1, .g8 2, .g8 3, .g8 4, .g8 5, .g8 6, .gq, .gh]) ∗ toSend (.s8 1) c ∗ dstK 1 c ∗ accP c (chunk (pr (gp 1) c)) (sum4 I c) ∗ toSend (.s8 2) c ∗ dstK 2 c ∗ accP c (chunk (pr (gp 2) c)) (sum4 I c) ∗ toSend (.s8 3) c ∗ dstK 3 c ∗ accP c (chunk (pr (gp 3) c)) (sum4 I c))
      ⊢ iprop((∀ v743 v757, (ow c (owedC c [.s8 4, .s8 5, .s8 6, .g8 0, .g8 1, .g8 2, .g8 3, .g8 4, .g8 5, .g8 6, .gq, .gh]) ∗ sent (.s8 1) c ∗ sent (.s8 2) c ∗ sent (.s8 3) c) -∗ Q ⟨v743, v757⟩) -∗ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v678 v707) Q) := by
    rw [k0_part19_eq_skeleton]; unfold k0_part19_skel
    simp only [semSignalWord, semWaitWord, Prog.lift, Prog.bind_op, Prog.bind_ret, Prog.pure_eq_ret, wp_deviceId]
    iintro ⟨#HI, HO, Hts_s81, ⟨Hdk1, Hrk1⟩, Hak1, Hts_s82, ⟨Hdk2, Hrk2⟩, Hak2, Hts_s83, ⟨Hdk3, Hrk3⟩, Hak3⟩ Hk
    iapply (send_s8 I K c [.s8 2, .s8 3, .s8 4, .s8 5, .s8 6, .g8 0, .g8 1, .g8 2, .g8 3, .g8 4, .g8 5, .g8 6, .gq, .gh] 1 (dev13_eq c) rfl rfl (w := 2#32) rfl (m := 1) rfl) $$ [HO Hts_s81 Hrk1 Hak1 Hdk1]
    · isplitr; · iexact HI
      isplitl [HO]; · iexact HO
      isplitl [Hts_s81]; · iexact Hts_s81
      isplitl [Hrk1]; · iexact Hrk1
      isplitl [Hak1]; · iexact Hak1
      iexact Hdk1
    iintro ⟨HO, Hst_s81⟩
    iapply (send_s8 I K c [.s8 3, .s8 4, .s8 5, .s8 6, .g8 0, .g8 1, .g8 2, .g8 3, .g8 4, .g8 5, .g8 6, .gq, .gh] 2 (dev14_eq c) rfl rfl (w := 3#32) rfl (m := 2) rfl) $$ [HO Hts_s82 Hrk2 Hak2 Hdk2]
    · isplitr; · iexact HI
      isplitl [HO]; · iexact HO
      isplitl [Hts_s82]; · iexact Hts_s82
      isplitl [Hrk2]; · iexact Hrk2
      isplitl [Hak2]; · iexact Hak2
      iexact Hdk2
    iintro ⟨HO, Hst_s82⟩
    iapply (send_s8 I K c [.s8 4, .s8 5, .s8 6, .g8 0, .g8 1, .g8 2, .g8 3, .g8 4, .g8 5, .g8 6, .gq, .gh] 3 (dev15_eq c) rfl rfl (w := 4#32) rfl (m := 3) rfl) $$ [HO Hts_s83 Hrk3 Hak3 Hdk3]
    · isplitr; · iexact HI
      isplitl [HO]; · iexact HO
      isplitl [Hts_s83]; · iexact Hts_s83
      isplitl [Hrk3]; · iexact Hrk3
      isplitl [Hak3]; · iexact Hak3
      iexact Hdk3
    iintro ⟨HO, Hst_s83⟩
    rw [wp_ret]; imodintro
    conv => rhs; change Q ⟨_, _⟩
    iapply Hk
    isplitl [HO]; · iexact HO
    isplitl [Hst_s81]; · iexact Hst_s81
    isplitl [Hst_s82]; · iexact Hst_s82
    iexact Hst_s83

/-- Two more of the seven copies. -/
theorem part20 {Q : (Σ' (v771 : BitVec 32) (v785 : BitVec 32) (v799 : BitVec 32) (v800 : BitVec 32), BitVec 32) → sProp 𝕄} {v2 : BitVec 32} {v678 : BitVec 32} {v707 : BitVec 32}  :
    iprop(invs I K ∗ ow c (owedC c [.s8 4, .s8 5, .s8 6, .g8 0, .g8 1, .g8 2, .g8 3, .g8 4, .g8 5, .g8 6, .gq, .gh]) ∗ toSend (.s8 4) c ∗ dstK 4 c ∗ accP c (chunk (pr (gp 4) c)) (sum4 I c) ∗ toSend (.s8 5) c ∗ dstK 5 c ∗ accP c (chunk (pr (gp 5) c)) (sum4 I c))
      ⊢ iprop((∀ v771 v785 v799 v800, (ow c (owedC c [.s8 6, .g8 0, .g8 1, .g8 2, .g8 3, .g8 4, .g8 5, .g8 6, .gq, .gh]) ∗ sent (.s8 4) c ∗ sent (.s8 5) c) -∗ Q ⟨v771, v785, v799, v800, 0#32⟩) -∗ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v678 v707) Q) := by
    rw [k0_part20_eq_skeleton]; unfold k0_part20_skel
    simp only [semSignalWord, semWaitWord, Prog.lift, Prog.bind_op, Prog.bind_ret, Prog.pure_eq_ret, wp_deviceId]
    iintro ⟨#HI, HO, Hts_s84, ⟨Hdk4, Hrk4⟩, Hak4, Hts_s85, ⟨Hdk5, Hrk5⟩, Hak5⟩ Hk
    iapply (send_s8 I K c [.s8 5, .s8 6, .g8 0, .g8 1, .g8 2, .g8 3, .g8 4, .g8 5, .g8 6, .gq, .gh] 4 (dev16_eq c) rfl rfl (w := 5#32) rfl (m := 4) rfl) $$ [HO Hts_s84 Hrk4 Hak4 Hdk4]
    · isplitr; · iexact HI
      isplitl [HO]; · iexact HO
      isplitl [Hts_s84]; · iexact Hts_s84
      isplitl [Hrk4]; · iexact Hrk4
      isplitl [Hak4]; · iexact Hak4
      iexact Hdk4
    iintro ⟨HO, Hst_s84⟩
    iapply (send_s8 I K c [.s8 6, .g8 0, .g8 1, .g8 2, .g8 3, .g8 4, .g8 5, .g8 6, .gq, .gh] 5 (dev17_eq c) rfl rfl (w := 6#32) rfl (m := 5) rfl) $$ [HO Hts_s85 Hrk5 Hak5 Hdk5]
    · isplitr; · iexact HI
      isplitl [HO]; · iexact HO
      isplitl [Hts_s85]; · iexact Hts_s85
      isplitl [Hrk5]; · iexact Hrk5
      isplitl [Hak5]; · iexact Hak5
      iexact Hdk5
    iintro ⟨HO, Hst_s85⟩
    rw [wp_ret]; imodintro
    conv => rhs; change Q ⟨_, _, _, _, 0#32⟩
    iapply Hk
    isplitl [HO]; · iexact HO
    isplitl [Hst_s84]; · iexact Hst_s84
    iexact Hst_s85

/-- The last of the seven copies; the first two landings. -/
theorem part21 {Q : (FVec F S16x512 .bf16) → sProp 𝕄} {v710 : BitVec 32} {v715 : BitVec 32} {v729 : BitVec 32} {v800 : BitVec 32}  :
    iprop(invs I K ∗ levAts L lv ∗ ow c (owedC c [.s8 6, .g8 0, .g8 1, .g8 2, .g8 3, .g8 4, .g8 5, .g8 6, .gq, .gh]) ∗ toSend (.s8 6) c ∗ dstK 6 c ∗ accP c (chunk (pr (gp 6) c)) (sum4 I c) ∗ accP c (chunk c) (sum4 I c) ∗ toRecv (.s8 0) c ∗ toRecv (.s8 1) c)
      ⊢ iprop(((ow c (owedC c [.g8 0, .g8 1, .g8 2, .g8 3, .g8 4, .g8 5, .g8 6, .gq, .gh]) ∗ sent (.s8 6) c ∗ accP c (chunk c) (sum4 I c) ∗ semVal (rCell (.s8 0) c) 0 ∗ semVal (rCell (.s8 1) c) 0 ∗ r8P c (slot 0) (land8 I c) ∗ r8P c (slot 1) (land8 I c)) -∗ Q (val830 I c)) -∗ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v710 v715 v729 v800 0#32) Q) := by
    rw [k0_part21_eq_skeleton]; unfold k0_part21_skel
    simp only [semSignalWord, semWaitWord, Prog.lift, Prog.bind_op, Prog.bind_ret, Prog.pure_eq_ret, wp_deviceId]
    iintro ⟨#HI, #Hl, HO, Hts_s86, ⟨Hdk6, Hrk6⟩, Hak6, Ha, Htr_s80, Htr_s81⟩ Hk
    iapply (send_s8 I K c [.g8 0, .g8 1, .g8 2, .g8 3, .g8 4, .g8 5, .g8 6, .gq, .gh] 6 (dev18_eq c) rfl rfl (w := 7#32) rfl (m := 6) rfl) $$ [HO Hts_s86 Hrk6 Hak6 Hdk6]
    · isplitr; · iexact HI
      isplitl [HO]; · iexact HO
      isplitl [Hts_s86]; · iexact Hts_s86
      isplitl [Hrk6]; · iexact Hrk6
      isplitl [Hak6]; · iexact Hak6
      iexact Hdk6
    iintro ⟨HO, Hst_s86⟩
    iapply (load_acc c (le_of_eq (rect_rows _ (off9_eq c) rfl))) $$ Ha; iintro Ha
    iapply (recv_as I K c (.s8 0) [.g8 0, .g8 1, .g8 2, .g8 3, .g8 4, .g8 5, .g8 6, .gq, .gh] (by decide) rfl rfl (r8P c (slot 0) (land8 I c)) rfl) $$ [HO Htr_s80]
    · isplitr; · iexact HI
      isplitr; · iexact Hl
      isplitl [HO]; · iexact HO
      iexact Htr_s80
    iintro ⟨HO, Hs0, Hzr_s80⟩
    iapply (load_r8 c (le_of_eq (rect_slot 0 _))) $$ Hs0; iintro Hs0
    iapply (recv_as I K c (.s8 1) [.g8 0, .g8 1, .g8 2, .g8 3, .g8 4, .g8 5, .g8 6, .gq, .gh] (by decide) rfl rfl (r8P c (slot 1) (land8 I c)) rfl) $$ [HO Htr_s81]
    · isplitr; · iexact HI
      isplitr; · iexact Hl
      isplitl [HO]; · iexact HO
      iexact Htr_s81
    iintro ⟨HO, Hs1, Hzr_s81⟩
    iapply (load_r8 c (le_of_eq (rect_slot 1 _))) $$ Hs1; iintro Hs1
    rw [wp_ret]; imodintro
    conv => rhs; change Q (val830 I c)
    iapply Hk
    isplitl [HO]; · iexact HO
    isplitl [Hst_s86]; · iexact Hst_s86
    isplitl [Ha]; · iexact Ha
    isplitl [Hzr_s80]; · iexact Hzr_s80
    isplitl [Hzr_s81]; · iexact Hzr_s81
    isplitl [Hs0]; · iexact Hs0
    iexact Hs1

/-- Three more landings. -/
theorem part22 {Q : (FVec F S16x512 .bf16) → sProp 𝕄} {v743 : BitVec 32} {v757 : BitVec 32} {v771 : BitVec 32}  :
    iprop(invs I K ∗ levAts L lv ∗ ow c (owedC c [.g8 0, .g8 1, .g8 2, .g8 3, .g8 4, .g8 5, .g8 6, .gq, .gh]) ∗ toRecv (.s8 2) c ∗ toRecv (.s8 3) c ∗ toRecv (.s8 4) c)
      ⊢ iprop(((ow c (owedC c [.g8 0, .g8 1, .g8 2, .g8 3, .g8 4, .g8 5, .g8 6, .gq, .gh]) ∗ semVal (rCell (.s8 2) c) 0 ∗ semVal (rCell (.s8 3) c) 0 ∗ semVal (rCell (.s8 4) c) 0 ∗ r8P c (slot 2) (land8 I c) ∗ r8P c (slot 3) (land8 I c) ∗ r8P c (slot 4) (land8 I c)) -∗ Q (val850 I c)) -∗ wp frame (wpE (defs₀ (F := F)) 𝒱₀ (c : Thread nD τ) none) Set.univ (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v743 v757 v771 (val830 I c)) Q) := by
    rw [k0_part22_eq_skeleton]; unfold k0_part22_skel
    simp only [semSignalWord, semWaitWord, Prog.lift, Prog.bind_op, Prog.bind_ret, Prog.pure_eq_ret, wp_deviceId]
    iintro ⟨#HI, #Hl, HO, Htr_s82, Htr_s83, Htr_s84⟩ Hk
    iapply (recv_as I K c (.s8 2) [.g8 0, .g8 1, .g8 2, .g8 3, .g8 4, .g8 5, .g8 6, .gq, .gh] (by decide) rfl rfl (r8P c (slot 2) (land8 I c)) rfl) $$ [HO Htr_s82]
    · isplitr; · iexact HI
      isplitr; · iexact Hl
      isplitl [HO]; · iexact HO
      iexact Htr_s82
    iintro ⟨HO, Hs2, Hzr_s82⟩
    iapply (load_r8 c (le_of_eq (rect_slot 2 _))) $$ Hs2; iintro Hs2
    iapply (recv_as I K c (.s8 3) [.g8 0, .g8 1, .g8 2, .g8 3, .g8 4, .g8 5, .g8 6, .gq, .gh] (by decide) rfl rfl (r8P c (slot 3) (land8 I c)) rfl) $$ [HO Htr_s83]
    · isplitr; · iexact HI
      isplitr; · iexact Hl
      isplitl [HO]; · iexact HO
      iexact Htr_s83
    iintro ⟨HO, Hs3, Hzr_s83⟩
    iapply (load_r8 c (le_of_eq (rect_slot 3 _))) $$ Hs3; iintro Hs3
    iapply (recv_as I K c (.s8 4) [.g8 0, .g8 1, .g8 2, .g8 3, .g8 4, .g8 5, .g8 6, .gq, .gh] (by decide) rfl rfl (r8P c (slot 4) (land8 I c)) rfl) $$ [HO Htr_s84]
    · isplitr; · iexact HI
      isplitr; · iexact Hl
      isplitl [HO]; · iexact HO
      iexact Htr_s84
    iintro ⟨HO, Hs4, Hzr_s84⟩
    rw [wp_ret]; imodintro
    conv => rhs; change Q (val850 I c)
    iapply Hk
    isplitl [HO]; · iexact HO
    isplitl [Hzr_s82]; · iexact Hzr_s82
    isplitl [Hzr_s83]; · iexact Hzr_s83
    isplitl [Hzr_s84]; · iexact Hzr_s84
    isplitl [Hs2]; · iexact Hs2
    isplitl [Hs3]; · iexact Hs3
    iexact Hs4

/-- The last landings, and the finished sixteen rows stored. -/
theorem part23 {Q : (Σ' (v885 : BitVec 32), BitVec 32) → sProp 𝕄} {v2 : BitVec 32} {v710 : BitVec 32} {v785 : BitVec 32} {v799 : BitVec 32} {g : S512x512.Idx → F .bf16} :
    iprop(invs I K ∗ levAts L lv ∗ ow c (owedC c [.g8 0, .g8 1, .g8 2, .g8 3, .g8 4, .g8 5, .g8 6, .gq, .gh]) ∗ r8P c (slot 4) (land8 I c) ∗ toRecv (.s8 5) c ∗ toRecv (.s8 6) c ∗ gP c (chunk c) fullShare g)
      ⊢ iprop((∀ v885, (ow c (owedC c [.g8 0, .g8 1, .g8 2, .g8 3, .g8 4, .g8 5, .g8 6, .gq, .gh]) ∗ r8P c (slot 4) (land8 I c) ∗ r8P c (slot 5) (land8 I c) ∗ r8P c (slot 6) (land8 I c) ∗ semVal (rCell (.s8 5) c) 0 ∗ semVal (rCell (.s8 6) c) 0 ∗ gP c (chunk c) fullShare (gath I)) -∗ Q ⟨v885, 1#32⟩) -∗ wp frame (wpE (defs₀ (F := F)) 𝒱₀ (c : Thread nD τ) none) Set.univ (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v710 v785 v799 (val850 I c)) Q) := by
    rw [k0_part23_eq_skeleton]; unfold k0_part23_skel
    simp only [semSignalWord, semWaitWord, Prog.lift, Prog.bind_op, Prog.bind_ret, Prog.pure_eq_ret, wp_deviceId]
    iintro ⟨#HI, #Hl, HO, Hs4, Htr_s85, Htr_s86, Hg⟩ Hk
    iapply (load_r8 c (le_of_eq (rect_slot 4 _))) $$ Hs4; iintro Hs4
    iapply (recv_as I K c (.s8 5) [.g8 0, .g8 1, .g8 2, .g8 3, .g8 4, .g8 5, .g8 6, .gq, .gh] (by decide) rfl rfl (r8P c (slot 5) (land8 I c)) rfl) $$ [HO Htr_s85]
    · isplitr; · iexact HI
      isplitr; · iexact Hl
      isplitl [HO]; · iexact HO
      iexact Htr_s85
    iintro ⟨HO, Hs5, Hzr_s85⟩
    iapply (load_r8 c (le_of_eq (rect_slot 5 _))) $$ Hs5; iintro Hs5
    iapply (recv_as I K c (.s8 6) [.g8 0, .g8 1, .g8 2, .g8 3, .g8 4, .g8 5, .g8 6, .gq, .gh] (by decide) rfl rfl (r8P c (slot 6) (land8 I c)) rfl) $$ [HO Htr_s86]
    · isplitr; · iexact HI
      isplitr; · iexact Hl
      isplitl [HO]; · iexact HO
      iexact Htr_s86
    iintro ⟨HO, Hs6, Hzr_s86⟩
    iapply (load_r8 c (le_of_eq (rect_slot 6 _))) $$ Hs6; iintro Hs6
    iapply (load_gS c (le_of_eq (rect_rows _ (off9_eq c) rfl))) $$ Hg; iintro Hg
    iapply (store_gS c (rect_rows _ (off9_eq c) rfl) (read_gath I c _ _ _ _ _ _ _ _ _)) $$ Hg; iintro Hg
    rw [wp_ret]; imodintro
    conv => rhs; change Q ⟨_, 1#32⟩
    iapply Hk
    isplitl [HO]; · iexact HO
    isplitl [Hs4]; · iexact Hs4
    isplitl [Hs5]; · iexact Hs5
    isplitl [Hs6]; · iexact Hs6
    isplitl [Hzr_s85]; · iexact Hzr_s85
    isplitl [Hzr_s86]; · iexact Hzr_s86
    iexact Hg

end Cert.Attn
-- ==== Proof.PartsC.lean ====
/-
The printed parts of the body that gather the finished rows, store the output and wait for the sources.
-/
module

public import proofs.«01_k».proof.Proof.Bundles

@[expose] public section

noncomputable section

namespace Cert.Attn

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : GSem nD τ sig → ℕ) (c : Dev nD)

/-- Three of the seven copies of the finished rows. -/
theorem part24 {Q : (Σ' (v894 : BitVec 32) (v903 : BitVec 32), BitVec 32) → sProp 𝕄} {v2 : BitVec 32} {v885 : BitVec 32}  :
    iprop(invs I K ∗ ow c (owedC c [.g8 0, .g8 1, .g8 2, .g8 3, .g8 4, .g8 5, .g8 6, .gq, .gh]) ∗ toSend (.g8 0) c ∗ dstGK 0 c ∗ gP c (chunk c) (qL (0 : Fin 7).castSucc) (gath I) ∗ toSend (.g8 1) c ∗ dstGK 1 c ∗ gP c (chunk c) (qL (1 : Fin 7).castSucc) (gath I) ∗ toSend (.g8 2) c ∗ dstGK 2 c ∗ gP c (chunk c) (qL (2 : Fin 7).castSucc) (gath I))
      ⊢ iprop((∀ v894 v903 v912, (ow c (owedC c [.g8 3, .g8 4, .g8 5, .g8 6, .gq, .gh]) ∗ sent (.g8 0) c ∗ sent (.g8 1) c ∗ sent (.g8 2) c) -∗ Q ⟨v894, v903, v912⟩) -∗ wp frame (wpE (defs₀ (F := F)) 𝒱₀ (c : Thread nD τ) none) Set.univ (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v885 1#32) Q) := by
    rw [k0_part24_eq_skeleton]; unfold k0_part24_skel
    simp only [semSignalWord, semWaitWord, Prog.lift, Prog.bind_op, Prog.bind_ret, Prog.pure_eq_ret, wp_deviceId]
    iintro ⟨#HI, HO, Hts_g80, ⟨Hgk0, Hrk0⟩, Hq0, Hts_g81, ⟨Hgk1, Hrk1⟩, Hq1, Hts_g82, ⟨Hgk2, Hrk2⟩, Hq2⟩ Hk
    iapply (send_g8 I K c [.g8 1, .g8 2, .g8 3, .g8 4, .g8 5, .g8 6, .gq, .gh] 0 (dev19_eq c) rfl rfl) $$ [HO Hts_g80 Hrk0 Hq0 Hgk0]
    · isplitr; · iexact HI
      isplitl [HO]; · iexact HO
      isplitl [Hts_g80]; · iexact Hts_g80
      isplitl [Hrk0]; · iexact Hrk0
      isplitl [Hq0]; · iexact Hq0
      iexact Hgk0
    iintro ⟨HO, Hst_g80⟩
    iapply (send_g8 I K c [.g8 2, .g8 3, .g8 4, .g8 5, .g8 6, .gq, .gh] 1 (dev20_eq c) rfl rfl) $$ [HO Hts_g81 Hrk1 Hq1 Hgk1]
    · isplitr; · iexact HI
      isplitl [HO]; · iexact HO
      isplitl [Hts_g81]; · iexact Hts_g81
      isplitl [Hrk1]; · iexact Hrk1
      isplitl [Hq1]; · iexact Hq1
      iexact Hgk1
    iintro ⟨HO, Hst_g81⟩
    iapply (send_g8 I K c [.g8 3, .g8 4, .g8 5, .g8 6, .gq, .gh] 2 (dev21_eq c) rfl rfl) $$ [HO Hts_g82 Hrk2 Hq2 Hgk2]
    · isplitr; · iexact HI
      isplitl [HO]; · iexact HO
      isplitl [Hts_g82]; · iexact Hts_g82
      isplitl [Hrk2]; · iexact Hrk2
      isplitl [Hq2]; · iexact Hq2
      iexact Hgk2
    iintro ⟨HO, Hst_g82⟩
    rw [wp_ret]; imodintro
    conv => rhs; change Q ⟨_, _, _⟩
    iapply Hk
    isplitl [HO]; · iexact HO
    isplitl [Hst_g80]; · iexact Hst_g80
    isplitl [Hst_g81]; · iexact Hst_g81
    iexact Hst_g82

/-- The other four copies of the finished rows. -/
theorem part25 {Q : (Σ' (v921 : BitVec 32) (v930 : BitVec 32), BitVec 32) → sProp 𝕄} {v2 : BitVec 32} {v885 : BitVec 32}  :
    iprop(invs I K ∗ ow c (owedC c [.g8 3, .g8 4, .g8 5, .g8 6, .gq, .gh]) ∗ toSend (.g8 3) c ∗ dstGK 3 c ∗ gP c (chunk c) (qL (3 : Fin 7).castSucc) (gath I) ∗ toSend (.g8 4) c ∗ dstGK 4 c ∗ gP c (chunk c) (qL (4 : Fin 7).castSucc) (gath I) ∗ toSend (.g8 5) c ∗ dstGK 5 c ∗ gP c (chunk c) (qL (5 : Fin 7).castSucc) (gath I) ∗ toSend (.g8 6) c ∗ dstGK 6 c ∗ gP c (chunk c) (qL (6 : Fin 7).castSucc) (gath I))
      ⊢ iprop((∀ v921 v930 v939, (ow c (owedC c [.gq, .gh]) ∗ sent (.g8 3) c ∗ sent (.g8 4) c ∗ sent (.g8 5) c ∗ sent (.g8 6) c) -∗ Q ⟨v921, v930, v939⟩) -∗ wp frame (wpE (defs₀ (F := F)) 𝒱₀ (c : Thread nD τ) none) Set.univ (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v885) Q) := by
    rw [k0_part25_eq_skeleton]; unfold k0_part25_skel
    simp only [semSignalWord, semWaitWord, Prog.lift, Prog.bind_op, Prog.bind_ret, Prog.pure_eq_ret, wp_deviceId]
    iintro ⟨#HI, HO, Hts_g83, ⟨Hgk3, Hrk3⟩, Hq3, Hts_g84, ⟨Hgk4, Hrk4⟩, Hq4, Hts_g85, ⟨Hgk5, Hrk5⟩, Hq5, Hts_g86, ⟨Hgk6, Hrk6⟩, Hq6⟩ Hk
    iapply (send_g8 I K c [.g8 4, .g8 5, .g8 6, .gq, .gh] 3 (dev22_eq c) rfl rfl) $$ [HO Hts_g83 Hrk3 Hq3 Hgk3]
    · isplitr; · iexact HI
      isplitl [HO]; · iexact HO
      isplitl [Hts_g83]; · iexact Hts_g83
      isplitl [Hrk3]; · iexact Hrk3
      isplitl [Hq3]; · iexact Hq3
      iexact Hgk3
    iintro ⟨HO, Hst_g83⟩
    iapply (send_g8 I K c [.g8 5, .g8 6, .gq, .gh] 4 (dev23_eq c) rfl rfl) $$ [HO Hts_g84 Hrk4 Hq4 Hgk4]
    · isplitr; · iexact HI
      isplitl [HO]; · iexact HO
      isplitl [Hts_g84]; · iexact Hts_g84
      isplitl [Hrk4]; · iexact Hrk4
      isplitl [Hq4]; · iexact Hq4
      iexact Hgk4
    iintro ⟨HO, Hst_g84⟩
    iapply (send_g8 I K c [.g8 6, .gq, .gh] 5 (dev24_eq c) rfl rfl) $$ [HO Hts_g85 Hrk5 Hq5 Hgk5]
    · isplitr; · iexact HI
      isplitl [HO]; · iexact HO
      isplitl [Hts_g85]; · iexact Hts_g85
      isplitl [Hrk5]; · iexact Hrk5
      isplitl [Hq5]; · iexact Hq5
      iexact Hgk5
    iintro ⟨HO, Hst_g85⟩
    iapply (send_g8 I K c [.gq, .gh] 6 (dev25_eq c) rfl rfl) $$ [HO Hts_g86 Hrk6 Hq6 Hgk6]
    · isplitr; · iexact HI
      isplitl [HO]; · iexact HO
      isplitl [Hts_g86]; · iexact Hts_g86
      isplitl [Hrk6]; · iexact Hrk6
      isplitl [Hq6]; · iexact Hq6
      iexact Hgk6
    iintro ⟨HO, Hst_g86⟩
    rw [wp_ret]; imodintro
    conv => rhs; change Q ⟨_, _, _⟩
    iapply Hk
    isplitl [HO]; · iexact HO
    isplitl [Hst_g83]; · iexact Hst_g83
    isplitl [Hst_g84]; · iexact Hst_g84
    isplitl [Hst_g85]; · iexact Hst_g85
    iexact Hst_g86

/-- Five landings of finished rows. -/
theorem part26 {Q : (PUnit) → sProp 𝕄} {v894 : BitVec 32} {v903 : BitVec 32} {v912 : BitVec 32} {v921 : BitVec 32}  :
    iprop(invs I K ∗ levAts L lv ∗ ow c (owedC c [.gq, .gh]) ∗ toRecv (.g8 0) c ∗ toRecv (.g8 1) c ∗ toRecv (.g8 2) c ∗ toRecv (.g8 3) c ∗ toRecv (.g8 4) c)
      ⊢ iprop(((ow c (owedC c [.gq, .gh]) ∗ gP c (chunk (pr (gp 0) c)) fullShare (gath I) ∗ gP c (chunk (pr (gp 1) c)) fullShare (gath I) ∗ gP c (chunk (pr (gp 2) c)) fullShare (gath I) ∗ gP c (chunk (pr (gp 3) c)) fullShare (gath I) ∗ gP c (chunk (pr (gp 4) c)) fullShare (gath I) ∗ semVal (rCell (.g8 0) c) 0 ∗ semVal (rCell (.g8 1) c) 0 ∗ semVal (rCell (.g8 2) c) 0 ∗ semVal (rCell (.g8 3) c) 0 ∗ semVal (rCell (.g8 4) c) 0) -∗ Q ⟨⟩) -∗ wp frame (wpE (defs₀ (F := F)) 𝒱₀ (c : Thread nD τ) none) Set.univ (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v894 v903 v912 v921) Q) := by
    rw [k0_part26_eq_skeleton]; unfold k0_part26_skel
    simp only [semSignalWord, semWaitWord, Prog.lift, Prog.bind_op, Prog.bind_ret, Prog.pure_eq_ret, wp_deviceId]
    iintro ⟨#HI, #Hl, HO, Htr_g80, Htr_g81, Htr_g82, Htr_g83, Htr_g84⟩ Hk
    iapply (recv_as I K c (.g8 0) [.gq, .gh] (by decide) rfl rfl (gP c (chunk (pr (gp 0) c)) fullShare (gath I)) rfl) $$ [HO Htr_g80]
    · isplitr; · iexact HI
      isplitr; · iexact Hl
      isplitl [HO]; · iexact HO
      iexact Htr_g80
    iintro ⟨HO, Hl0, Hzr_g80⟩
    iapply (recv_as I K c (.g8 1) [.gq, .gh] (by decide) rfl rfl (gP c (chunk (pr (gp 1) c)) fullShare (gath I)) rfl) $$ [HO Htr_g81]
    · isplitr; · iexact HI
      isplitr; · iexact Hl
      isplitl [HO]; · iexact HO
      iexact Htr_g81
    iintro ⟨HO, Hl1, Hzr_g81⟩
    iapply (recv_as I K c (.g8 2) [.gq, .gh] (by decide) rfl rfl (gP c (chunk (pr (gp 2) c)) fullShare (gath I)) rfl) $$ [HO Htr_g82]
    · isplitr; · iexact HI
      isplitr; · iexact Hl
      isplitl [HO]; · iexact HO
      iexact Htr_g82
    iintro ⟨HO, Hl2, Hzr_g82⟩
    iapply (recv_as I K c (.g8 3) [.gq, .gh] (by decide) rfl rfl (gP c (chunk (pr (gp 3) c)) fullShare (gath I)) rfl) $$ [HO Htr_g83]
    · isplitr; · iexact HI
      isplitr; · iexact Hl
      isplitl [HO]; · iexact HO
      iexact Htr_g83
    iintro ⟨HO, Hl3, Hzr_g83⟩
    iapply (recv_as I K c (.g8 4) [.gq, .gh] (by decide) rfl rfl (gP c (chunk (pr (gp 4) c)) fullShare (gath I)) rfl) $$ [HO Htr_g84]
    · isplitr; · iexact HI
      isplitr; · iexact Hl
      isplitl [HO]; · iexact HO
      iexact Htr_g84
    iintro ⟨HO, Hl4, Hzr_g84⟩
    rw [wp_ret]; imodintro
    iapply Hk
    isplitl [HO]; · iexact HO
    isplitl [Hl0]; · iexact Hl0
    isplitl [Hl1]; · iexact Hl1
    isplitl [Hl2]; · iexact Hl2
    isplitl [Hl3]; · iexact Hl3
    isplitl [Hl4]; · iexact Hl4
    isplitl [Hzr_g80]; · iexact Hzr_g80
    isplitl [Hzr_g81]; · iexact Hzr_g81
    isplitl [Hzr_g82]; · iexact Hzr_g82
    isplitl [Hzr_g83]; · iexact Hzr_g83
    iexact Hzr_g84

/-- The last landings of finished rows; the quarters exchanged. -/
theorem part27 {Q : (BitVec 32) → sProp 𝕄} {v2 : BitVec 32} {v710 : BitVec 32} {v930 : BitVec 32} {v939 : BitVec 32}  :
    iprop(invs I K ∗ levAts L lv ∗ ow c (owedC c [.gq, .gh]) ∗ toRecv (.g8 5) c ∗ toRecv (.g8 6) c ∗ gP c (chunk c) qA (gath I) ∗ gP c (chunk c) qB (gath I) ∗ gP c (chunk c) qC (gath I) ∗ gP c (chunk (pr (gp 0) c)) fullShare (gath I) ∗ gP c (chunk (pr (gp 1) c)) fullShare (gath I) ∗ gP c (chunk (pr (gp 2) c)) fullShare (gath I) ∗ gP c (chunk (pr (gp 3) c)) fullShare (gath I) ∗ gP c (chunk (pr (gp 4) c)) fullShare (gath I) ∗ toSend (.gq) c ∗ toRecv (.gq) c ∗ dstG1 c)
      ⊢ iprop((∀ v1007, (ow c (owedC c [.gh]) ∗ semVal (rCell (.g8 5) c) 0 ∗ semVal (rCell (.g8 6) c) 0 ∗ gP c (quart c) qA (gath I) ∗ gP c (quart c) qC (gath I) ∗ bigSep Finset.univ (fun k : Fin 7 => gP c (chunk (pr (gp k) c)) qD (gath I)) ∗ sent (.gq) c ∗ semVal (rCell (.gq) c) 0 ∗ gP c (quart (pr 1 c)) fullShare (gath I)) -∗ Q v1007) -∗ wp frame (wpE (defs₀ (F := F)) 𝒱₀ (c : Thread nD τ) none) Set.univ (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v710 v930 v939) Q) := by
    rw [k0_part27_eq_skeleton]; unfold k0_part27_skel
    simp only [semSignalWord, semWaitWord, Prog.lift, Prog.bind_op, Prog.bind_ret, Prog.pure_eq_ret, wp_deviceId]
    iintro ⟨#HI, #Hl, HO, Htr_g85, Htr_g86, HcqA, HcqB, HcqC, Hl0, Hl1, Hl2, Hl3, Hl4, Hts_gq, Htr_gq, ⟨Hd1, Hr1⟩⟩ Hk
    iapply (recv_as I K c (.g8 5) [.gq, .gh] (by decide) rfl rfl (gP c (chunk (pr (gp 5) c)) fullShare (gath I)) rfl) $$ [HO Htr_g85]
    · isplitr; · iexact HI
      isplitr; · iexact Hl
      isplitl [HO]; · iexact HO
      iexact Htr_g85
    iintro ⟨HO, Hl5, Hzr_g85⟩
    iapply (recv_as I K c (.g8 6) [.gq, .gh] (by decide) rfl rfl (gP c (chunk (pr (gp 6) c)) fullShare (gath I)) rfl) $$ [HO Htr_g86]
    · isplitr; · iexact HI
      isplitr; · iexact Hl
      isplitl [HO]; · iexact HO
      iexact Htr_g86
    iintro ⟨HO, Hl6, Hzr_g86⟩
    ihave Hj := (join_quart I c) $$ [HcqA HcqB HcqC Hl0 Hl1 Hl2 Hl3 Hl4 Hl5 Hl6]
    · isplitl [HcqA]; · iexact HcqA
      isplitl [HcqB]; · iexact HcqB
      isplitl [HcqC]; · iexact HcqC
      isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      iexact Hl6
    icases Hj with ⟨HqqA, HqqB, HqqC, Hod⟩
    iapply (send_gq I K c [.gh] (dev26_eq c) rfl rfl) $$ [HO Hts_gq Hr1 HqqB Hd1]
    · isplitr; · iexact HI
      isplitl [HO]; · iexact HO
      isplitl [Hts_gq]; · iexact Hts_gq
      isplitl [Hr1]; · iexact Hr1
      isplitl [HqqB]; · iexact HqqB
      iexact Hd1
    iintro ⟨HO, Hst_gq⟩
    iapply (recv_as I K c (.gq) [.gh] (by decide) rfl rfl (gP c (quart (pr 1 c)) fullShare (gath I)) rfl) $$ [HO Htr_gq]
    · isplitr; · iexact HI
      isplitr; · iexact Hl
      isplitl [HO]; · iexact HO
      iexact Htr_gq
    iintro ⟨HO, Hq1, Hzr_gq⟩
    rw [wp_ret]; imodintro
    conv => rhs; change Q _
    iapply Hk
    isplitl [HO]; · iexact HO
    isplitl [Hzr_g85]; · iexact Hzr_g85
    isplitl [Hzr_g86]; · iexact Hzr_g86
    isplitl [HqqA]; · iexact HqqA
    isplitl [HqqC]; · iexact HqqC
    isplitl [Hod]; · iexact Hod
    isplitl [Hst_gq]; · iexact Hst_gq
    isplitl [Hzr_gq]; · iexact Hzr_gq
    iexact Hq1

/-- The halves exchanged, and the output stored. -/
theorem part28 {Q : (PUnit) → sProp 𝕄} {v2 : BitVec 32} {v1007 : BitVec 32} {o : S2x256x512.Idx → F .f32} :
    iprop(invs I K ∗ levAts L lv ∗ ow c (owedC c [.gh]) ∗ gP c (quart c) qA (gath I) ∗ gP c (quart c) qC (gath I) ∗ gP c (quart (pr 1 c)) fullShare (gath I) ∗ toSend (.gh) c ∗ toRecv (.gh) c ∗ dstG0 c ∗ (((c : Thread nD τ).loc cc0_stg5_0) ↦{fullShare} o))
      ⊢ iprop(((ow c 0 ∗ sent (.gh) c ∗ semVal (rCell (.gh) c) 0 ∗ (((c : Thread nD τ).loc cc0_scratch4) ↦{qC} gath I) ∗ gP c (quart (pr 1 c)) qB (gath I) ∗ gP c (quart (pr 1 c)) qD (gath I) ∗ gP c (half (pr 0 c)) qA (gath I) ∗ gP c (half (pr 0 c)) qB (gath I) ∗ gP c (half (pr 0 c)) qD (gath I) ∗ (((c : Thread nD τ).loc cc0_stg5_0) ↦{fullShare} outV I)) -∗ Q ⟨⟩) -∗ wp frame (wpE (defs₀ (F := F)) 𝒱₀ (c : Thread nD τ) none) Set.univ (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c v2 v1007) Q) := by
    rw [k0_part28_eq_skeleton]; unfold k0_part28_skel
    simp only [semSignalWord, semWaitWord, Prog.lift, Prog.bind_op, Prog.bind_ret, Prog.pure_eq_ret, wp_deviceId]
    iintro ⟨#HI, #Hl, HO, HqqA, HqqC, Hq1, Hts_gh, Htr_gh, ⟨Hd0, Hr0⟩, Ho⟩ Hk
    ihave Hj := (join_half I c) $$ [HqqA HqqC Hq1]
    · isplitl [HqqA]; · iexact HqqA
      isplitl [HqqC]; · iexact HqqC
      iexact Hq1
    icases Hj with ⟨HhA, HhC, HrB, HrD⟩
    iapply (send_gh I K c [] (dev27_eq c) rfl rfl) $$ [HO Hts_gh Hr0 HhA Hd0]
    · isplitr; · iexact HI
      isplitl [HO]; · iexact HO
      isplitl [Hts_gh]; · iexact Hts_gh
      isplitl [Hr0]; · iexact Hr0
      isplitl [HhA]; · iexact HhA
      iexact Hd0
    iintro ⟨HO, Hst_gh⟩
    iapply (recv_as I K c (.gh) [] (by decide) rfl rfl (gP c (half (pr 0 c)) fullShare (gath I)) rfl) $$ [HO Htr_gh]
    · isplitr; · iexact HI
      isplitr; · iexact Hl
      isplitl [HO]; · iexact HO
      iexact Htr_gh
    iintro ⟨HO, Hh, Hzr_gh⟩
    ihave Hj := (join_whole I c) $$ [HhC Hh]
    · isplitl [HhC]; · iexact HhC
      iexact Hh
    icases Hj with ⟨HwC, HhqA, HhqB, HhqD⟩
    ihave Ho := (Entails.of_eq (out_parts c o)) $$ Ho
    icases Ho with ⟨Ho0, Ho1⟩
    iapply (load_g c) $$ HwC; iintro HwC
    iapply (load_outS c (le_of_eq rfl)) $$ Ho0; iintro Ho0
    iapply (store_outS c rfl (read_out0 I)) $$ Ho0; iintro Ho0
    iapply (load_g c) $$ HwC; iintro HwC
    iapply (load_outS c (le_of_eq rfl)) $$ Ho1; iintro Ho1
    iapply (store_outS c rfl (read_out1 I)) $$ Ho1; iintro Ho1
    ihave Ho := (Entails.of_eq (out_parts c (outV I)).symm) $$ [Ho0 Ho1]
    · isplitl [Ho0]; · iexact Ho0
      iexact Ho1
    rw [wp_ret]; imodintro
    iapply Hk
    isplitl [HO]; · iexact HO
    isplitl [Hst_gh]; · iexact Hst_gh
    isplitl [Hzr_gh]; · iexact Hzr_gh
    isplitl [HwC]; · iexact HwC
    isplitl [HrB]; · iexact HrB
    isplitl [HrD]; · iexact HrD
    isplitl [HhqA]; · iexact HhqA
    isplitl [HhqB]; · iexact HhqB
    isplitl [HhqD]; · iexact HhqD
    iexact Ho

/-- The first five sources are back. -/
theorem part29 {Q : (PUnit) → sProp 𝕄}   :
    iprop(invs I K ∗ ow c 0 ∗ sent (.h2) c ∗ sent (.q2) c ∗ sent (.s8 0) c ∗ sent (.s8 1) c ∗ sent (.s8 2) c)
      ⊢ iprop(((ow c 0 ∗ sendPay I (.h2) c ∗ semVal (sCell (.h2) c) 0 ∗ sendPay I (.q2) c ∗ semVal (sCell (.q2) c) 0 ∗ sendPay I (.s8 0) c ∗ semVal (sCell (.s8 0) c) 0 ∗ sendPay I (.s8 1) c ∗ semVal (sCell (.s8 1) c) 0 ∗ sendPay I (.s8 2) c ∗ semVal (sCell (.s8 2) c) 0) -∗ Q ⟨⟩) -∗ wp frame (wpE (defs₀ (F := F)) 𝒱₀ (c : Thread nD τ) none) Set.univ (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c) Q) := by
    rw [k0_part29_eq_skeleton]; unfold k0_part29_skel
    simp only [semSignalWord, semWaitWord, Prog.lift, Prog.bind_op, Prog.bind_ret, Prog.pure_eq_ret, wp_deviceId]
    iintro ⟨#HI, HO, Hst_h2, Hst_q2, Hst_s80, Hst_s81, Hst_s82⟩ Hk
    iapply (sent_step I K c (.h2) rfl rfl) $$ [HO Hst_h2]
    · isplitr; · iexact HI
      isplitl [HO]; · iexact HO
      iexact Hst_h2
    iintro ⟨HO, Hps_h2, Hzs_h2⟩
    iapply (sent_step I K c (.q2) rfl rfl) $$ [HO Hst_q2]
    · isplitr; · iexact HI
      isplitl [HO]; · iexact HO
      iexact Hst_q2
    iintro ⟨HO, Hps_q2, Hzs_q2⟩
    iapply (sent_step I K c (.s8 0) rfl rfl) $$ [HO Hst_s80]
    · isplitr; · iexact HI
      isplitl [HO]; · iexact HO
      iexact Hst_s80
    iintro ⟨HO, Hps_s80, Hzs_s80⟩
    iapply (sent_step I K c (.s8 1) rfl rfl) $$ [HO Hst_s81]
    · isplitr; · iexact HI
      isplitl [HO]; · iexact HO
      iexact Hst_s81
    iintro ⟨HO, Hps_s81, Hzs_s81⟩
    iapply (sent_step I K c (.s8 2) rfl rfl) $$ [HO Hst_s82]
    · isplitr; · iexact HI
      isplitl [HO]; · iexact HO
      iexact Hst_s82
    iintro ⟨HO, Hps_s82, Hzs_s82⟩
    rw [wp_ret]; imodintro
    iapply Hk
    isplitl [HO]; · iexact HO
    isplitl [Hps_h2]; · iexact Hps_h2
    isplitl [Hzs_h2]; · iexact Hzs_h2
    isplitl [Hps_q2]; · iexact Hps_q2
    isplitl [Hzs_q2]; · iexact Hzs_q2
    isplitl [Hps_s80]; · iexact Hps_s80
    isplitl [Hzs_s80]; · iexact Hzs_s80
    isplitl [Hps_s81]; · iexact Hps_s81
    isplitl [Hzs_s81]; · iexact Hzs_s81
    isplitl [Hps_s82]; · iexact Hps_s82
    iexact Hzs_s82

/-- Five more sources are back. -/
theorem part30 {Q : (PUnit) → sProp 𝕄}   :
    iprop(invs I K ∗ ow c 0 ∗ sent (.s8 3) c ∗ sent (.s8 4) c ∗ sent (.s8 5) c ∗ sent (.s8 6) c ∗ sent (.g8 0) c)
      ⊢ iprop(((ow c 0 ∗ sendPay I (.s8 3) c ∗ semVal (sCell (.s8 3) c) 0 ∗ sendPay I (.s8 4) c ∗ semVal (sCell (.s8 4) c) 0 ∗ sendPay I (.s8 5) c ∗ semVal (sCell (.s8 5) c) 0 ∗ sendPay I (.s8 6) c ∗ semVal (sCell (.s8 6) c) 0 ∗ sendPay I (.g8 0) c ∗ semVal (sCell (.g8 0) c) 0) -∗ Q ⟨⟩) -∗ wp frame (wpE (defs₀ (F := F)) 𝒱₀ (c : Thread nD τ) none) Set.univ (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c) Q) := by
    rw [k0_part30_eq_skeleton]; unfold k0_part30_skel
    simp only [semSignalWord, semWaitWord, Prog.lift, Prog.bind_op, Prog.bind_ret, Prog.pure_eq_ret, wp_deviceId]
    iintro ⟨#HI, HO, Hst_s83, Hst_s84, Hst_s85, Hst_s86, Hst_g80⟩ Hk
    iapply (sent_step I K c (.s8 3) rfl rfl) $$ [HO Hst_s83]
    · isplitr; · iexact HI
      isplitl [HO]; · iexact HO
      iexact Hst_s83
    iintro ⟨HO, Hps_s83, Hzs_s83⟩
    iapply (sent_step I K c (.s8 4) rfl rfl) $$ [HO Hst_s84]
    · isplitr; · iexact HI
      isplitl [HO]; · iexact HO
      iexact Hst_s84
    iintro ⟨HO, Hps_s84, Hzs_s84⟩
    iapply (sent_step I K c (.s8 5) rfl rfl) $$ [HO Hst_s85]
    · isplitr; · iexact HI
      isplitl [HO]; · iexact HO
      iexact Hst_s85
    iintro ⟨HO, Hps_s85, Hzs_s85⟩
    iapply (sent_step I K c (.s8 6) rfl rfl) $$ [HO Hst_s86]
    · isplitr; · iexact HI
      isplitl [HO]; · iexact HO
      iexact Hst_s86
    iintro ⟨HO, Hps_s86, Hzs_s86⟩
    iapply (sent_step I K c (.g8 0) rfl rfl) $$ [HO Hst_g80]
    · isplitr; · iexact HI
      isplitl [HO]; · iexact HO
      iexact Hst_g80
    iintro ⟨HO, Hps_g80, Hzs_g80⟩
    rw [wp_ret]; imodintro
    iapply Hk
    isplitl [HO]; · iexact HO
    isplitl [Hps_s83]; · iexact Hps_s83
    isplitl [Hzs_s83]; · iexact Hzs_s83
    isplitl [Hps_s84]; · iexact Hps_s84
    isplitl [Hzs_s84]; · iexact Hzs_s84
    isplitl [Hps_s85]; · iexact Hps_s85
    isplitl [Hzs_s85]; · iexact Hzs_s85
    isplitl [Hps_s86]; · iexact Hps_s86
    isplitl [Hzs_s86]; · iexact Hzs_s86
    isplitl [Hps_g80]; · iexact Hps_g80
    iexact Hzs_g80

/-- Six more sources are back. -/
theorem part31 {Q : (PUnit) → sProp 𝕄}   :
    iprop(invs I K ∗ ow c 0 ∗ sent (.g8 1) c ∗ sent (.g8 2) c ∗ sent (.g8 3) c ∗ sent (.g8 4) c ∗ sent (.g8 5) c ∗ sent (.g8 6) c)
      ⊢ iprop(((ow c 0 ∗ sendPay I (.g8 1) c ∗ semVal (sCell (.g8 1) c) 0 ∗ sendPay I (.g8 2) c ∗ semVal (sCell (.g8 2) c) 0 ∗ sendPay I (.g8 3) c ∗ semVal (sCell (.g8 3) c) 0 ∗ sendPay I (.g8 4) c ∗ semVal (sCell (.g8 4) c) 0 ∗ sendPay I (.g8 5) c ∗ semVal (sCell (.g8 5) c) 0 ∗ sendPay I (.g8 6) c ∗ semVal (sCell (.g8 6) c) 0) -∗ Q ⟨⟩) -∗ wp frame (wpE (defs₀ (F := F)) 𝒱₀ (c : Thread nD τ) none) Set.univ (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 c) Q) := by
    rw [k0_part31_eq_skeleton]; unfold k0_part31_skel
    simp only [semSignalWord, semWaitWord, Prog.lift, Prog.bind_op, Prog.bind_ret, Prog.pure_eq_ret, wp_deviceId]
    iintro ⟨#HI, HO, Hst_g81, Hst_g82, Hst_g83, Hst_g84, Hst_g85, Hst_g86⟩ Hk
    iapply (sent_step I K c (.g8 1) rfl rfl) $$ [HO Hst_g81]
    · isplitr; · iexact HI
      isplitl [HO]; · iexact HO
      iexact Hst_g81
    iintro ⟨HO, Hps_g81, Hzs_g81⟩
    iapply (sent_step I K c (.g8 2) rfl rfl) $$ [HO Hst_g82]
    · isplitr; · iexact HI
      isplitl [HO]; · iexact HO
      iexact Hst_g82
    iintro ⟨HO, Hps_g82, Hzs_g82⟩
    iapply (sent_step I K c (.g8 3) rfl rfl) $$ [HO Hst_g83]
    · isplitr; · iexact HI
      isplitl [HO]; · iexact HO
      iexact Hst_g83
    iintro ⟨HO, Hps_g83, Hzs_g83⟩
    iapply (sent_step I K c (.g8 4) rfl rfl) $$ [HO Hst_g84]
    · isplitr; · iexact HI
      isplitl [HO]; · iexact HO
      iexact Hst_g84
    iintro ⟨HO, Hps_g84, Hzs_g84⟩
    iapply (sent_step I K c (.g8 5) rfl rfl) $$ [HO Hst_g85]
    · isplitr; · iexact HI
      isplitl [HO]; · iexact HO
      iexact Hst_g85
    iintro ⟨HO, Hps_g85, Hzs_g85⟩
    iapply (sent_step I K c (.g8 6) rfl rfl) $$ [HO Hst_g86]
    · isplitr; · iexact HI
      isplitl [HO]; · iexact HO
      iexact Hst_g86
    iintro ⟨HO, Hps_g86, Hzs_g86⟩
    rw [wp_ret]; imodintro
    iapply Hk
    isplitl [HO]; · iexact HO
    isplitl [Hps_g81]; · iexact Hps_g81
    isplitl [Hzs_g81]; · iexact Hzs_g81
    isplitl [Hps_g82]; · iexact Hps_g82
    isplitl [Hzs_g82]; · iexact Hzs_g82
    isplitl [Hps_g83]; · iexact Hps_g83
    isplitl [Hzs_g83]; · iexact Hzs_g83
    isplitl [Hps_g84]; · iexact Hps_g84
    isplitl [Hzs_g84]; · iexact Hzs_g84
    isplitl [Hps_g85]; · iexact Hps_g85
    isplitl [Hzs_g85]; · iexact Hzs_g85
    isplitl [Hps_g86]; · iexact Hps_g86
    iexact Hzs_g86

end Cert.Attn
-- ==== Proof.Body.lean ====
/-
One device's run of the body, from the printed parts: what it needs at entry, what it leaves.
-/
module

public import proofs.«01_k».proof.Proof.PartsA
public import proofs.«01_k».proof.Proof.PartsB
public import proofs.«01_k».proof.Proof.PartsC

@[expose] public section

noncomputable section

namespace Cert.Attn

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : GSem nD τ sig → ℕ) (c : Dev nD)

/-- The rows a device hands out with its nine signals, out of its buffers; it keeps its own sixteen rows. -/
theorem gives_own (f2 : S496x512.Idx → F .bf16) (f3 : S7x16x512.Idx → F .bf16) (f4 : S512x512.Idx → F .bf16) :
    iprop((bigSep Finset.univ fun ch : Ch => reached ER (rCell ch c) 0) ∗ (((c : Thread nD τ).loc cc0_scratch2) ↦{fullShare} f2) ∗ (((c : Thread nD τ).loc cc0_scratch3) ↦{fullShare} f3) ∗ (((c : Thread nD τ).loc cc0_scratch4) ↦{fullShare} f4))
      ⊢ iprop((bigSep Finset.univ fun d : Fin 9 => give d c) ∗ gP c (chunk c) fullShare f4 ∗ rsP c (rowsR 384 112) f2) := by
  rw [rs_parts, r8_slots, g_halves c fullShare f4, g_quarts c fullShare f4, g_chunks c fullShare f4, bigSep_9, bigSep_Ch, bigSep_7, bigSep_7]
  rw [give_0, give_1, give_k, give_k, give_k, give_k, give_k, give_k, give_k]
  iintro ⟨⟨R_h2, R_q2, R_s80, R_s81, R_s82, R_s83, R_s84, R_s85, R_s86, R_g80, R_g81, R_g82, R_g83, R_g84, R_g85, R_g86, R_gq, R_gh⟩, ⟨A0, A1, A2⟩, ⟨S0, S1, S2, S3, S4, S5, S6⟩, ⟨⟨G, G0, G1, G2, G3, G4, G5, G6⟩, GQ⟩, GH⟩
  isplitr [G A2]
  · isplitl [A0 GH R_h2 R_gh]
    · isplitl [A0]; · iexists _; iexact A0
      isplitl [GH]; · iexists _; iexact GH
      isplitl [R_h2]; · iexact R_h2
      iexact R_gh
    isplitl [A1 GQ R_q2 R_gq]
    · isplitl [A1]; · iexists _; iexact A1
      isplitl [GQ]; · iexists _; iexact GQ
      isplitl [R_q2]; · iexact R_q2
      iexact R_gq
    isplitl [S0 G0 R_s80 R_g80]
    · isplitl [S0]; · iexists _; iexact S0
      isplitl [G0]; · iexists _; iexact G0
      isplitl [R_s80]; · iexact R_s80
      iexact R_g80
    isplitl [S1 G1 R_s81 R_g81]
    · isplitl [S1]; · iexists _; iexact S1
      isplitl [G1]; · iexists _; iexact G1
      isplitl [R_s81]; · iexact R_s81
      iexact R_g81
    isplitl [S2 G2 R_s82 R_g82]
    · isplitl [S2]; · iexists _; iexact S2
      isplitl [G2]; · iexists _; iexact G2
      isplitl [R_s82]; · iexact R_s82
      iexact R_g82
    isplitl [S3 G3 R_s83 R_g83]
    · isplitl [S3]; · iexists _; iexact S3
      isplitl [G3]; · iexists _; iexact G3
      isplitl [R_s83]; · iexact R_s83
      iexact R_g83
    isplitl [S4 G4 R_s84 R_g84]
    · isplitl [S4]; · iexists _; iexact S4
      isplitl [G4]; · iexists _; iexact G4
      isplitl [R_s84]; · iexact R_s84
      iexact R_g84
    isplitl [S5 G5 R_s85 R_g85]
    · isplitl [S5]; · iexists _; iexact S5
      isplitl [G5]; · iexists _; iexact G5
      isplitl [R_s85]; · iexact R_s85
      iexact R_g85
    isplitl [S6]; · iexists _; iexact S6
    isplitl [G6]; · iexists _; iexact G6
    isplitl [R_s86]; · iexact R_s86
    iexact R_g86
  isplitl [G]; · iexact G
  iexact A2

/-- The product's rows, all back. -/
theorem acc_back :
    iprop(sendPay I (.h2) c ∗ sendPay I (.q2) c ∗ sendPay I (.s8 0) c ∗ sendPay I (.s8 1) c ∗ sendPay I (.s8 2) c ∗ sendPay I (.s8 3) c ∗ sendPay I (.s8 4) c ∗ sendPay I (.s8 5) c ∗ sendPay I (.s8 6) c ∗ accP c (chunk c) (sum4 I c))
      ⊢ (iprop(∃ f : S512x512.Idx → F .bf16, ((c : Thread nD τ).loc cc0_scratch1) ↦{fullShare} f) : sProp 𝕄) := by
  show iprop(accP c (half (pr 0 c)) (prod0 (I c)) ∗ accP c (quart (pr 1 c)) (sum2 I c) ∗ accP c (chunk (pr (gp 0) c)) (sum4 I c) ∗ accP c (chunk (pr (gp 1) c)) (sum4 I c) ∗ accP c (chunk (pr (gp 2) c)) (sum4 I c) ∗ accP c (chunk (pr (gp 3) c)) (sum4 I c) ∗ accP c (chunk (pr (gp 4) c)) (sum4 I c) ∗ accP c (chunk (pr (gp 5) c)) (sum4 I c) ∗ accP c (chunk (pr (gp 6) c)) (sum4 I c) ∗ accP c (chunk c) (sum4 I c)) ⊢ _
  iintro ⟨H0, H1, K0, K1, K2, K3, K4, K5, K6, H⟩
  iapply (acc_any c)
  isplitr [H0]
  · iapply (acc_any_half c)
    isplitr [H1]
    · iexists (sum4 I c)
      rw [acc_chunks c (sum4 I c), bigSep_7]
      isplitl [H]; · iexact H
      isplitl [K0]; · iexact K0
      isplitl [K1]; · iexact K1
      isplitl [K2]; · iexact K2
      isplitl [K3]; · iexact K3
      isplitl [K4]; · iexact K4
      isplitl [K5]; · iexact K5
      iexact K6
    iexists _; iexact H1
  iexists _; iexact H0

/-- The gathered rows, all shares back. -/
theorem g_back :
    iprop(sendPay I (.gh) c ∗ gP c (half (pr 0 c)) qA (gath I) ∗ sendPay I (.gq) c ∗ gP c (quart (pr 1 c)) qB (gath I) ∗ gP c (half (pr 0 c)) qB (gath I) ∗ (((c : Thread nD τ).loc cc0_scratch4) ↦{qC} gath I) ∗ sendPay I (.g8 0) c ∗ sendPay I (.g8 1) c ∗ sendPay I (.g8 2) c ∗ sendPay I (.g8 3) c ∗ sendPay I (.g8 4) c ∗ sendPay I (.g8 5) c ∗ sendPay I (.g8 6) c ∗ gP c (chunk c) (qL 7) (gath I) ∗ bigSep Finset.univ (fun k : Fin 7 => gP c (chunk (pr (gp k) c)) qD (gath I)) ∗ gP c (quart (pr 1 c)) qD (gath I) ∗ gP c (half (pr 0 c)) qD (gath I))
      ⊢ ((((c : Thread nD τ).loc cc0_scratch4) ↦{fullShare} gath I) : sProp 𝕄) := by
  rw [show ((((c : Thread nD τ).loc cc0_scratch4) ↦{fullShare} gath I) : sProp 𝕄) = _ from share_four (ℓ := (c : Thread nD τ).loc cc0_scratch4) Finset.univ (gath I),
    g_halves c qA (gath I), g_halves c qB (gath I), g_halves c qD (gath I), g_quarts c qB (gath I), g_quarts c qD (gath I), g_chunks c qD (gath I), g_leaves c (chunk c) (gath I), bigSep_8]
  show iprop(gP c (half c) qA (gath I) ∗ gP c (half (pr 0 c)) qA (gath I) ∗ gP c (quart c) qB (gath I) ∗ gP c (quart (pr 1 c)) qB (gath I) ∗ gP c (half (pr 0 c)) qB (gath I) ∗ (((c : Thread nD τ).loc cc0_scratch4) ↦{qC} gath I) ∗ gP c (chunk c) (qL 0) (gath I) ∗ gP c (chunk c) (qL 1) (gath I) ∗ gP c (chunk c) (qL 2) (gath I) ∗ gP c (chunk c) (qL 3) (gath I) ∗ gP c (chunk c) (qL 4) (gath I) ∗ gP c (chunk c) (qL 5) (gath I) ∗ gP c (chunk c) (qL 6) (gath I) ∗ gP c (chunk c) (qL 7) (gath I) ∗ bigSep Finset.univ (fun k : Fin 7 => gP c (chunk (pr (gp k) c)) qD (gath I)) ∗ gP c (quart (pr 1 c)) qD (gath I) ∗ gP c (half (pr 0 c)) qD (gath I)) ⊢ _
  iintro ⟨A0, A1, B0, B1, B2, C, L0, L1, L2, L3, L4, L5, L6, L7, OD, D1, D2⟩
  isplitl [A0 A1]
  · isplitl [A0]; · iexact A0
    iexact A1
  isplitl [B0 B1 B2]
  · isplitl [B0 B1]
    · isplitl [B0]; · iexact B0
      iexact B1
    iexact B2
  isplitl [C]; · iexact C
  isplitr [D2]
  · isplitr [D1]
    · isplitr [OD]
      · isplitl [L0]; · iexact L0
        isplitl [L1]; · iexact L1
        isplitl [L2]; · iexact L2
        isplitl [L3]; · iexact L3
        isplitl [L4]; · iexact L4
        isplitl [L5]; · iexact L5
        isplitl [L6]; · iexact L6
        iexact L7
      iexact OD
    iexact D1
  iexact D2

set_option maxHeartbeats 4000000 in
/-- One device's run. -/
theorem body_run {Q : PUnit → sProp 𝕄} (o : S2x256x512.Idx → F .f32) (f0 : S512x256.Idx → F .bf16) (f1 : S512x512.Idx → F .bf16) (f2 : S496x512.Idx → F .bf16) (f3 : S7x16x512.Idx → F .bf16) (f4 : S512x512.Idx → F .bf16) :
    iprop(invs I K ∗ levAts L lv ∗ ow c (owed₀ c) ∗ (bigSep Finset.univ fun d : Fin 9 => toSignal d c) ∗ cred (tallyAt (barCell c) () 9) ∗ atPos ER (barCell c) 0 ∅ 0 ∗ (bigSep Finset.univ fun ch : Ch => toSend ch c) ∗ (bigSep Finset.univ fun ch : Ch => toRecv ch c) ∗ (bigSep Finset.univ fun ch : Ch => reached ER (rCell ch c) 0) ∗ (((c : Thread nD τ).loc cc0_stg0_0) ↦{fullShare} (I c).x) ∗ (((c : Thread nD τ).loc cc0_stg1_0) ↦{fullShare} (I c).wq) ∗ (((c : Thread nD τ).loc cc0_stg2_0) ↦{fullShare} (I c).k) ∗ (((c : Thread nD τ).loc cc0_stg3_0) ↦{fullShare} (I c).v) ∗ (((c : Thread nD τ).loc cc0_stg4_0) ↦{fullShare} (I c).wo) ∗ (((c : Thread nD τ).loc cc0_stg5_0) ↦{fullShare} o) ∗ (((c : Thread nD τ).loc cc0_scratch0) ↦{fullShare} f0) ∗ (((c : Thread nD τ).loc cc0_scratch1) ↦{fullShare} f1) ∗ (((c : Thread nD τ).loc cc0_scratch2) ↦{fullShare} f2) ∗ (((c : Thread nD τ).loc cc0_scratch3) ↦{fullShare} f3) ∗ (((c : Thread nD τ).loc cc0_scratch4) ↦{fullShare} f4))
      ⊢ iprop(((ow c 0 ∗ (((c : Thread nD τ).loc cc0_stg0_0) ↦{fullShare} (I c).x) ∗ (((c : Thread nD τ).loc cc0_stg1_0) ↦{fullShare} (I c).wq) ∗ (((c : Thread nD τ).loc cc0_stg2_0) ↦{fullShare} (I c).k) ∗ (((c : Thread nD τ).loc cc0_stg3_0) ↦{fullShare} (I c).v) ∗ (((c : Thread nD τ).loc cc0_stg4_0) ↦{fullShare} (I c).wo) ∗ (((c : Thread nD τ).loc cc0_stg5_0) ↦{fullShare} outV I) ∗ semVal (barCell c) 0 ∗ (bigSep Finset.univ fun ch : Ch => semVal (sCell ch c) 0) ∗ (bigSep Finset.univ fun ch : Ch => semVal (rCell ch c) 0) ∗ (((c : Thread nD τ).loc cc0_scratch0) ↦{fullShare} (ctx (I c))) ∗ (∃ f : S512x512.Idx → F .bf16, ((c : Thread nD τ).loc cc0_scratch1) ↦{fullShare} f) ∗ (∃ f : S496x512.Idx → F .bf16, ((c : Thread nD τ).loc cc0_scratch2) ↦{fullShare} f) ∗ (∃ f : S7x16x512.Idx → F .bf16, ((c : Thread nD τ).loc cc0_scratch3) ↦{fullShare} f) ∗ (((c : Thread nD τ).loc cc0_scratch4) ↦{fullShare} gath I)) -∗ Q ⟨⟩) -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Q) := by
  iintro ⟨#HI, #Hl, HO, HS, Hcb, Hab, Hts, Htr, Hr, Hx, Hwq, Hk2, Hv, Hwo, Ho, Hc, Ha, Hrs, Hr8, Hgb⟩ Hk
  ihave Hc := (Entails.of_eq ((ctx_blks c f0).trans (bigSep_24 fun p : Fin 2 × Fin 4 => ctxP c (blk p.1.val p.2.val) f0))) $$ Hc
  icases Hc with ⟨H1, H2, H3, H4, H5, H6, H7, H8⟩
  ihave Ha := (Entails.of_eq (acc_halves c f1)) $$ Ha
  icases Ha with ⟨H9, H10⟩
  ihave Hts := (Entails.of_eq (bigSep_Ch fun ch => toSend (F := F) ch c)) $$ Hts
  icases Hts with ⟨H11, H12, H13, H14, H15, H16, H17, H18, H19, H20, H21, H22, H23, H24, H25, H26, H27, H28⟩
  ihave Htr := (Entails.of_eq (bigSep_Ch fun ch => toRecv (F := F) ch c)) $$ Htr
  icases Htr with ⟨H29, H30, H31, H32, H33, H34, H35, H36, H37, H38, H39, H40, H41, H42, H43, H44, H45, H46⟩
  ihave Hg := (gives_own c f2 f3 f4) $$ [Hr Hrs Hr8 Hgb]
  · isplitl [Hr]; · iexact Hr
    isplitl [Hrs]; · iexact Hrs
    isplitl [Hr8]; · iexact Hr8
    iexact Hgb
  icases Hg with ⟨Hgv, Hgc, Hrr⟩
  ihave Hgv := (Entails.of_eq (bigSep_9 fun d => give (F := F) d c)) $$ Hgv
  icases Hgv with ⟨Hgv0, Hgv1, Hgv2, Hgv3, Hgv4, Hgv5, Hgv6, Hgv7, Hgv8⟩
  ihave HS := (Entails.of_eq (bigSep_9 fun d => toSignal (F := F) d c)) $$ HS
  icases HS with ⟨Hsg0, Hsg1, Hsg2, Hsg3, Hsg4, Hsg5, Hsg6, Hsg7, Hsg8⟩
  rw [cc0_body_eq_skeleton]; unfold cc0_body_skel
  rw [wp_bind]
  iapply (part1 I K c) $$ [HO Hsg0 Hgv0 Hsg1 Hgv1 Hsg2 Hgv2 Hsg3 Hgv3 Hsg4 Hgv4 Hsg5 Hgv5]
  · isplitr; · iexact HI
    isplitl [HO]; · iexact HO
    isplitl [Hsg0 Hgv0]; · (isplitl [Hsg0]; · iexact Hsg0); iexact Hgv0
    isplitl [Hsg1 Hgv1]; · (isplitl [Hsg1]; · iexact Hsg1); iexact Hgv1
    isplitl [Hsg2 Hgv2]; · (isplitl [Hsg2]; · iexact Hsg2); iexact Hgv2
    isplitl [Hsg3 Hgv3]; · (isplitl [Hsg3]; · iexact Hsg3); iexact Hgv3
    isplitl [Hsg4 Hgv4]; · (isplitl [Hsg4]; · iexact Hsg4); iexact Hgv4
    (isplitl [Hsg5]; · iexact Hsg5); iexact Hgv5
  iintro %v2 %v23 H47
  try dsimp only
  rw [wp_bind]
  iapply (part2 I K c) $$ [H47 Hsg6 Hgv6 Hsg7 Hgv7 Hsg8 Hgv8 Hk2 Hv Hwq Hwo]
  · isplitr; · iexact HI
    isplitl [H47]; · iexact H47
    isplitl [Hsg6 Hgv6]; · (isplitl [Hsg6]; · iexact Hsg6); iexact Hgv6
    isplitl [Hsg7 Hgv7]; · (isplitl [Hsg7]; · iexact Hsg7); iexact Hgv7
    isplitl [Hsg8 Hgv8]; · (isplitl [Hsg8]; · iexact Hsg8); iexact Hgv8
    isplitl [Hk2]; · iexact Hk2
    isplitl [Hv]; · iexact Hv
    isplitl [Hwq]; · iexact Hwq
    iexact Hwo
  iintro ⟨H48, H49, H50, H51, H52⟩
  try dsimp only
  rw [wp_bind]
  iapply (part3 I c) $$ [Hx]
  · iexact Hx
  iintro H53
  try dsimp only
  rw [wp_bind]
  iapply (part4 I c) $$ [H1]
  · iexact H1
  iintro H54
  try dsimp only
  rw [wp_bind]
  iapply (part5 I c)
  try dsimp only
  rw [wp_bind]
  iapply (part6 I c) $$ [H2]
  · iexact H2
  iintro H55
  try dsimp only
  rw [wp_bind]
  iapply (part7 I c) $$ [H3]
  · iexact H3
  iintro H56
  try dsimp only
  rw [wp_bind]
  iapply (part8 c)
  try dsimp only
  rw [wp_bind]
  iapply (part9 I c) $$ [H4 H53]
  · isplitl [H4]; · iexact H4
    iexact H53
  iintro ⟨H57, H58⟩
  try dsimp only
  rw [wp_bind]
  iapply (part10 I c) $$ [H5]
  · iexact H5
  iintro H59
  try dsimp only
  rw [wp_bind]
  iapply (part11 I c) $$ [H59]
  · iexact H59
  iintro H60
  try dsimp only
  rw [wp_bind]
  iapply (part12 I c) $$ [H6]
  · iexact H6
  iintro H61
  try dsimp only
  rw [wp_bind]
  iapply (part13 I c)
  try dsimp only
  rw [wp_bind]
  iapply (part14 I c) $$ [H7]
  · iexact H7
  iintro H62
  try dsimp only
  rw [wp_bind]
  iapply (part15 I c) $$ [H54 H55 H56 H57 H60 H61 H62 H8 H10]
  · isplitl [H54]; · iexact H54
    isplitl [H55]; · iexact H55
    isplitl [H56]; · iexact H56
    isplitl [H57]; · iexact H57
    isplitl [H60]; · iexact H60
    isplitl [H61]; · iexact H61
    isplitl [H62]; · iexact H62
    isplitl [H8]; · iexact H8
    iexact H10
  iintro %v631 %v640 ⟨H63, H64⟩
  try dsimp only
  rw [wp_bind]
  iapply (part16 I K c) $$ [H48 Hcb Hab H11 H29 H64 H9 H63]
  · isplitr; · iexact HI
    isplitr; · iexact Hl
    isplitl [H48]; · iexact H48
    isplitl [Hcb]; · iexact Hcb
    isplitl [Hab]; · iexact Hab
    isplitl [H11]; · iexact H11
    isplitl [H29]; · iexact H29
    isplitl [H64]; · iexact H64
    isplitl [H9]; · iexact H9
    iexact H63
  iintro %v671 ⟨H65, H66, H67, H68, H69, H70, H71, H72, H73, H74, H75, H76⟩
  try dsimp only
  ihave Ht := (Entails.of_eq (bigSep_7 fun k : Fin 7 => dstK (F := F) k c)) $$ H72
  icases Ht with ⟨H77, H78, H79, H80, H81, H82, H83⟩
  ihave Ht := (Entails.of_eq (bigSep_7 fun k : Fin 7 => dstGK (F := F) k c)) $$ H73
  icases Ht with ⟨H84, H85, H86, H87, H88, H89, H90⟩
  rw [wp_bind]
  iapply (part17 I K c) $$ [H65 H12 H30 H70 H74]
  · isplitr; · iexact HI
    isplitr; · iexact Hl
    isplitl [H65]; · iexact H65
    isplitl [H12]; · iexact H12
    isplitl [H30]; · iexact H30
    isplitl [H70]; · iexact H70
    iexact H74
  iintro %v678 ⟨H91, H92, H93, H94, H95⟩
  try dsimp only
  rw [wp_bind]
  iapply (part18 I K c) $$ [H91 H13 H77 H94]
  · isplitr; · iexact HI
    isplitl [H91]; · iexact H91
    isplitl [H13]; · iexact H13
    isplitl [H77]; · iexact H77
    iexact H94
  iintro %v707 %v710 %v715 %v729 ⟨H96, H97, H98, H99, H100, H101, H102, H103, H104⟩
  try dsimp only
  rw [wp_bind]
  iapply (part19 I K c) $$ [H96 H14 H78 H99 H15 H79 H100 H16 H80 H101]
  · isplitr; · iexact HI
    isplitl [H96]; · iexact H96
    isplitl [H14]; · iexact H14
    isplitl [H78]; · iexact H78
    isplitl [H99]; · iexact H99
    isplitl [H15]; · iexact H15
    isplitl [H79]; · iexact H79
    isplitl [H100]; · iexact H100
    isplitl [H16]; · iexact H16
    isplitl [H80]; · iexact H80
    iexact H101
  iintro %v743 %v757 ⟨H105, H106, H107, H108⟩
  try dsimp only
  rw [wp_bind]
  iapply (part20 I K c) $$ [H105 H17 H81 H102 H18 H82 H103]
  · isplitr; · iexact HI
    isplitl [H105]; · iexact H105
    isplitl [H17]; · iexact H17
    isplitl [H81]; · iexact H81
    isplitl [H102]; · iexact H102
    isplitl [H18]; · iexact H18
    isplitl [H82]; · iexact H82
    iexact H103
  iintro %v771 %v785 %v799 %v800 ⟨H109, H110, H111⟩
  try dsimp only
  rw [wp_bind]
  iapply (part21 I K c) $$ [H109 H19 H83 H104 H98 H31 H32]
  · isplitr; · iexact HI
    isplitr; · iexact Hl
    isplitl [H109]; · iexact H109
    isplitl [H19]; · iexact H19
    isplitl [H83]; · iexact H83
    isplitl [H104]; · iexact H104
    isplitl [H98]; · iexact H98
    isplitl [H31]; · iexact H31
    iexact H32
  iintro ⟨H112, H113, H114, H115, H116, H117, H118⟩
  try dsimp only
  rw [wp_bind]
  iapply (part22 I K c) $$ [H112 H33 H34 H35]
  · isplitr; · iexact HI
    isplitr; · iexact Hl
    isplitl [H112]; · iexact H112
    isplitl [H33]; · iexact H33
    isplitl [H34]; · iexact H34
    iexact H35
  iintro ⟨H119, H120, H121, H122, H123, H124, H125⟩
  try dsimp only
  rw [wp_bind]
  iapply (part23 I K c) $$ [H119 H125 H36 H37 Hgc]
  · isplitr; · iexact HI
    isplitr; · iexact Hl
    isplitl [H119]; · iexact H119
    isplitl [H125]; · iexact H125
    isplitl [H36]; · iexact H36
    isplitl [H37]; · iexact H37
    iexact Hgc
  iintro %v885 ⟨H126, H127, H128, H129, H130, H131, H132⟩
  try dsimp only
  ihave Ht := (Entails.of_eq (share_four (ℓ := (c : Thread nD τ).loc cc0_scratch4) _ (gath I))) $$ H132
  icases Ht with ⟨H133, H134, H135, H136⟩
  ihave Ht := (Entails.of_eq ((g_leaves c _ (gath I)).trans (bigSep_8 _))) $$ H136
  icases Ht with ⟨H137, H138, H139, H140, H141, H142, H143, H144⟩
  rw [wp_bind]
  iapply (part24 I K c) $$ [H126 H20 H84 H137 H21 H85 H138 H22 H86 H139]
  · isplitr; · iexact HI
    isplitl [H126]; · iexact H126
    isplitl [H20]; · iexact H20
    isplitl [H84]; · iexact H84
    isplitl [H137]; · iexact H137
    isplitl [H21]; · iexact H21
    isplitl [H85]; · iexact H85
    isplitl [H138]; · iexact H138
    isplitl [H22]; · iexact H22
    isplitl [H86]; · iexact H86
    iexact H139
  iintro %v894 %v903 %v912 ⟨H145, H146, H147, H148⟩
  try dsimp only
  rw [wp_bind]
  iapply (part25 I K c) $$ [H145 H23 H87 H140 H24 H88 H141 H25 H89 H142 H26 H90 H143]
  · isplitr; · iexact HI
    isplitl [H145]; · iexact H145
    isplitl [H23]; · iexact H23
    isplitl [H87]; · iexact H87
    isplitl [H140]; · iexact H140
    isplitl [H24]; · iexact H24
    isplitl [H88]; · iexact H88
    isplitl [H141]; · iexact H141
    isplitl [H25]; · iexact H25
    isplitl [H89]; · iexact H89
    isplitl [H142]; · iexact H142
    isplitl [H26]; · iexact H26
    isplitl [H90]; · iexact H90
    iexact H143
  iintro %v921 %v930 %v939 ⟨H149, H150, H151, H152, H153⟩
  try dsimp only
  rw [wp_bind]
  iapply (part26 I K c) $$ [H149 H38 H39 H40 H41 H42]
  · isplitr; · iexact HI
    isplitr; · iexact Hl
    isplitl [H149]; · iexact H149
    isplitl [H38]; · iexact H38
    isplitl [H39]; · iexact H39
    isplitl [H40]; · iexact H40
    isplitl [H41]; · iexact H41
    iexact H42
  iintro ⟨H154, H155, H156, H157, H158, H159, H160, H161, H162, H163, H164⟩
  try dsimp only
  rw [wp_bind]
  iapply (part27 I K c) $$ [H154 H43 H44 H133 H134 H135 H155 H156 H157 H158 H159 H27 H45 H71]
  · isplitr; · iexact HI
    isplitr; · iexact Hl
    isplitl [H154]; · iexact H154
    isplitl [H43]; · iexact H43
    isplitl [H44]; · iexact H44
    isplitl [H133]; · iexact H133
    isplitl [H134]; · iexact H134
    isplitl [H135]; · iexact H135
    isplitl [H155]; · iexact H155
    isplitl [H156]; · iexact H156
    isplitl [H157]; · iexact H157
    isplitl [H158]; · iexact H158
    isplitl [H159]; · iexact H159
    isplitl [H27]; · iexact H27
    isplitl [H45]; · iexact H45
    iexact H71
  iintro %v1007 ⟨H165, H166, H167, H168, H169, H170, H171, H172, H173⟩
  try dsimp only
  rw [wp_bind]
  iapply (part28 I K c) $$ [H165 H168 H169 H173 H28 H46 H69 Ho]
  · isplitr; · iexact HI
    isplitr; · iexact Hl
    isplitl [H165]; · iexact H165
    isplitl [H168]; · iexact H168
    isplitl [H169]; · iexact H169
    isplitl [H173]; · iexact H173
    isplitl [H28]; · iexact H28
    isplitl [H46]; · iexact H46
    isplitl [H69]; · iexact H69
    iexact Ho
  iintro ⟨H174, H175, H176, H177, H178, H179, H180, H181, H182, H183⟩
  try dsimp only
  rw [wp_bind]
  iapply (part29 I K c) $$ [H174 H66 H92 H97 H106 H107]
  · isplitr; · iexact HI
    isplitl [H174]; · iexact H174
    isplitl [H66]; · iexact H66
    isplitl [H92]; · iexact H92
    isplitl [H97]; · iexact H97
    isplitl [H106]; · iexact H106
    iexact H107
  iintro ⟨H184, H185, H186, H187, H188, H189, H190, H191, H192, H193, H194⟩
  try dsimp only
  rw [wp_bind]
  iapply (part30 I K c) $$ [H184 H108 H110 H111 H113 H146]
  · isplitr; · iexact HI
    isplitl [H184]; · iexact H184
    isplitl [H108]; · iexact H108
    isplitl [H110]; · iexact H110
    isplitl [H111]; · iexact H111
    isplitl [H113]; · iexact H113
    iexact H146
  iintro ⟨H195, H196, H197, H198, H199, H200, H201, H202, H203, H204, H205⟩
  try dsimp only
  rw [wp_bind]
  iapply (part31 I K c) $$ [H195 H147 H148 H150 H151 H152 H153]
  · isplitr; · iexact HI
    isplitl [H195]; · iexact H195
    isplitl [H147]; · iexact H147
    isplitl [H148]; · iexact H148
    isplitl [H150]; · iexact H150
    isplitl [H151]; · iexact H151
    isplitl [H152]; · iexact H152
    iexact H153
  iintro ⟨H206, H207, H208, H209, H210, H211, H212, H213, H214, H215, H216, H217, H218⟩
  try dsimp only
  simp only [Prog.lift, Prog.bind_op, Prog.bind_ret, Prog.pure_eq_ret]
  iapply (sent_step I K c (.gq) rfl rfl) $$ [H206 H171]
  · isplitr; · iexact HI
    isplitl [H206]; · iexact H206
    iexact H171
  iintro ⟨H219, H220, H221⟩
  iapply (sent_step I K c (.gh) rfl rfl) $$ [H219 H175]
  · isplitr; · iexact HI
    isplitl [H219]; · iexact H219
    iexact H175
  iintro ⟨H222, H223, H224⟩
  rw [wp_ret]; imodintro; iapply Hk
  isplitl [H222]; · iexact H222
  isplitl [H58]; · iexact H58
  isplitl [H51]; · iexact H51
  isplitl [H49]; · iexact H49
  isplitl [H50]; · iexact H50
  isplitl [H52]; · iexact H52
  isplitl [H183]; · iexact H183
  isplitl [H67]; · iexact H67
  isplitl [H186 H188 H190 H192 H194 H197 H199 H201 H203 H205 H208 H210 H212 H214 H216 H218 H221 H224]
  · rw [bigSep_Ch fun ch : Ch => semVal (sCell ch c) 0]
    isplitl [H186]; · iexact H186
    isplitl [H188]; · iexact H188
    isplitl [H190]; · iexact H190
    isplitl [H192]; · iexact H192
    isplitl [H194]; · iexact H194
    isplitl [H197]; · iexact H197
    isplitl [H199]; · iexact H199
    isplitl [H201]; · iexact H201
    isplitl [H203]; · iexact H203
    isplitl [H205]; · iexact H205
    isplitl [H208]; · iexact H208
    isplitl [H210]; · iexact H210
    isplitl [H212]; · iexact H212
    isplitl [H214]; · iexact H214
    isplitl [H216]; · iexact H216
    isplitl [H218]; · iexact H218
    isplitl [H221]; · iexact H221
    iexact H224
  isplitl [H68 H93 H115 H116 H120 H121 H122 H130 H131 H160 H161 H162 H163 H164 H166 H167 H172 H176]
  · rw [bigSep_Ch fun ch : Ch => semVal (rCell ch c) 0]
    isplitl [H68]; · iexact H68
    isplitl [H93]; · iexact H93
    isplitl [H115]; · iexact H115
    isplitl [H116]; · iexact H116
    isplitl [H120]; · iexact H120
    isplitl [H121]; · iexact H121
    isplitl [H122]; · iexact H122
    isplitl [H130]; · iexact H130
    isplitl [H131]; · iexact H131
    isplitl [H160]; · iexact H160
    isplitl [H161]; · iexact H161
    isplitl [H162]; · iexact H162
    isplitl [H163]; · iexact H163
    isplitl [H164]; · iexact H164
    isplitl [H166]; · iexact H166
    isplitl [H167]; · iexact H167
    isplitl [H172]; · iexact H172
    iexact H176
  isplitl [H76]; · iexact H76
  isplitl [H185 H187 H189 H191 H193 H196 H198 H200 H202 H114]
  · iapply (acc_back I c)
    isplitl [H185]; · iexact H185
    isplitl [H187]; · iexact H187
    isplitl [H189]; · iexact H189
    isplitl [H191]; · iexact H191
    isplitl [H193]; · iexact H193
    isplitl [H196]; · iexact H196
    isplitl [H198]; · iexact H198
    isplitl [H200]; · iexact H200
    isplitl [H202]; · iexact H202
    iexact H114
  isplitl [H75 H95 Hrr]
  · iapply (rs_any c)
    isplitl [H75]; · iexists _; iexact H75
    isplitl [H95]; · iexists _; iexact H95
    iexists _; iexact Hrr
  isplitl [H117 H118 H123 H124 H127 H128 H129]
  · iexists (land8 I c); rw [r8_slots, bigSep_7]
    isplitl [H117]; · iexact H117
    isplitl [H118]; · iexact H118
    isplitl [H123]; · iexact H123
    isplitl [H124]; · iexact H124
    isplitl [H127]; · iexact H127
    isplitl [H128]; · iexact H128
    iexact H129
  iapply (g_back I c)
  isplitl [H223]; · iexact H223
  isplitl [H180]; · iexact H180
  isplitl [H220]; · iexact H220
  isplitl [H178]; · iexact H178
  isplitl [H181]; · iexact H181
  isplitl [H177]; · iexact H177
  isplitl [H204]; · iexact H204
  isplitl [H207]; · iexact H207
  isplitl [H209]; · iexact H209
  isplitl [H211]; · iexact H211
  isplitl [H213]; · iexact H213
  isplitl [H215]; · iexact H215
  isplitl [H217]; · iexact H217
  isplitl [H144]; · iexact H144
  isplitl [H170]; · iexact H170
  isplitl [H179]; · iexact H179
  iexact H182

end Cert.Attn
-- ==== Proof.Region.lean ====
/-
The kernel's region: the six windows' contents, the body obligation from the run of the body, the opening of the device's
own cells at the region's entry, and the region's record.
-/
module

public import proofs.«01_k».proof.Proof.Body
public import proofs.«01_k».proof.Proof.Gen.KernelIdeal.Regions
public import proofs.«01_k».proof.Proof.Gen.KernelIdeal.Points
public import proofs.«01_k».proof.Proof.Gen.KernelIdeal.Launch
public import Idealize.ShloMosaic.Lib.Pipeline.Value

@[expose] public section

noncomputable section

namespace Cert.Attn

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- What each device's kernel reads, after the host operations. -/
def inp (c : Dev nD) : In F where
  x := V1 m c main_arg0
  wq := V1 m c main_arg1
  k := V1 m c main_v11
  v := V1 m c main_v18
  wo := V1 m c main_arg4

/-! ## The cells of the kernel's own semaphores -/

/-- The kernel's own semaphores: one pair to each copy, its send cell's and its landing cell's. -/
def osem (p : Bool × Ch) : SemLoc sig := if p.1 = true then .dma p.2.rIx else .dma p.2.sIx

/-- Which copy and side a semaphore number belongs to, on either kind of semaphore. -/
def side : SemLoc sig → Ch × Bool
  | .dma n => dec n.val
  | .reg _ => (.h2, false)

/-- A semaphore of the kernel's own decodes to its copy and side. -/
theorem side_osem (p : Bool × Ch) : side (osem p) = (p.2, p.1) := by
  rcases p with ⟨b, ch⟩
  cases b
  · exact dec_sIx ch
  · exact dec_rIx ch
/-- No two of the kernel's own semaphores are the same. -/
theorem osem_inj : Function.Injective osem := fun p q h => by
  have e := congrArg side h
  rw [side_osem, side_osem] at e
  exact Prod.ext (congrArg Prod.snd e) (congrArg Prod.fst e)
/-- None of the kernel's own semaphores is the barrier. -/
theorem osem_ne_bar (p : Bool × Ch) : osem p ≠ .reg barS := by
  rcases p with ⟨b, ch⟩
  cases b <;> exact fun h => nomatch h
/-- Every copy semaphore from six on is the kernel's own. -/
theorem scoped_of_six : ∀ n : DmaSem sig, 6 ≤ n.val → (SemLoc.dma n : SemLoc sig).isScoped .tc = true := by decide
/-- The staging semaphores are the first six. -/
theorem stage_sem_lt : ∀ (w : Fin 6) (s : Fin (spec0 w).nbuf), ((spec0 w).sem s).val < 6 := by decide
/-- The kernel's own semaphores are scoped, distinct, and none is a staging buffer's. -/
theorem osemFacts : Pipeline.OwnSemFacts spec0 osem where
  isScoped p := by
    rcases p with ⟨b, ch⟩
    cases b
    · exact scoped_of_six _ (six_le_sIx ch)
    · exact scoped_of_six _ (six_le_rIx ch)
  inj := osem_inj
  disj p w s h := by
    have hw := stage_sem_lt w s
    rcases p with ⟨b, ch⟩
    cases b
    · have e : ch.sIx = (spec0 w).sem s := SemLoc.dma.inj h
      have := six_le_sIx ch; rw [e] at this; omega
    · have e : ch.rIx = (spec0 w).sem s := SemLoc.dma.inj h
      have := six_le_rIx ch; rw [e] at this; omega

/-- A statement over the kernel's own semaphores, side by side. -/
theorem bigSep_sides (Φ : Bool × Ch → sProp 𝕄) : (bigSep Finset.univ Φ : sProp 𝕄)
    = iprop((bigSep Finset.univ fun ch : Ch => Φ (false, ch)) ∗ bigSep Finset.univ fun ch : Ch => Φ (true, ch)) := by
  rw [bigSep_univ_prod, bigSep_univ_eq_bigSepL [false, true] (by decide) (by decide)]; rfl
/-- The counters of the kernel's own semaphores at zero. -/
theorem ownSems_eq (c : Dev nD) : (Pipeline.ownSems0 osem c : sProp 𝕄)
    = iprop((bigSep Finset.univ fun ch : Ch => semVal (sCell ch c) 0) ∗ bigSep Finset.univ fun ch : Ch => semVal (rCell ch c) 0) := by
  unfold Pipeline.ownSems0
  exact bigSep_sides fun p : Bool × Ch => (semVal ((c : Thread nD τ), osem p) 0 : sProp 𝕄)

/-! ## What the region starts from and leaves -/

/-- What the launch gives a device for the copy it is to send: its own send duty and the duty at the peer's landing. -/
def sendToks (ch : Ch) (c : Dev nD) : sProp 𝕄 := iprop(dutyTok ER (sCell ch c) 0 0 ∗ dutyTok ER (rCell ch (pr ch.peer c)) 0 0)
/-- The right to open the two cells of a copy. -/
def openToks (ch : Ch) (c : Dev nD) : sProp 𝕄 := iprop(openTok ER (sCell ch c) ∗ openTok ER (rCell ch c))

/-- What the launch keeps for the region, with the own cells still closed. -/
def Tk (c : Dev nD) : sProp 𝕄 :=
  iprop(∃ K, invs (inp m) K ∗ (bigSep Finset.univ fun d : Fin 9 => toSignal d c) ∗ cred (tallyAt (barCell c) () 9) ∗ atPos ER (barCell c) 0 ∅ 0
    ∗ (bigSep Finset.univ fun ch : Ch => sendToks ch c) ∗ (bigSep Finset.univ fun ch : Ch => cred (tallyAt (rCell ch c) () ch.amt))
    ∗ bigSep Finset.univ fun ch : Ch => openToks ch c)
/-- The same with the own cells open. -/
def Xk (c : Dev nD) : sProp 𝕄 :=
  iprop(∃ K, invs (inp m) K ∗ levAts L lv ∗ (bigSep Finset.univ fun d : Fin 9 => toSignal d c) ∗ cred (tallyAt (barCell c) () 9) ∗ atPos ER (barCell c) 0 ∅ 0
    ∗ (bigSep Finset.univ fun ch : Ch => toSend ch c) ∗ (bigSep Finset.univ fun ch : Ch => toRecv ch c)
    ∗ bigSep Finset.univ fun ch : Ch => reached ER (rCell ch c) 0)
/-- What the region leaves: the barrier's counter at zero. -/
def Yk (c : Dev nD) : sProp 𝕄 := semVal (barCell c) 0

/-- The five scratch arrays, at contents not chosen. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- All own cells open at once: every copy's send side and landing side. -/
theorem open_cells (K : GSem nD τ sig → ℕ) (c : Dev nD) :
    iprop(invs (inp m) K ∗ (bigSep Finset.univ fun ch : Ch => openToks ch c)
        ∗ (bigSep Finset.univ fun ch : Ch => semVal (sCell ch c) 0) ∗ bigSep Finset.univ fun ch : Ch => semVal (rCell ch c) 0)
      ⊢ (|={Set.univ}=> iprop((bigSep Finset.univ fun ch : Ch => iprop(atPos ER (sCell ch c) 0 ∅ 0 ∗ reached ER (sCell ch c) 0))
          ∗ bigSep Finset.univ fun ch : Ch => iprop(atPos ER (rCell ch c) 0 ∅ 0 ∗ reached ER (rCell ch c) 0)) : sProp 𝕄) := by
  have hs : iprop(invs (inp m) K ∗ bigSep Finset.univ fun ch : Ch => openTok ER (sCell ch c))
      ⊢ (bigSep Finset.univ fun ch : Ch => iprop(cellInv ER (rd (inp m)) (K (sCell ch c)) (sCell ch c) ∗ openTok ER (sCell ch c)) : sProp 𝕄) :=
    bigSep_with_persistent fun ch _ => sep_mono_left (inv_s (inp m) K ch c)
  have hr : iprop(invs (inp m) K ∗ bigSep Finset.univ fun ch : Ch => openTok ER (rCell ch c))
      ⊢ (bigSep Finset.univ fun ch : Ch => iprop(cellInv ER (rd (inp m)) (K (rCell ch c)) (rCell ch c) ∗ openTok ER (rCell ch c)) : sProp 𝕄) :=
    bigSep_with_persistent fun ch _ => sep_mono_left (inv_r (inp m) K ch c)
  unfold openToks
  rw [bigSep_sep']
  iintro ⟨#HI, ⟨Hos, Hor⟩, Hs, Hr⟩
  ihave Hs' := hs $$ [Hos]
  · isplitr; · iexact HI
    iexact Hos
  ihave Hr' := hr $$ [Hor]
  · isplitr; · iexact HI
    iexact Hor
  imod (Rounds.cells_open ER (rd (inp m)) (Finset.univ : Finset Ch) (fun ch => sCell ch c) (fun ch => K (sCell ch c)) (fun ch _ => Set.mem_univ _)) $$ [Hs' Hs] with H1
  · isplitl [Hs'] <;> iassumption
  imod (Rounds.cells_open ER (rd (inp m)) (Finset.univ : Finset Ch) (fun ch => rCell ch c) (fun ch => K (rCell ch c)) (fun ch _ => Set.mem_univ _)) $$ [Hr' Hr] with H2
  · isplitl [Hr'] <;> iassumption
  imodintro
  isplitl [H1] <;> iassumption

/-- At the region's entry the own cells open. -/
theorem hopen (c : Dev nD) : iprop(Tk m c ∗ Pipeline.ownSems0 osem c ∗ levAts L lv) ⊢ (|={Set.univ}=> Xk m c : sProp 𝕄) := by
  rw [ownSems_eq]
  unfold Tk Xk
  iintro ⟨⟨%K, #HI, Hsig, Hcb, Hab, Hst, Hcr, Hop⟩, ⟨Hs0, Hr0⟩, #Hlev⟩
  imod (open_cells m K c) $$ [Hop Hs0 Hr0] with ⟨Hs, Hr⟩
  · isplitr; · iexact HI
    isplitl [Hop]; · iexact Hop
    isplitl [Hs0] <;> iassumption
  have h1 : iprop((bigSep Finset.univ fun ch : Ch => sendToks ch c) ∗ bigSep Finset.univ fun ch : Ch => iprop(atPos ER (sCell ch c) 0 ∅ 0 ∗ reached ER (sCell ch c) 0))
      ⊢ (bigSep Finset.univ fun ch : Ch => toSend ch c : sProp 𝕄) := by
    rw [← bigSep_sep']
    refine bigSep_mono fun ch _ => ?_
    show iprop(sendToks ch c ∗ atPos ER (sCell ch c) 0 ∅ 0 ∗ reached ER (sCell ch c) 0) ⊢ toSend ch c
    unfold sendToks toSend
    iintro ⟨⟨H1, H2⟩, H3, H4⟩
    isplitl [H1]; · iexact H1
    isplitl [H4]; · iexact H4
    isplitl [H2] <;> iassumption
  have h2 : iprop((bigSep Finset.univ fun ch : Ch => cred (tallyAt (rCell ch c) () ch.amt)) ∗ bigSep Finset.univ fun ch : Ch => iprop(atPos ER (rCell ch c) 0 ∅ 0 ∗ reached ER (rCell ch c) 0))
      ⊢ (iprop((bigSep Finset.univ fun ch : Ch => toRecv ch c) ∗ bigSep Finset.univ fun ch : Ch => reached ER (rCell ch c) 0) : sProp 𝕄) := by
    rw [← bigSep_sep', ← bigSep_sep']
    refine bigSep_mono fun ch _ => ?_
    show iprop(cred (tallyAt (rCell ch c) () ch.amt) ∗ atPos ER (rCell ch c) 0 ∅ 0 ∗ reached ER (rCell ch c) 0) ⊢ iprop(toRecv ch c ∗ reached ER (rCell ch c) 0)
    unfold toRecv
    iintro ⟨H1, H3, H4⟩
    isplitl [H1 H3]
    · isplitl [H1] <;> iassumption
    · iexact H4
  ihave Hs := h1 $$ [Hst Hs]
  · isplitl [Hst] <;> iassumption
  ihave Hr := h2 $$ [Hcr Hr]
  · isplitl [Hcr] <;> iassumption
  icases Hr with ⟨Hr, Hre⟩
  imodintro
  iexists K
  isplitr; · iexact HI
  isplitr; · iexact Hlev
  isplitl [Hsig]; · iexact Hsig
  isplitl [Hcb]; · iexact Hcb
  isplitl [Hab]; · iexact Hab
  isplitl [Hs]; · iexact Hs
  isplitl [Hr] <;> iassumption

/-! ## The windows -/

/-- Window 0's block is its whole array. -/
theorem blk_read0 (t : Fin cfg0.N) (f : (main_arg0 : Ref sig .tc).ty.Contents (Elt F)) : (win0_0.blk t).view.read (Elt F) f = f :=
  funext fun y => congrArg f (funext fun a => Fin.ext (Pipeline.Window.rect_emb_val_of_index_zero win0_0 t a rfl y))
/-- Window 1's block is its whole array. -/
theorem blk_read1 (t : Fin cfg0.N) (f : (main_arg1 : Ref sig .tc).ty.Contents (Elt F)) : (win0_1.blk t).view.read (Elt F) f = f :=
  funext fun y => congrArg f (funext fun a => Fin.ext (Pipeline.Window.rect_emb_val_of_index_zero win0_1 t a rfl y))
/-- Window 2's block is its whole array. -/
theorem blk_read2 (t : Fin cfg0.N) (f : (main_v11 : Ref sig .tc).ty.Contents (Elt F)) : (win0_2.blk t).view.read (Elt F) f = f :=
  funext fun y => congrArg f (funext fun a => Fin.ext (Pipeline.Window.rect_emb_val_of_index_zero win0_2 t a rfl y))
/-- Window 3's block is its whole array. -/
theorem blk_read3 (t : Fin cfg0.N) (f : (main_v18 : Ref sig .tc).ty.Contents (Elt F)) : (win0_3.blk t).view.read (Elt F) f = f :=
  funext fun y => congrArg f (funext fun a => Fin.ext (Pipeline.Window.rect_emb_val_of_index_zero win0_3 t a rfl y))
/-- Window 4's block is its whole array. -/
theorem blk_read4 (t : Fin cfg0.N) (f : (main_arg4 : Ref sig .tc).ty.Contents (Elt F)) : (win0_4.blk t).view.read (Elt F) f = f :=
  funext fun y => congrArg f (funext fun a => Fin.ext (Pipeline.Window.rect_emb_val_of_index_zero win0_4 t a rfl y))
/-- Window 5's block is its whole array. -/
theorem blk_read5 (t : Fin cfg0.N) (f : (main_v19 : Ref sig .tc).ty.Contents (Elt F)) : (win0_5.blk t).view.read (Elt F) f = f :=
  funext fun y => congrArg f (funext fun a => Fin.ext (Pipeline.Window.rect_emb_val_of_index_zero win0_5 t a rfl y))

/-- What is held before the body and after it, the windows apart. -/
def held' (c : Dev nD) : ℕ → sProp 𝕄
  | 0 => iprop(Xk m c ∗ scratch c ∗ ∃ r, prngReg c r)
  | _ + 1 => iprop(Yk c ∗ ((bigSep Finset.univ fun ch : Ch => semVal (sCell ch c) 0) ∗ bigSep Finset.univ fun ch : Ch => semVal (rCell ch c) 0) ∗ scratch c ∗ ∃ r, prngReg c r)
/-- What is owed before the body, and after it. -/
def due (c : Dev nD) : ℕ → CellTallies nD τ sig Unit
  | 0 => owed₀ c
  | _ + 1 => 0

/-- The region's proof data: the windows' contents before and after, and what is held and owed before and after its one
    point. -/
def dat (c : Dev nD) : Dat τ (Elt F) Unit ℕ UU ℕ cfg0 c where
  A w := match w with
    | 0 => V1 m c main_arg0
    | 1 => V1 m c main_arg1
    | 2 => V1 m c main_v11
    | 3 => V1 m c main_v18
    | 4 => V1 m c main_arg4
    | 5 => V1 m c main_v19
  after w _ := match w with
    | 0 => (inp m c).x
    | 1 => (inp m c).wq
    | 2 => (inp m c).k
    | 3 => (inp m c).v
    | 4 => (inp m c).wo
    | 5 => outV (inp m)
  Φ t := held' m c t.val
  q _ := fullShare
  owed t := due c t.val

/-- The data as the kit takes it. -/
def pdats (p : Fin 1) (c : Dev nD) : Dat τ (Elt F) Unit ℕ UU ℕ (cfgs p) c := dat m c

/-- What a device holds at the kernel's entry. -/
theorem Φ_first (c : Dev nD) : (dat m c).Φ (Fin.castSucc t0_0) = iprop(Xk m c ∗ scratch c ∗ ∃ r, prngReg c r) := rfl
/-- What a device holds at the kernel's exit. -/
theorem Φ_last (c : Dev nD) : (dat m c).Φ (Fin.succ t0_0) = iprop(Yk c ∗ ((bigSep Finset.univ fun ch : Ch => semVal (sCell ch c) 0) ∗ bigSep Finset.univ fun ch : Ch => semVal (rCell ch c) 0) ∗ scratch c ∗ ∃ r, prngReg c r) :=
  rfl
/-- At entry everything is owed. -/
theorem owed_first (c : Dev nD) : (dat m c).owed (Fin.castSucc t0_0) = owed₀ c := rfl
/-- At exit nothing is. -/
theorem owed_last (c : Dev nD) : (dat m c).owed (Fin.succ t0_0) = 0 := rfl
/-- The grid has one point. -/
theorem last_eq : Fin.last cfg0.N = Fin.succ t0_0 := by
  apply Fin.ext
  show cfg0.N = 0 + 1
  exact N_0

/-- The first staging buffer holds the activations. -/
theorem before0 (c : Dev nD) (d) : (dat m c).before 0 t0_0 d = (inp m c).x := by
  unfold Dat.before
  rw [if_pos (fetch0_0 t0_0)]
  exact blk_read0 t0_0 (V1 m c main_arg0)
/-- The second staging buffer holds the query weights. -/
theorem before1 (c : Dev nD) (d) : (dat m c).before 1 t0_0 d = (inp m c).wq := by
  unfold Dat.before
  rw [if_pos (fetch0_1 t0_0)]
  exact blk_read1 t0_0 (V1 m c main_arg1)
/-- The third staging buffer holds the keys. -/
theorem before2 (c : Dev nD) (d) : (dat m c).before 2 t0_0 d = (inp m c).k := by
  unfold Dat.before
  rw [if_pos (fetch0_2 t0_0)]
  exact blk_read2 t0_0 (V1 m c main_v11)
/-- The fourth staging buffer holds the values. -/
theorem before3 (c : Dev nD) (d) : (dat m c).before 3 t0_0 d = (inp m c).v := by
  unfold Dat.before
  rw [if_pos (fetch0_3 t0_0)]
  exact blk_read3 t0_0 (V1 m c main_v18)
/-- The fifth staging buffer holds the output weights. -/
theorem before4 (c : Dev nD) (d) : (dat m c).before 4 t0_0 d = (inp m c).wo := by
  unfold Dat.before
  rw [if_pos (fetch0_4 t0_0)]
  exact blk_read4 t0_0 (V1 m c main_arg4)

/-- Owning a whole buffer is holding its points-to. -/
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop((dat m c).Φ (Fin.castSucc t0_0) ∗ (dat m c).owesAt () (Fin.castSucc t0_0)
    ∗ (∃ d, stg c cc0_stg0_0 ((dat m c).before 0 t0_0 d))
    ∗ (∃ d, stg c cc0_stg1_0 ((dat m c).before 1 t0_0 d))
    ∗ (∃ d, stg c cc0_stg2_0 ((dat m c).before 2 t0_0 d))
    ∗ (∃ d, stg c cc0_stg3_0 ((dat m c).before 3 t0_0 d))
    ∗ (∃ d, stg c cc0_stg4_0 ((dat m c).before 4 t0_0 d))
    ∗ (∃ d, stg c cc0_stg5_0 ((dat m c).before 5 t0_0 d)))
def bodyPost (c : Dev nD) : sProp 𝕄 :=
  iprop((dat m c).Φ (Fin.succ t0_0) ∗ (dat m c).owesAt () (Fin.succ t0_0)
    ∗ stg c cc0_stg0_0 (inp m c).x ∗ stg c cc0_stg1_0 (inp m c).wq ∗ stg c cc0_stg2_0 (inp m c).k ∗ stg c cc0_stg3_0 (inp m c).v
    ∗ stg c cc0_stg4_0 (inp m c).wo ∗ stg c cc0_stg5_0 (outV (inp m)))

set_option maxRecDepth 4000 in
/-- The run of the body, from the windows' staging buffers to them. -/
theorem body_sound (c : Dev nD) : bodyPre m c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) (fun _ => bodyPost m c) := by
  unfold bodyPre bodyPost
  rw [Φ_first, Φ_last]
  unfold Dat.owesAt Pipeline.owesWithin
  rw [owed_first, owed_last]
  unfold Xk scratch Yk
  iintro ⟨⟨⟨%K, #HI, #Hlev, Hsig, Hcb, Hab, Hts, Htr, Hre⟩, ⟨⟨%f0, Hc0⟩, ⟨%f1, Hc1⟩, ⟨%f2, Hc2⟩, ⟨%f3, Hc3⟩, ⟨%f4, Hc4⟩⟩, Hp⟩, ⟨%W, %hW, HO⟩,
    ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩⟩
  rw [before0] at e0
  rw [before1] at e1
  rw [before2] at e2
  rw [before3] at e3
  rw [before4] at e4
  subst e0 e1 e2 e3 e4
  iapply (body_run (inp m) K c g5 f0 f1 f2 f3 f4) $$ [HO Hsig Hcb Hab Hts Htr Hre H0 H1 H2 H3 H4 H5 Hc0 Hc1 Hc2 Hc3 Hc4]
  · isplitr; · iexact HI
    isplitr; · iexact Hlev
    isplitl [HO]; · iexists W; iexact HO
    isplitl [Hsig]; · iexact Hsig
    isplitl [Hcb]; · iexact Hcb
    isplitl [Hab]; · iexact Hab
    isplitl [Hts]; · iexact Hts
    isplitl [Htr]; · iexact Htr
    isplitl [Hre]; · iexact Hre
    isplitl [H0]; · iexact H0
    isplitl [H1]; · iexact H1
    isplitl [H2]; · iexact H2
    isplitl [H3]; · iexact H3
    isplitl [H4]; · iexact H4
    isplitl [H5]; · iexact H5
    isplitl [Hc0]; · iexact Hc0
    isplitl [Hc1]; · iexact Hc1
    isplitl [Hc2]; · iexact Hc2
    isplitl [Hc3]; · iexact Hc3
    iexact Hc4
  iintro ⟨⟨%W', HO⟩, H0, H1, H2, H3, H4, H5, Hb, Hs, Hr, Hc0, Hc1, Hc2, Hc3, Hc4⟩
  isplitl [Hb Hs Hr Hc0 Hc1 Hc2 Hc3 Hc4 Hp]
  · isplitl [Hb]; · iexact Hb
    isplitl [Hs Hr]
    · isplitl [Hs] <;> iassumption
    isplitr [Hp]
    · isplitl [Hc0]; · iexists _; iexact Hc0
      isplitl [Hc1]; · iexact Hc1
      isplitl [Hc2]; · iexact Hc2
      isplitl [Hc3]; · iexact Hc3
      iexists _; iexact Hc4
    iexact Hp
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 8000 in
/-- The library's obligation on the body. -/
theorem body_obligation (c : Dev nD) : BodyObligation (dat m c) (defs₀ (F := F)) 𝒱₀ () Set.univ := fun t => by
  rw [fin_N0 t]
  rw [bigSep_W0, bigSep_W0]
  simp only [owns_eq]
  exact body_sound m c

/-! ## The region -/

/-- The buffers after the region: the result array holds the result. -/
def W2 (c : Dev nD) : Valuation τ sig (Elt F) := Function.update (V1 m c) main_v19 (outV (inp m))

/-- After the kernel the output holds the result. -/
theorem W2_out (c : Dev nD) : W2 m c main_v19 = outV (inp m) := Function.update_self ..
/-- After the kernel every other array is as before. -/
theorem W2_of (c : Dev nD) (r : Ref sig .tc) (h : r ≠ main_v19) : W2 m c r = V1 m c r :=
  Function.update_of_ne (StableHlo.devRef_ne_of_ne h) ..

/-- The output's one block is the whole output. -/
theorem blk_all (t : Fin cfg0.N) (i : S2x256x512.Idx) : i ∈ (win0_5.blk t).view.set := by
  show i ∈ ((View.whole main_v19).slice (win0_5.rect t)).set
  rw [View.set_slice_whole]
  refine (Rect.mem_set_unit ..).mpr fun a => ?_
  have e : ∀ a : Fin 3, win0_5.index t a * win0_5.size a = 0 ∧ win0_5.xsize (grid0.coords t) a = S2x256x512.size a := by
    rw [fin_N0 t]; decide +kernel
  have h : win0_5.index t a * win0_5.size a ≤ (i a : ℕ) ∧ (i a : ℕ) < win0_5.index t a * win0_5.size a + win0_5.xsize (grid0.coords t) a := by
    rw [(e a).1, (e a).2]
    exact ⟨Nat.zero_le _, by rw [Nat.zero_add]; exact (i a).isLt⟩
  exact h

/-- The result array ends at the result. -/
theorem arr_out (c : Dev nD) : (dat m c).arrAt 5 cfg0.N = outV (inp m) :=
  (dat m c).arrAt_eq_of_cover 5 (outV (inp m)) (fun t _ => (blk_read5 t (outV (inp m))).symm)
    fun i => ⟨t0_0, flush0_5 _, blk_all t0_0 i⟩

/-- Before the grid every operand is as the host left it. -/
theorem arr_first (c : Dev nD) (w : Fin 6) : (dat m c).arrAt w 0 = V1 m c (Proc.devRef .tc (Pipeline.arrRef spec0 w)) := by
  fin_cases w <;> rfl
/-- After the grid the operands are as they were and the output is the result. -/
theorem arr_last (c : Dev nD) (w : Fin 6) : (dat m c).arrAt w cfg0.N = W2 m c (Proc.devRef .tc (Pipeline.arrRef spec0 w)) := by
  fin_cases w
  · exact ((dat m c).arrAt_in 0 rfl _).trans (W2_of m c main_arg0 (by decide)).symm
  · exact ((dat m c).arrAt_in 1 rfl _).trans (W2_of m c main_arg1 (by decide)).symm
  · exact ((dat m c).arrAt_in 2 rfl _).trans (W2_of m c main_v11 (by decide)).symm
  · exact ((dat m c).arrAt_in 3 rfl _).trans (W2_of m c main_v18 (by decide)).symm
  · exact ((dat m c).arrAt_in 4 rfl _).trans (W2_of m c main_arg4 (by decide)).symm
  · exact (arr_out m c).trans (W2_out m c).symm

/-- The launch facts of the kernel's pipeline. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers the region does not touch. -/
abbrev restRefs : Finset (DevRef τ sig) := Pipeline.ucRefs τ sig \ Pipeline.arrRefs (τ := τ) spec0

/-- Arrays that are no operand are unchanged. -/
theorem W2_rest (c : Dev nD) : ∀ b ∈ restRefs \ ∅, W2 m c b = V1 m c b := fun b hb => by
  refine Function.update_of_ne (fun h => ?_) ..
  subst h
  rw [Finset.sdiff_empty, Finset.mem_sdiff] at hb
  exact hb.2 (by decide)

/-- Whatever is owed is owed at a cell above level zero. -/
theorem owed_level (c : Dev nD) (t : Fin (cfg0.N + 1)) (g : GSem nD τ sig) (i : Unit) (h : 0 < (dat m c).owed t g i) :
    i ∈ L g ∧ 0 < lv g i := by
  have h' : 0 < due c t.val g i := h
  generalize t.val = n at h'
  cases n with
  | succ n => exact absurd h' (Nat.lt_irrefl 0)
  | zero =>
    cases i
    rcases owedB_pos (show 0 < owed₀ c g () from h') with ⟨ch, -, rfl⟩ | ⟨d, -, rfl⟩
    · exact ⟨by rw [L_tc]; exact Finset.mem_singleton_self _, by rw [lv_r]; exact Nat.lt_trans Nat.zero_lt_one (lev_pos ch)⟩
    · exact ⟨by rw [L_tc]; exact Finset.mem_singleton_self _, by rw [lv_bar]; exact Nat.one_pos⟩

/-- What the launch hands the kernel is what its first point starts from. -/
theorem hin (c : Dev nD) : iprop(Pipeline.scopedRest (Ix := Unit) (Name := ℕ) (U := UU) (Lvl := ℕ) (Val := Elt F) spec0 c ∗ (∃ r, prngReg c r)
    ∗ StableHlo.held (c.tc : Thread nD τ) ∅ (V1 m c) ∗ Xk m c) ⊢ (dat m c).Φ 0 := by
  rw [show (dat m c).Φ 0 = iprop(Xk m c ∗ scratch c ∗ ∃ r, prngReg c r) from Φ_first m c, scopedRest0_eq]
  iintro ⟨Hs, Hp, -, HX⟩
  isplitl [HX]; · iexact HX
  isplitl [Hs]; · unfold scratch; iexact Hs
  iexact Hp

/-- What the last point leaves is what the kernel hands back. -/
theorem hout (c : Dev nD) : (dat m c).Φ (Fin.last cfg0.N)
    ⊢ iprop(Pipeline.scopedRest (Ix := Unit) (Name := ℕ) (U := UU) (Lvl := ℕ) (Val := Elt F) spec0 c ∗ (∃ r, prngReg c r)
      ∗ StableHlo.held (c.tc : Thread nD τ) ∅ (W2 m c) ∗ Pipeline.ownSems0 osem c ∗ Yk c) := by
  rw [last_eq, Φ_last, ownSems_eq, scopedRest0_eq]
  unfold StableHlo.held
  rw [BI.bigSep_empty]
  iintro ⟨HY, Hss, Hs, Hp⟩
  isplitl [Hs]; · unfold scratch; iexact Hs
  isplitl [Hp]; · iexact Hp
  isplitr; · iempintro
  isplitl [Hss]; · iexact Hss
  iexact HY

/-- Every operand is held whole. -/
theorem share_eq (c : Dev nD) (w : Fin cfg0.W) : (dat m c).share w = fullShare := by unfold Dat.share; split <;> rfl

set_option backward.isDefEq.respectTransparency.types false in
/-- The region's record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osemFacts
    ∅ restRefs (Finset.empty_subset _) kitP rfl (fun c => (body_obligation m c).loose)
    (fun _ => 0) owed₀ (fun c => (owed_first m c).trans (zero_add _).symm) (fun c => (congrArg (dat m c).owed last_eq).trans (owed_last m c)) (fun _ => rfl)
    (fun c w => share_eq m c w)
    (V1 m) (W2 m) (W2_rest m)
    (Tk m) Yk (Xk m) Yk (hopen m) (hin m) (hout m)
    (fun c => by iintro H; imodintro; iexact H)
    (fun _ => 0)
    ⟨fun c w s => by rw [L_tc]; exact Finset.mem_singleton_self _,
      fun c w s => le_of_eq (if_neg fun h => absurd (stage_sem_lt w s) (Nat.not_lt.mpr h.1)),
      fun c t g i h => owed_level m c t g i h⟩
    (fun _ => iprop(emp))
    (arr_first m) (arr_last m)

end Cert.Attn
-- ==== Proof.Run.lean ====
/-
The launch: every cell's invariant, the tokens dealt to the devices that spend them, the launch credits, and the run of
the whole program from any memory.
-/
module

public import proofs.«01_k».proof.Proof.Region

@[expose] public section

noncomputable section

namespace Cert.Attn

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- Equal cells are of one device. -/
theorem dev_of_cell {c c' : Dev nD} {s s' : SemLoc sig} (h : (((c : Thread nD τ), s) : GSem nD τ sig) = ((c' : Thread nD τ), s')) : c = c' :=
  congrArg (fun g : GSem nD τ sig => g.1.1) h

def barEmb : Dev nD ↪ GSem nD τ sig := ⟨fun c => barCell c, fun _ _ h => dev_of_cell h⟩
def ownEmb : Dev nD × (Bool × Ch) ↪ GSem nD τ sig :=
  ⟨fun p => ((p.1 : Thread nD τ), osem p.2), fun _ _ h => Prod.ext (dev_of_cell h) (osem_inj (congrArg Prod.snd h))⟩

/-- The barrier cells, live from the launch; the copies' cells, opened by the kernel. -/
abbrev barCells : Finset (GSem nD τ sig) := Finset.univ.map barEmb
abbrev ownCells : Finset (GSem nD τ sig) := Finset.univ.map ownEmb

/-- Barrier cells are none of the copies' cells. -/
theorem cells_disjoint : Disjoint barCells ownCells := by
  rw [Finset.disjoint_left]
  intro g h₁ h₂
  obtain ⟨c, -, rfl⟩ := Finset.mem_map.mp h₁
  obtain ⟨p, -, h⟩ := Finset.mem_map.mp h₂
  exact osem_ne_bar p.2 (congrArg Prod.snd h)

def barTok : Dev nD × Fin 9 ↪ GSem nD τ sig × ℕ × Fin 9 :=
  ⟨fun p => (barCell p.1, 0, p.2), fun _ _ h => Prod.ext (dev_of_cell (congrArg Prod.fst h)) (congrArg (fun t : GSem nD τ sig × ℕ × Fin 9 => t.2.2) h)⟩
def ownTok : Dev nD × (Bool × Ch) ↪ GSem nD τ sig × ℕ × Fin 9 :=
  ⟨fun p => (ownEmb p, 0, 0), fun _ _ h => ownEmb.injective (congrArg Prod.fst h)⟩

/-- Every duty's token: nine to a barrier cell, one to each of a copy's two cells. -/
abbrev toks : Finset (GSem nD τ sig × ℕ × Fin 9) := Finset.univ.map barTok ∪ Finset.univ.map ownTok

/-- Barrier tokens are none of the copies' tokens. -/
theorem toks_disjoint : Disjoint (Finset.univ.map barTok) (Finset.univ.map ownTok) := by
  rw [Finset.disjoint_left]
  intro g h₁ h₂
  obtain ⟨c, -, rfl⟩ := Finset.mem_map.mp h₁
  obtain ⟨p, -, h⟩ := Finset.mem_map.mp h₂
  exact osem_ne_bar p.2 (congrArg (fun t : GSem nD τ sig × ℕ × Fin 9 => t.1.2) h)

/-- All tokens are the barrier's and the copies'. -/
theorem toks_split : (bigSep toks (fun x => (dutyTok ER x.1 x.2.1 x.2.2 : sProp 𝕄)))
    = iprop((bigSep (Finset.univ.map barTok) fun x => (dutyTok ER x.1 x.2.1 x.2.2 : sProp 𝕄))
      ∗ bigSep (Finset.univ.map ownTok) fun x => (dutyTok ER x.1 x.2.1 x.2.2 : sProp 𝕄)) := bigSep_union toks_disjoint

/-- Across the `d`-th link, both ways. -/
def acrossD : Dev nD × Fin 9 ≃ Dev nD × Fin 9 :=
  ⟨fun p => (pr p.2 p.1, p.2), fun p => (pr p.2 p.1, p.2), fun p => Prod.ext (pr_pr p.2 p.1) rfl, fun p => Prod.ext (pr_pr p.2 p.1) rfl⟩
/-- Across a copy's link, both ways. -/
def acrossCh : Dev nD × Ch ≃ Dev nD × Ch :=
  ⟨fun p => (pr p.2.peer p.1, p.2), fun p => (pr p.2.peer p.1, p.2), fun p => Prod.ext (pr_pr p.2.peer p.1) rfl, fun p => Prod.ext (pr_pr p.2.peer p.1) rfl⟩

/-- The barrier tokens, each with the device that signals. -/
theorem bar_toks : (bigSep (Finset.univ.map barTok) (fun x => (dutyTok ER x.1 x.2.1 x.2.2 : sProp 𝕄)))
    = bigSep Finset.univ fun c : Dev nD => bigSep Finset.univ fun d : Fin 9 => (dutyTok ER (barCell (pr d c)) 0 d : sProp 𝕄) := by
  rw [bigSep_map, bigSep_univ_equiv acrossD, bigSep_univ_prod]; rfl

/-- A statement over all the own cells, device by device and side by side. -/
theorem own_cells (Φ : Dev nD × (Bool × Ch) → sProp 𝕄) : (bigSep Finset.univ Φ : sProp 𝕄)
    = iprop((bigSep Finset.univ fun c : Dev nD => bigSep Finset.univ fun ch : Ch => Φ (c, (false, ch)))
      ∗ bigSep Finset.univ fun c : Dev nD => bigSep Finset.univ fun ch : Ch => Φ (c, (true, ch))) := by
  rw [bigSep_univ_prod, ← bigSep_sep']
  exact bigSep_congr fun c _ => bigSep_sides fun p => Φ (c, p)

/-- The copies' tokens, each with the device that sends. -/
theorem own_toks : (bigSep (Finset.univ.map ownTok) (fun x => (dutyTok ER x.1 x.2.1 x.2.2 : sProp 𝕄)))
    = bigSep Finset.univ fun c : Dev nD => bigSep Finset.univ fun ch : Ch => (sendToks ch c : sProp 𝕄) := by
  have h : (bigSep Finset.univ fun c : Dev nD => bigSep Finset.univ fun ch : Ch => (dutyTok ER (rCell ch c) 0 0 : sProp 𝕄))
      = bigSep Finset.univ fun c : Dev nD => bigSep Finset.univ fun ch : Ch => (dutyTok ER (rCell ch (pr ch.peer c)) 0 0 : sProp 𝕄) := by
    rw [← bigSep_univ_prod (fun p : Dev nD × Ch => (dutyTok ER (rCell p.2 p.1) 0 0 : sProp 𝕄)), bigSep_univ_equiv acrossCh, bigSep_univ_prod]; rfl
  rw [bigSep_map, own_cells]
  show iprop((bigSep Finset.univ fun c : Dev nD => bigSep Finset.univ fun ch : Ch => (dutyTok ER (sCell ch c) 0 0 : sProp 𝕄))
      ∗ bigSep Finset.univ fun c : Dev nD => bigSep Finset.univ fun ch : Ch => (dutyTok ER (rCell ch c) 0 0 : sProp 𝕄)) = _
  rw [h, ← bigSep_sep']
  refine bigSep_congr fun c _ => ?_
  rw [← bigSep_sep']; rfl

/-- The rights to open, device by device. -/
theorem own_opens : (bigSep ownCells (fun g => (openTok ER g : sProp 𝕄)))
    = bigSep Finset.univ fun c : Dev nD => bigSep Finset.univ fun ch : Ch => (openToks ch c : sProp 𝕄) := by
  rw [bigSep_map, own_cells]
  show iprop((bigSep Finset.univ fun c : Dev nD => bigSep Finset.univ fun ch : Ch => (openTok ER (sCell ch c) : sProp 𝕄))
      ∗ bigSep Finset.univ fun c : Dev nD => bigSep Finset.univ fun ch : Ch => (openTok ER (rCell ch c) : sProp 𝕄)) = _
  rw [← bigSep_sep']
  refine bigSep_congr fun c _ => ?_
  rw [← bigSep_sep']; rfl

/-- The invariants of all the cells. -/
theorem all_invs (κ : GSem nD τ sig → ℕ) : (bigSep (barCells ∪ ownCells) (fun g => (cellInv ER (rd (inp m)) (κ g) g : sProp 𝕄))) = invs (inp m) κ := by
  unfold invs
  rw [bigSep_union cells_disjoint, bigSep_map, bigSep_map, own_cells, bigSep_univ_prod]
  refine congrArg₂ BIBase.sep rfl ?_
  show iprop((bigSep Finset.univ fun c : Dev nD => bigSep Finset.univ fun ch : Ch => (cellInv ER (rd (inp m)) (κ (sCell ch c)) (sCell ch c) : sProp 𝕄))
      ∗ bigSep Finset.univ fun c : Dev nD => bigSep Finset.univ fun ch : Ch => (cellInv ER (rd (inp m)) (κ (rCell ch c)) (rCell ch c) : sProp 𝕄)) = _
  rw [← bigSep_sep']
  refine bigSep_congr fun c _ => ?_
  rw [← bigSep_sep']

/-! ## The launch credits -/

/-- Copies with one landing semaphore are one. -/
theorem rIx_inj {ch ch' : Ch} (h : ch.rIx = ch'.rIx) : ch = ch' := by
  have := congrArg (fun n : DmaSem sig => (dec n.val).1) h
  dsimp only at this
  rwa [dec_rIx, dec_rIx] at this
/-- Copies with one landing cell are one. -/
theorem ch_of_rCell {ch ch' : Ch} {c c' : Dev nD} (h : rCell ch c = rCell ch' c') : ch = ch' :=
  rIx_inj (SemLoc.dma.inj (congrArg Prod.snd h))
/-- No landing cell is a barrier cell. -/
theorem rCell_ne_bar {ch : Ch} {c c' : Dev nD} : rCell ch c ≠ barCell c' := fun h => nomatch (congrArg Prod.snd h)

/-- What the devices together owe one landing cell. -/
theorem sum_owedC (l : List Ch) (ch : Ch) (c : Dev nD) : ∑ d : Dev nD, owedC d l (rCell ch c) () = l.count ch * ch.amt := by
  induction l with
  | nil => rw [List.count_nil, Nat.zero_mul]; exact Finset.sum_eq_zero fun d _ => rfl
  | cons a l ih =>
    have e : ∀ d : Dev nD, owedC d (a :: l) (rCell ch c) () = owedC d l (rCell ch c) () + if d = pr a.peer c then (if a = ch then ch.amt else 0) else 0 := fun d => by
      show (owedC d l + tallyAt (rCell a (pr a.peer d)) () a.amt) (rCell ch c) () = _
      rw [Pi.add_apply, Finsupp.add_apply, tallyAt_apply]
      refine congrArg (fun z => owedC d l (rCell ch c) () + z) ?_
      by_cases h : d = pr a.peer c
      · subst h
        rw [pr_pr, if_pos rfl]
        by_cases h' : a = ch
        · subst h'; rw [if_pos ⟨rfl, rfl⟩, if_pos rfl]
        · rw [if_neg h', if_neg fun h => h' (ch_of_rCell h.1).symm]
      · rw [if_neg h, if_neg fun h' => h (by rw [dev_of_cell h'.1, pr_pr])]
    rw [Finset.sum_congr rfl fun d _ => e d, Finset.sum_add_distrib, ih, Finset.sum_ite_eq' Finset.univ (pr a.peer c), if_pos (Finset.mem_univ _)]
    by_cases h : a = ch
    · subst h; rw [List.count_cons_self, if_pos rfl, Nat.succ_mul]
    · rw [List.count_cons_of_ne h, if_neg h, Nat.add_zero]

/-- At a landing cell only the copies are owed. -/
theorem owedB_rCell (d : Dev nD) (l : List Ch) (ds : List (Fin 9)) (ch : Ch) (c : Dev nD) : owedB d l ds (rCell ch c) () = owedC d l (rCell ch c) () := by
  induction ds with
  | nil => rfl
  | cons a ds ih =>
    show (owedB d l ds + tallyAt (barCell (pr a d)) () 1) (rCell ch c) () = _
    rw [Pi.add_apply, Finsupp.add_apply, ih, tallyAt_ne_cell rCell_ne_bar, Finsupp.zero_apply, Nat.add_zero]

/-- No copy is owed at a barrier cell. -/
theorem owedC_bar (d : Dev nD) (l : List Ch) (c : Dev nD) : owedC d l (barCell c) () = 0 := by
  induction l with
  | nil => rfl
  | cons a l ih =>
    show (owedC d l + tallyAt (rCell a (pr a.peer d)) () a.amt) (barCell c) () = 0
    rw [Pi.add_apply, Finsupp.add_apply, ih, tallyAt_ne_cell fun h => rCell_ne_bar h.symm, Finsupp.zero_apply, Nat.add_zero]

/-- What the devices together owe one barrier cell. -/
theorem sum_owedB (l : List Ch) (ds : List (Fin 9)) (c : Dev nD) : ∑ d : Dev nD, owedB d l ds (barCell c) () = ds.length := by
  induction ds with
  | nil => exact Finset.sum_eq_zero fun d _ => owedC_bar d l c
  | cons a ds ih =>
    have e : ∀ d : Dev nD, owedB d l (a :: ds) (barCell c) () = owedB d l ds (barCell c) () + if d = pr a c then 1 else 0 := fun d => by
      show (owedB d l ds + tallyAt (barCell (pr a d)) () 1) (barCell c) () = _
      rw [Pi.add_apply, Finsupp.add_apply, tallyAt_apply]
      refine congrArg (fun z => owedB d l ds (barCell c) () + z) ?_
      by_cases h : d = pr a c
      · subst h; rw [pr_pr, if_pos rfl, if_pos ⟨rfl, rfl⟩]
      · rw [if_neg h, if_neg fun h' => h (by rw [dev_of_cell h'.1, pr_pr])]
    rw [Finset.sum_congr rfl fun d _ => e d, Finset.sum_add_distrib, ih, Finset.sum_ite_eq' Finset.univ (pr a c), if_pos (Finset.mem_univ _)]
    rfl

/-- The program sends every copy once. -/
theorem count_allCh (ch : Ch) : allCh.count ch = 1 := by
  cases ch with
  | h2 => decide
  | q2 => decide
  | s8 k => revert k; decide
  | g8 k => revert k; decide
  | gq => decide
  | gh => decide

/-- The launch credits a barrier cell nine units. -/
theorem launch_bar (c : Dev nD) :
    tallyOn (barCell c) (launchCredit (Pipeline.owing owed₀) 0 (barCell c)) = (tallyAt (barCell c) () 9 : CellTallies nD τ sig Unit) := by
  unfold tallyAt
  refine congrArg _ (Finsupp.ext fun u => ?_)
  cases u
  rw [Pipeline.launchCredit_owing, Finsupp.single_eq_same]
  exact sum_owedB allCh allD c
/-- The launch credits a landing cell its copy's amount. -/
theorem launch_land (ch : Ch) (c : Dev nD) :
    tallyOn (rCell ch c) (launchCredit (Pipeline.owing owed₀) 0 (rCell ch c)) = (tallyAt (rCell ch c) () ch.amt : CellTallies nD τ sig Unit) := by
  unfold tallyAt
  refine congrArg _ (Finsupp.ext fun u => ?_)
  cases u
  rw [Pipeline.launchCredit_owing, Finsupp.single_eq_same, Finset.sum_congr rfl fun d _ => owedB_rCell d allCh allD ch c, sum_owedC, count_allCh, Nat.one_mul]

def landEmb : Ch ↪ SemLoc sig := ⟨fun ch => .dma ch.rIx, fun _ _ h => rIx_inj (SemLoc.dma.inj h)⟩

/-- A device's launch credits: nine units on its barrier cell and each copy's amount on its landing cells. -/
theorem creds (c : Dev nD) : (Pipeline.launchCred owed₀ c : sProp 𝕄)
    ⊢ iprop(cred (tallyAt (barCell c) () 9) ∗ bigSep Finset.univ fun ch : Ch => cred (tallyAt (rCell ch c) () ch.amt)) := by
  unfold Pipeline.launchCred
  rw [bigSep_univ_at _ (SemLoc.reg barS), launch_bar]
  refine sep_mono_right ?_
  have hs : Finset.univ.map landEmb ⊆ (Finset.univ : Finset (SemLoc sig)).erase (.reg barS) := fun s h => by
    obtain ⟨ch, -, rfl⟩ := Finset.mem_map.mp h
    exact Finset.mem_erase.mpr ⟨(fun h => nomatch h), Finset.mem_univ _⟩
  refine (bigSep_subset hs).trans ?_
  rw [bigSep_map]
  exact BI.bigSep_mono fun ch _ => by
    show (cred (tallyOn (rCell ch c) (launchCredit (Pipeline.owing owed₀) 0 (rCell ch c))) : sProp 𝕄) ⊢ cred (tallyAt (rCell ch c) () ch.amt)
    rw [launch_land ch c]

/-! ## The launch -/

/-- Two families over the devices are the family of pairs, -/
theorem deal_pair {Φ Ψ : Dev nD → sProp 𝕄} : iprop(bigSep Finset.univ Φ ∗ bigSep Finset.univ Ψ) ⊢ (bigSep Finset.univ fun c => iprop(Φ c ∗ Ψ c)) :=
  Entails.of_eq (bigSep_sep' ..).symm
/-- and back. -/
theorem deal_split {Φ Ψ : Dev nD → sProp 𝕄} : (bigSep Finset.univ fun c => iprop(Φ c ∗ Ψ c)) ⊢ iprop(bigSep Finset.univ Φ ∗ bigSep Finset.univ Ψ) :=
  Entails.of_eq (bigSep_sep' ..)

/-- What the launch element gives: the windows' own, and the protocol's. -/
def u₀ : UU := (initOf (Pipeline.cells cfgs cellOf_inj) (Pipeline.launchToks cfgs cellOf_inj), launchOf barCells ownCells toks)

/-- The protocol's launch element, given to device 0 until it is dealt. -/
def G (c : Dev nD) : sProp 𝕄 := if c = 0 then BI.own (ER (launchOf barCells ownCells toks)) else iprop(emp)
/-- The devices' shares of the launch's ghost state are all of it. -/
theorem bigSep_G : (bigSep Finset.univ G : sProp 𝕄) = BI.own (ER (launchOf barCells ownCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

/-- What all devices share from the launch on: the invariants, and that every barrier cell is at its first round. -/
def shared (κ : GSem nD τ sig → ℕ) : sProp 𝕄 := iprop(invs (inp m) κ ∗ bigSep barCells fun g => reached ER g 0)
instance shared_persistent (κ : GSem nD τ sig → ℕ) : BI.Persistent (shared m κ) := by unfold shared; infer_instance

/-- Of the cells opened at the launch, a device's barrier cell is one. -/
theorem reached_bar (c : Dev nD) : (bigSep barCells fun g => (reached ER g 0 : sProp 𝕄)) ⊢ reached ER (barCell c) 0 :=
  bigSep_elim (Finset.mem_map_of_mem barEmb (Finset.mem_univ c))

/-- What the launch deals one device of the protocol. -/
def dealt (c : Dev nD) : sProp 𝕄 :=
  iprop(atPos ER (barCell c) 0 ∅ 0 ∗ (bigSep Finset.univ fun ch : Ch => openToks ch c)
    ∗ (bigSep Finset.univ fun d : Fin 9 => dutyTok ER (barCell (pr d c)) 0 d) ∗ bigSep Finset.univ fun ch : Ch => sendToks ch c)
/-- What a device holds at launch beside it. -/
def base (c : Dev nD) : sProp 𝕄 :=
  iprop(StableHlo.held (c : Thread nD τ) (Pipeline.ucRefs τ sig) (V0 m c) ∗ (cred (tallyAt (barCell c) () 9) ∗ bigSep Finset.univ fun ch : Ch => cred (tallyAt (rCell ch c) () ch.amt))
    ∗ owes (c : Thread nD τ) (owed₀ c) ∅ ∗ ∃ r, prngReg c r)

/-- What rides beside the buffers: before the region and after it. -/
def E : Fin 2 → Dev nD → sProp 𝕄
  | 0, c => iprop((∃ r, prngReg c r) ∗ Tk m c ∗ ∃ W, owes (c : Thread nD τ) (owed₀ c) W)
  | 1, c => iprop(semVal (barCell c) 0 ∗ ∃ W, owes (c : Thread nD τ) (0 : CellTallies nD τ sig Unit) W)

/-- A device's share of the launch is what its program starts from. -/
theorem start_intro (κ : GSem nD τ sig → ℕ) (c : Dev nD) :
    iprop(shared m κ ∗ (dealt c ∗ base m c)) ⊢ iprop(StableHlo.held (c : Thread nD τ) (Pipeline.ucRefs τ sig) (V0 m c) ∗ E m 0 c) := by
  have hsig : iprop((bigSep barCells fun g => (reached ER g 0 : sProp 𝕄)) ∗ bigSep Finset.univ fun d : Fin 9 => dutyTok ER (barCell (pr d c)) 0 d)
      ⊢ (bigSep Finset.univ fun d : Fin 9 => toSignal d c : sProp 𝕄) :=
    bigSep_with_persistent fun d _ => by
      show iprop((bigSep barCells fun g => (reached ER g 0 : sProp 𝕄)) ∗ dutyTok ER (barCell (pr d c)) 0 d) ⊢ toSignal d c
      unfold toSignal
      iintro ⟨Hr, Ht⟩
      isplitl [Ht]; · iexact Ht
      iapply (reached_bar (pr d c)) $$ Hr
  unfold shared dealt base
  show _ ⊢ iprop(StableHlo.held (c : Thread nD τ) (Pipeline.ucRefs τ sig) (V0 m c) ∗ ((∃ r, prngReg c r) ∗ Tk m c ∗ ∃ W, owes (c : Thread nD τ) (owed₀ c) W))
  unfold Tk
  iintro ⟨⟨#HI, #HR⟩, ⟨Hat, Hop, Hbt, Hst⟩, Hh, ⟨Hcb, Hcr⟩, HO, Hp⟩
  isplitl [Hh]; · iexact Hh
  isplitl [Hp]; · iexact Hp
  isplitr [HO]
  · iexists κ
    isplitr; · iexact HI
    isplitl [Hbt]
    · iapply hsig
      isplitr; · iexact HR
      iexact Hbt
    isplitl [Hcb]; · iexact Hcb
    isplitl [Hat]; · iexact Hat
    isplitl [Hst]; · iexact Hst
    isplitl [Hcr]; · iexact Hcr
    iexact Hop
  · iexists ∅; iexact HO

/-- The one semaphore that outlives the kernel is the barrier. -/
theorem unscoped_sem : ∀ sm : SemLoc sig, sm.isScoped .tc = false → sm = .reg barS := by decide
/-- So the counters a device has at the launch are its barrier's. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The launch: from every device's memory and counters to every device's start. -/
theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c)) ∗ levAts L lv)
      ⊢ (|={Set.univ}=> bigSep Finset.univ (fun c : Dev nD => iprop(StableHlo.held (c : Thread nD τ) (Pipeline.ucRefs τ sig) (V0 m c) ∗ E m 0 c)) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ G c)
      ⊢ (iprop(base m c ∗ (semVal (barCell c) 0 ∗ G c)) : sProp 𝕄) := by
    rw [show (unscopedBufs c (fun b => m ((c : Thread nD τ).loc b)) : sProp 𝕄) = StableHlo.held (c : Thread nD τ) (Pipeline.ucRefs τ sig) (V0 m c)
      from Pipeline.unscopedBufs_held c (V0 m c), unscopedSems_eq]
    unfold base
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c))
      ⊢ (bigSep Finset.univ fun c : Dev nD => iprop(base m c ∗ (semVal (barCell c) 0 ∗ G c)) : sProp 𝕄) from bigSep_mono fun c _ => hcore c) $$ H
  ihave H2 := deal_split $$ H'; icases H2 with ⟨HB, H3⟩
  ihave H4 := deal_split $$ H3; icases H4 with ⟨Hv, HG⟩
  ihave Hu := (show bigSep Finset.univ (G (F := F)) ⊢ BI.own (ER (launchOf barCells ownCells toks)) from Entails.of_eq bigSep_G) $$ HG
  imod (Rounds.fund_launch ER (rd (inp m)) cells_disjoint (fun g _ h => h) toks) $$ [Hv Hu] with ⟨%κ, -, Hinv, #Hr, Hat, Hopen, Htok⟩
  · isplitl [Hv]
    · iapply hv $$ Hv
    · iexact Hu
  ihave Hinv' := (Entails.of_eq (all_invs m κ)) $$ Hinv
  ihave Htok' := (Entails.of_eq (toks_split (F := F))) $$ Htok
  icases Htok' with ⟨Hbt, Hot⟩
  imodintro
  iapply (bigSep_with_persistent (R := shared m κ) (Φ := fun c => iprop(dealt c ∗ base m c)) fun c _ => start_intro m κ c)
  isplitl [Hinv']
  · unfold shared
    isplitl [Hinv']; · iexact Hinv'
    iexact Hr
  iapply deal_pair
  isplitr [HB]
  · unfold dealt
    iapply deal_pair; isplitl [Hat]; · iapply hat $$ Hat
    iapply deal_pair; isplitl [Hopen]; · iapply (Entails.of_eq (own_opens (F := F))) $$ Hopen
    iapply deal_pair; isplitl [Hbt]; · iapply (Entails.of_eq (bar_toks (F := F))) $$ Hbt
    iapply (Entails.of_eq (own_toks (F := F))) $$ Hot
  · iexact HB

/-! ## The run -/

/-- The kernel's operands are among the arrays a device holds. -/
theorem arr_sub : Pipeline.arrRefs (τ := τ) spec0 ⊆ Pipeline.ucRefs τ sig := by decide

/-- After the host's operations the kernel can start. -/
theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ Tk m c ∗ ∃ Wd, owes (c : Thread nD τ) (0 + owed₀ c) Wd)
  rw [zero_add, StableHlo.held_sub_split (c : Thread nD τ) arr_sub (V1 m c)]
  show iprop(_ ∗ ((∃ r, prngReg c r) ∗ Tk m c ∗ ∃ W, owes (c : Thread nD τ) (owed₀ c) W)) ⊢ _
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

/-- When the kernel ends the program's end is reached. -/
theorem reg_post (c : Dev nD) : (reg m).post c ⊢ iprop(StableHlo.held (c : Thread nD τ) (Pipeline.ucRefs τ sig) (W2 m c) ∗ E m 1 c) := by
  show iprop(StableHlo.held (c.tc : Thread nD τ) (Pipeline.arrRefs (τ := τ) spec0) (W2 m c) ∗ (∃ r, prngReg c r)
    ∗ (StableHlo.held (c.tc : Thread nD τ) restRefs (W2 m c) ∗ emp) ∗ Yk c ∗ ∃ Wd, owes (c : Thread nD τ) (0 : CellTallies nD τ sig Unit) Wd) ⊢ _
  rw [StableHlo.held_sub_split (c : Thread nD τ) arr_sub (W2 m c)]
  show _ ⊢ iprop(_ ∗ (semVal (barCell c) 0 ∗ ∃ W, owes (c : Thread nD τ) (0 : CellTallies nD τ sig Unit) W))
  unfold Yk
  iintro ⟨Ha, -, ⟨Hr, -⟩, Hb, HO⟩
  isplitl [Ha Hr]
  · isplitl [Ha] <;> iassumption
  isplitl [Hb] <;> iassumption

/-- The program on a device: its host operations, then the kernel. -/
abbrev theSegs (c : Dev nD) : List (Pipeline.Seg (pcfgs (F := F)) adm (pdats m) () defs₀ 𝒱₀ L lv) :=
  Gen.segs m 𝒱₀ L lv (E m) () (pdats m) (reg m) c

/-- What is read at the end on a device. -/
def EndsAt (c : Dev nD) (s : MemSt nD τ sig (Elt F)) : Prop :=
  (∀ b ∈ Pipeline.ucRefs τ sig, s.mem ((c : Thread nD τ).1, b) = W2 m c b) ∧ s.sem (barCell c) = 0

/-- An array that outlives the kernel is among those a device holds. -/
theorem mem_uc (r : Ref sig .tc) (h : ¬ (Proc.devRef (τ := τ) .tc r).isScoped = true) : Proc.devRef (τ := τ) .tc r ∈ Pipeline.ucRefs τ sig :=
  Finset.mem_filter.mpr ⟨StableHlo.devRef_mem_tcRefs r, h⟩

/-- An argument is unchanged at the end. -/
theorem W2_arg (c : Dev nD) (r : Ref sig .tc) (h : r ≠ main_v19) (h' : r ∉ hostOps0_W) : W2 m c r = m ((c : Thread nD τ).loc r) :=
  (W2_of m c r h).trans (V1_of m c r h')

/-- At the end the memory holds what the claim says. -/
theorem hfin (c : Dev nD) (s' : Phys nD τ sig (Elt F)) :
    iprop((StableHlo.held (c : Thread nD τ) (Pipeline.ucRefs τ sig) (W2 m c) ∗ semVal (barCell c) 0) ∗ SI s')
      ⊢ (|={Set.univ}=> iprop(⌜EndsAt m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (W2 m c) s') $$ [Hh HSI]
  · isplitl [Hh] <;> iassumption
  icases Hr with ⟨%h, HSI⟩
  imodintro
  isplitr
  · ipureintro; exact ⟨h, by simpa using hb⟩
  · iexact HSI

set_option backward.isDefEq.respectTransparency.types false in
/-- THE RUN, over any float values: from any memory with zero counters, every execution of the program ends with each
    argument as launched, the result array at the result, and every counter of the machine at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v19) = outV (inp m))
      ∧ r.2.sem = fun _ => 0) :=
  Pipeline.θ_run_regions_kit_dev_sems (pcfgs (F := F)) adm (pdats m) () cellOf_inj EP defs₀ 𝒱₀ L lv m ρ main
    (theSegs m)
    (fun c Q => by
      rewrite [main_chain c, Pipeline.Seg.run_eq_chain,
        show (theSegs m c).map Pipeline.Seg.prog = [
          StableHlo.seq (hostOps0 c),
          Prog.lift (.customCall (Pipeline.entry 0) ()) ] from rfl]
      dsimp (config := { failIfUnchanged := false }) only
      exact .rfl)
    (fun c => by simp only [theSegs, Gen.segs, Pipeline.Seg.pipes_host, Pipeline.Seg.pipes_region, Pipeline.Seg.pipes_nil]; decide) owed₀ L_of_ne G u₀
    (by
      unfold u₀
      iintro Hu
      ihave H := (ownU_pair _ _) $$ Hu
      icases H with ⟨HP, HX⟩
      imodintro
      isplitl [HP]; · iexact HP
      rw [bigSep_G]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (W2 m c) ∗ semVal (barCell c) 0))
    (hch := fun c => ⟨.rfl, reg_pre m c, (reg_post m c).trans (by
      show iprop(StableHlo.held (c : Thread nD τ) (Pipeline.ucRefs τ sig) (W2 m c)
          ∗ (semVal (barCell c) 0 ∗ ∃ W, owes (c : Thread nD τ) (0 : CellTallies nD τ sig Unit) W)) ⊢ _
      iintro ⟨Hh, Hb0, HO⟩
      isplitr [HO]
      · isplitl [Hh] <;> iassumption
      · iexact HO)⟩)
    (hinit := init m ρ) (QY := EndsAt m) (hfin := hfin m)
    (hQ := fun s h hs => ⟨fun c => ⟨⟨((h c).1 _ (mem_uc main_arg0 (by decide))).trans (W2_arg m c main_arg0 (by decide) (by decide)),
          ((h c).1 _ (mem_uc main_arg1 (by decide))).trans (W2_arg m c main_arg1 (by decide) (by decide)),
          ((h c).1 _ (mem_uc main_arg2 (by decide))).trans (W2_arg m c main_arg2 (by decide) (by decide)),
          ((h c).1 _ (mem_uc main_arg3 (by decide))).trans (W2_arg m c main_arg3 (by decide) (by decide)),
          ((h c).1 _ (mem_uc main_arg4 (by decide))).trans (W2_arg m c main_arg4 (by decide) (by decide))⟩,
        ((h c).1 _ (mem_uc main_v19 (by decide))).trans (W2_out m c)⟩,
      sem_eq_zero hs fun c sm hsm => by
        obtain rfl := unscoped_sem sm hsm
        exact (h c).2⟩)

end Cert.Attn
-- ==== Proof.Spec.lean ====
/-
The attention's scalars at the ideal values, which both programs' results are written in: the score scale, the value a
hidden key's score takes, a row of scores' weights, and that taking the largest score off first changes no weight of a
row of reals.
-/
module

public import Idealize.ShloMosaic.Lib.Pointwise

@[expose] public section

noncomputable section

namespace Cert.Attn

open Idealize.ShloMosaic

/-- The score scale, one eighth. -/
def c8 : EReal := Ideal.ofBits .f32 0x3E000000#32

/-- The score of a hidden key. -/
def cNeg : EReal := Ideal.ofBits .f32 0xCE6E6B28#32

/-- A row of scores' weights: the exponentials over their sum. -/
def wts (s : Fin 256 → EReal) (j : Fin 256) : EReal := Ideal.div (Ideal.exp (s j)) (∑ j', Ideal.exp (s j'))

/-- A row's largest score. -/
def rowTop (s : Fin 256 → EReal) : EReal := Finset.fold max (Ideal.ofBits .f32 0xFF800000#32) s Finset.univ

/-- A value that is a real number. -/
def Real' (x : EReal) : Prop := ∃ a : ℝ, x = (a : EReal)

/-- A product of reals is a real. -/
theorem Real'.mul {x y : EReal} (hx : Real' x) (hy : Real' y) : Real' (x * y) := by
  obtain ⟨a, rfl⟩ := hx
  obtain ⟨b, rfl⟩ := hy
  exact ⟨a * b, (EReal.coe_mul a b).symm⟩

/-- A sum of reals, read as extended reals, is the reals' sum. -/
theorem coe_sum_real {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A sum of reals is a real. -/
theorem Real'.sum {ι : Type} [Fintype ι] {f : ι → EReal} (h : ∀ i, Real' (f i)) : Real' (∑ i, f i) := by
  choose a ha using h
  exact ⟨∑ i, a i, by rw [← coe_sum_real]; exact Finset.sum_congr rfl fun i _ => ha i⟩

/-- The score scale is a real. -/
theorem real_c8 : Real' c8 := by
  refine ⟨1 / 8, ?_⟩
  unfold c8
  simp [Ideal.ofBits, Ideal.ieee, -EReal.coe_mul]
  norm_num

/-- The hidden key's score is a real. -/
theorem real_cNeg : Real' cNeg := by
  refine ⟨-1000000000, ?_⟩
  unfold cNeg
  simp [Ideal.ofBits, Ideal.ieee, -EReal.coe_mul]
  norm_num

/-- The pattern of the least value is the least value. -/
theorem bits_bot : Ideal.ofBits .f32 0xFF800000#32 = ⊥ := by simp [Ideal.ofBits, Ideal.ieee]

/-- The pattern of the greatest value is the greatest value. -/
theorem bits_top : Ideal.ofBits .f32 0x7F800000#32 = ⊤ := by simp [Ideal.ofBits, Ideal.ieee]

/-- A row of reals' largest is one of them. -/
theorem rowTop_mem (s : Fin 256 → EReal) : ∃ i, rowTop s = s i := by
  obtain ⟨i, -, hi⟩ := Finset.exists_mem_eq_sup (Finset.univ : Finset (Fin 256)) ⟨0, Finset.mem_univ _⟩ s
  refine ⟨i, ?_⟩
  rw [rowTop, bits_bot]
  exact hi

/-- Taking the largest score off a row of reals changes no weight. -/
theorem wts_sub_rowTop (s : Fin 256 → EReal) (hs : ∀ j, Real' (s j)) (j : Fin 256) :
    Ideal.div (Ideal.exp (s j - rowTop s)) (∑ j', Ideal.exp (s j' - rowTop s)) = wts s j := by
  choose a ha using hs
  obtain ⟨i, hi⟩ := rowTop_mem s
  have e1 : ∀ j', Ideal.exp (s j' - rowTop s) = ((Real.exp (a j' - a i) : ℝ) : EReal) := fun j' => by
    rw [hi, ha, ha, ← EReal.coe_sub, Ideal.exp_coe]
  have e2 : ∀ j', Ideal.exp (s j') = ((Real.exp (a j') : ℝ) : EReal) := fun j' => by rw [ha, Ideal.exp_coe]
  have p1 : (∑ j', Real.exp (a j' - a i)) ≠ 0 := (Finset.sum_pos (fun _ _ => Real.exp_pos _) ⟨0, Finset.mem_univ _⟩).ne'
  have p2 : (∑ j', Real.exp (a j')) ≠ 0 := (Finset.sum_pos (fun _ _ => Real.exp_pos _) ⟨0, Finset.mem_univ _⟩).ne'
  unfold wts
  simp only [e1, e2]
  rw [coe_sum_real, coe_sum_real, Ideal.div_coe p1, Ideal.div_coe p2, ← EReal.coe_mul, ← EReal.coe_mul]
  congr 1
  have q : (∑ j', Real.exp (a j' - a i)) = (∑ j', Real.exp (a j')) / Real.exp (a i) := by
    rw [Finset.sum_div]
    exact Finset.sum_congr rfl fun _ _ => Real.exp_sub _ _
  rw [q, Real.exp_sub]
  have hne := (Real.exp_pos (a i)).ne'
  field_simp

/-- Words of one bit joined by "and" are all ones exactly if each is one. -/
theorem fold_and_one {ι : Type} (s : Finset ι) (f : ι → BitVec 1) :
    Finset.fold IntOp.andi 1#1 f s = 1#1 ↔ ∀ i ∈ s, f i = 1#1 := by
  have h := Finset.fold_op_rel_iff_and (s := s) (f := f) (b := 1#1) (op := (IntOp.andi : BitVec 1 → BitVec 1 → BitVec 1)) (r := fun (_ : BitVec 1) y => y = 1#1)
    (fun {_ y z} => by revert y z; decide) (c := 1#1)
  exact h.trans ⟨fun h => h.2, fun h => ⟨rfl, h⟩⟩

/-- Words of one bit joined by "or" are one if any is. -/
theorem fold_or_one {ι : Type} (s : Finset ι) (f : ι → BitVec 1) (i : ι) (hi : i ∈ s) (h1 : f i = 1#1) :
    Finset.fold IntOp.ori 0#1 f s = 1#1 := by
  have h := Finset.fold_op_rel_iff_or (s := s) (f := f) (b := 0#1) (op := (IntOp.ori : BitVec 1 → BitVec 1 → BitVec 1)) (r := fun (_ : BitVec 1) y => y = 1#1)
    (fun {_ y z} => by revert y z; decide) (c := 1#1)
  exact h.2 (.inr ⟨i, hi, h1⟩)

/-- A value whose magnitude compares below the greatest value is a real. -/
theorem real_of_lt (x : EReal) (h : Ideal.cmp .olt (max x (-x)) ⊤ = 1#1) : Real' x := by
  induction x using EReal.rec with
  | bot => simp [Ideal.cmp] at h
  | coe a => exact ⟨a, rfl⟩
  | top => simp [Ideal.cmp] at h

end Cert.Attn

end

end
-- ==== Proof.Heads.lean ====
/-
The heads at the ideal values: each of the eight printed heads is one and the same function of a device's queries,
keys and values at its own sixty-four columns, and what that function is at an element.
-/
module

public import proofs.«01_k».proof.Proof.Contents
public import proofs.«01_k».proof.Proof.Spec

@[expose] public section

noncomputable section

namespace Cert.Attn

open Cert.KernelIdeal Cert.KernelIdeal.Gen
open Idealize.ShloMosaic

section AnyInstance

variable {F : FTy → Type} [FloatOps F]

/-- One head's masked scores. -/
def scoreOf (off : ℕ) (hs : S256x256.Slices ![0, off] S256x64) (kb : FVec F S256x256 .bf16) (q : FVec F S256x256 .f32) :
    FVec F S256x256 .f32 :=
  select (cmpi .sle k0_pay28 k0_pay10)
    (mulf (matmul dot_S256x64_S256x64_S256x256_1_1_0_0_n_n none
      (truncf .bf16 (extractStridedSlice S256x64 ![0, off] q hs) bitsLt_bf16_f32)
      (extractStridedSlice S256x64 ![0, off] kb hs) (constant S256x256 .f32 0x00000000#32))
      (broadcast S256x256 (Scalar.ofBits .f32 0x3E000000#32)))
    (broadcast S256x256 (Scalar.ofBits .f32 0xCE6E6B28#32))

/-- One head's result: the scores' exponentials over their row sums, times the values. -/
def headOf (off : ℕ) (hs : S256x256.Slices ![0, off] S256x64) (vb kb : FVec F S256x256 .bf16) (q : FVec F S256x256 .f32) :
    FVec F S256x64 .bf16 :=
  truncf .bf16 (matmul dot_S256x256_S256x64_S256x64_1_0_0_1_n_n none
    (truncf .bf16 (divf (exp (scoreOf off hs kb q))
      (broadcastTo S256x256 (shapeCast S256x1 (multiReduction .add [1] S256 (exp (scoreOf off hs kb q)) 0x00000000#32
        reduces_S256x256_S256 (.inl rfl) rfl) shapeCasts_S256_S256x1) broadcasts_S256x1_S256x256)) bitsLt_bf16_f32)
    (extractStridedSlice S256x64 ![0, off] vb hs) (constant S256x64 .f32 0x00000000#32)) bitsLt_bf16_f32

/-- Head 0 of batch row block 0 is the head of columns 0 on. -/
theorem headOf_0_0 (i : In F) : hd i 0 0 =
    shapeCast S256x64 (headOf 0 slices_S256x256_o0_0_S256x64 (vb0 i) (kb0 i) (q0 i)) shapeCasts_S256x64_S256x64 := rfl

/-- Head 1 of batch row block 0 is the head of columns 64 on. -/
theorem headOf_0_1 (i : In F) : hd i 0 1 =
    shapeCast S256x64 (headOf 64 slices_S256x256_o0_64_S256x64 (vb0 i) (kb0 i) (q0 i)) shapeCasts_S256x64_S256x64 := rfl

/-- Head 2 of batch row block 0 is the head of columns 128 on. -/
theorem headOf_0_2 (i : In F) : hd i 0 2 =
    shapeCast S256x64 (headOf 128 slices_S256x256_o0_128_S256x64 (vb0 i) (kb0 i) (q0 i)) shapeCasts_S256x64_S256x64 := rfl

/-- Head 3 of batch row block 0 is the head of columns 192 on. -/
theorem headOf_0_3 (i : In F) : hd i 0 3 =
    shapeCast S256x64 (headOf 192 slices_S256x256_o0_192_S256x64 (vb0 i) (kb0 i) (q0 i)) shapeCasts_S256x64_S256x64 := rfl

/-- Head 0 of batch row block 1 is the head of columns 0 on. -/
theorem headOf_1_0 (i : In F) : hd i 1 0 =
    shapeCast S256x64 (headOf 0 slices_S256x256_o0_0_S256x64 (vb1 i) (kb1 i) (q1 i)) shapeCasts_S256x64_S256x64 := rfl

/-- Head 1 of batch row block 1 is the head of columns 64 on. -/
theorem headOf_1_1 (i : In F) : hd i 1 1 =
    shapeCast S256x64 (headOf 64 slices_S256x256_o0_64_S256x64 (vb1 i) (kb1 i) (q1 i)) shapeCasts_S256x64_S256x64 := rfl

/-- Head 2 of batch row block 1 is the head of columns 128 on. -/
theorem headOf_1_2 (i : In F) : hd i 1 2 =
    shapeCast S256x64 (headOf 128 slices_S256x256_o0_128_S256x64 (vb1 i) (kb1 i) (q1 i)) shapeCasts_S256x64_S256x64 := rfl

/-- Head 3 of batch row block 1 is the head of columns 192 on. -/
theorem headOf_1_3 (i : In F) : hd i 1 3 =
    shapeCast S256x64 (headOf 192 slices_S256x256_o0_192_S256x64 (vb1 i) (kb1 i) (q1 i)) shapeCasts_S256x64_S256x64 := rfl

end AnyInstance

/-! ## The mask -/

/-- The column's block number, as the kernel's words compute it. -/
theorem colBlock (r j : Fin 256) : k0_pay28 (ix2 r j) = BitVec.ofNat 32 (j.val / 64) := by
  pointwise [k0_pay28]
  revert j; decide +kernel

/-- The row's block number, as the kernel's words compute it. -/
theorem rowBlock (r j : Fin 256) : k0_pay10 (ix2 r j) = BitVec.ofNat 32 (r.val / 64) := by
  pointwise [k0_pay10]
  revert r; decide +kernel

/-- Two block numbers compare as the blocks do. -/
theorem blockLe (a b : Fin 4) : IntOp.cmpi .sle (BitVec.ofNat 32 a.val) (BitVec.ofNat 32 b.val) = if a.val ≤ b.val then 1#1 else 0#1 := by
  revert a b; decide +kernel

/-- A choice by the block mask. -/
theorem select_block (r j : Fin 256) (x y : EReal) :
    Scalar.select (IntOp.cmpi .sle (k0_pay28 (ix2 r j)) (k0_pay10 (ix2 r j))) x y = if j.val / 64 ≤ r.val / 64 then x else y := by
  rw [colBlock, rowBlock]
  have h := blockLe ⟨j.val / 64, by omega⟩ ⟨r.val / 64, by omega⟩
  dsimp only at h
  rw [h]
  split
  · rfl
  · rfl

/-! ## A head at an element -/

/-- A masked score at an element. -/
theorem scoreOf_apply (off : ℕ) (ho : off + 64 ≤ 256) (hs) (kb : FVec Ideal S256x256 .bf16) (q : FVec Ideal S256x256 .f32) (r j : Fin 256) :
    scoreOf off hs kb q (ix2 r j) = if j.val / 64 ≤ r.val / 64 then
      (∑ d : Fin 64, q (ix2 r ⟨off + d.val, by omega⟩) * kb (ix2 j ⟨off + d.val, by omega⟩)) * c8 else cNeg := by
  rw [← select_block]
  pointwise [scoreOf]
  rfl

/-- A head at an element: the weighted sum of the values. -/
theorem headOf_apply (off : ℕ) (ho : off + 64 ≤ 256) (hs) (vb kb : FVec Ideal S256x256 .bf16) (q : FVec Ideal S256x256 .f32) (r : Fin 256) (d : Fin 64) :
    headOf off hs vb kb q (ix2 r d) =
      ∑ j : Fin 256, wts (fun j => scoreOf off hs kb q (ix2 r j)) j * vb (ix2 j ⟨off + d.val, by omega⟩) := by
  pointwise [headOf]
  rfl

section Dev
variable (i : In Ideal)

/-- Batch row block 0 of the activations at an element. -/
theorem xb0_apply (r : Fin 256) (k : Fin 512) : xb0 i (ix3 0 r k) = i.x (ix3 0 r k) := by
  refine congrArg i.x ?_
  funext t
  match t with
  | ⟨0, _⟩ => apply Fin.ext; rfl
  | ⟨1, _⟩ => apply Fin.ext; show 0 + 1 * r.val = r.val; omega
  | ⟨2, _⟩ => apply Fin.ext; show 0 + 1 * k.val = k.val; omega

/-- Batch row block 1 of the activations at an element. -/
theorem xb1_apply (r : Fin 256) (k : Fin 512) : xb1 i (ix3 0 r k) = i.x (ix3 1 r k) := by
  refine congrArg i.x ?_
  funext t
  match t with
  | ⟨0, _⟩ => apply Fin.ext; rfl
  | ⟨1, _⟩ => apply Fin.ext; show 0 + 1 * r.val = r.val; omega
  | ⟨2, _⟩ => apply Fin.ext; show 0 + 1 * k.val = k.val; omega

/-- The query weights, narrowed, at an element. -/
theorem wq16_apply (k : Fin 512) (c : Fin 256) : wq16 i (ix2 k c) = i.wq (ix2 k c) := by
  pointwise [wq16, k0_pay5]
  refine congrArg i.wq ?_
  funext t
  match t with
  | ⟨0, _⟩ => apply Fin.ext; show 0 + 1 * k.val = k.val; omega
  | ⟨1, _⟩ => apply Fin.ext; show 0 + 1 * c.val = c.val; omega

/-- The output weights, narrowed, at an element. -/
theorem wo16_apply (k : Fin 256) (c : Fin 512) : wo16 i (ix2 k c) = i.wo (ix2 k c) := by
  pointwise [wo16, wo32, k0_pay7, k0_pay6]
  refine congrArg i.wo ?_
  funext t
  match t with
  | ⟨0, _⟩ => apply Fin.ext; show 0 + 1 * k.val = k.val; omega
  | ⟨1, _⟩ => apply Fin.ext; show 0 + 1 * c.val = c.val; omega

/-- The queries of batch row block 0 at an element. -/
theorem q0_apply (r c : Fin 256) : q0 i (ix2 r c) = ∑ k : Fin 512, i.x (ix3 0 r k) * i.wq (ix2 k c) := by
  pointwise [q0, k0_pay8]
  refine Finset.sum_congr rfl fun k _ => ?_
  rw [xb0_apply, wq16_apply]

/-- The keys of batch row block 0 at an element: column `64 h + d` is component `d` of head `h`. -/
theorem kb0_apply (j c : Fin 256) : kb0 i (ix2 j c) = i.k (ix4 0 j ⟨c.val % 64, by omega⟩ ⟨c.val / 64, by omega⟩) := by
  pointwise [kb0, k0_pay1]
  refine congrArg i.k ?_
  funext t
  match t with
  | ⟨0, _⟩ => apply Fin.ext; rfl
  | ⟨1, _⟩ => apply Fin.ext; show 0 + 1 * j.val = j.val; omega
  | ⟨2, _⟩ => apply Fin.ext; show 0 + 1 * (c.val % 64) = c.val % 64; omega
  | ⟨3, _⟩ => apply Fin.ext; show 0 + 1 * (c.val / 64) = c.val / 64; omega

/-- The values of batch row block 0 at an element: column `64 h + d` is component `d` of head `h`. -/
theorem vb0_apply (j c : Fin 256) : vb0 i (ix2 j c) = i.v (ix4 0 j ⟨c.val % 64, by omega⟩ ⟨c.val / 64, by omega⟩) := by
  pointwise [vb0, k0_pay3]
  refine congrArg i.v ?_
  funext t
  match t with
  | ⟨0, _⟩ => apply Fin.ext; rfl
  | ⟨1, _⟩ => apply Fin.ext; show 0 + 1 * j.val = j.val; omega
  | ⟨2, _⟩ => apply Fin.ext; show 0 + 1 * (c.val % 64) = c.val % 64; omega
  | ⟨3, _⟩ => apply Fin.ext; show 0 + 1 * (c.val / 64) = c.val / 64; omega

/-- The queries of batch row block 1 at an element. -/
theorem q1_apply (r c : Fin 256) : q1 i (ix2 r c) = ∑ k : Fin 512, i.x (ix3 1 r k) * i.wq (ix2 k c) := by
  pointwise [q1, k0_pay30]
  refine Finset.sum_congr rfl fun k _ => ?_
  rw [xb1_apply, wq16_apply]

/-- The keys of batch row block 1 at an element: column `64 h + d` is component `d` of head `h`. -/
theorem kb1_apply (j c : Fin 256) : kb1 i (ix2 j c) = i.k (ix4 1 j ⟨c.val % 64, by omega⟩ ⟨c.val / 64, by omega⟩) := by
  pointwise [kb1, k0_pay2]
  refine congrArg i.k ?_
  funext t
  match t with
  | ⟨0, _⟩ => apply Fin.ext; rfl
  | ⟨1, _⟩ => apply Fin.ext; show 0 + 1 * j.val = j.val; omega
  | ⟨2, _⟩ => apply Fin.ext; show 0 + 1 * (c.val % 64) = c.val % 64; omega
  | ⟨3, _⟩ => apply Fin.ext; show 0 + 1 * (c.val / 64) = c.val / 64; omega

/-- The values of batch row block 1 at an element: column `64 h + d` is component `d` of head `h`. -/
theorem vb1_apply (j c : Fin 256) : vb1 i (ix2 j c) = i.v (ix4 1 j ⟨c.val % 64, by omega⟩ ⟨c.val / 64, by omega⟩) := by
  pointwise [vb1, k0_pay4]
  refine congrArg i.v ?_
  funext t
  match t with
  | ⟨0, _⟩ => apply Fin.ext; rfl
  | ⟨1, _⟩ => apply Fin.ext; show 0 + 1 * j.val = j.val; omega
  | ⟨2, _⟩ => apply Fin.ext; show 0 + 1 * (c.val % 64) = c.val % 64; omega
  | ⟨3, _⟩ => apply Fin.ext; show 0 + 1 * (c.val / 64) = c.val / 64; omega

/-- The column of component `d` of head `h` among a device's four heads. -/
def col (h : Fin 4) (d : Fin 64) : Fin 256 := ⟨64 * h.val + d.val, by omega⟩

/-- A device's score of head `h` between row `r` and key `j`. -/
def scoreI (b : Fin 2) (h : Fin 4) (r j : Fin 256) : EReal :=
  if j.val / 64 ≤ r.val / 64 then
    (∑ d : Fin 64, (∑ k : Fin 512, i.x (ix3 b r k) * i.wq (ix2 k (col h d))) * i.k (ix4 b j d h)) * c8 else cNeg

/-- A device's head `h` of batch `b` at an element. -/
def headI (b : Fin 2) (h : Fin 4) (r : Fin 256) (d : Fin 64) : EReal :=
  ∑ j : Fin 256, wts (scoreI i b h r) j * i.v (ix4 b j d h)

/-- A head of any columns, over queries, keys and values given at an element. -/
theorem head_eq (b : Fin 2) (h : Fin 4) (off : ℕ) (ho : off = 64 * h.val) (hs) (vb kb : FVec Ideal S256x256 .bf16) (q : FVec Ideal S256x256 .f32)
    (hq : ∀ r c, q (ix2 r c) = ∑ k : Fin 512, i.x (ix3 b r k) * i.wq (ix2 k c))
    (hk : ∀ j c : Fin 256, kb (ix2 j c) = i.k (ix4 b j ⟨c.val % 64, by omega⟩ ⟨c.val / 64, by omega⟩))
    (hv : ∀ j c : Fin 256, vb (ix2 j c) = i.v (ix4 b j ⟨c.val % 64, by omega⟩ ⟨c.val / 64, by omega⟩)) (r : Fin 256) (d : Fin 64) :
    shapeCast S256x64 (headOf off hs vb kb q) shapeCasts_S256x64_S256x64 (ix2 r d) = headI i b h r d := by
  have hd0 : ∀ d : Fin 64, (⟨(off + d.val) % 64, by omega⟩ : Fin 64) = d := fun d => Fin.ext (by show (off + d.val) % 64 = d.val; omega)
  have hd1 : ∀ d : Fin 64, (⟨(off + d.val) / 64, by omega⟩ : Fin 4) = h := fun d => Fin.ext (by show (off + d.val) / 64 = h.val; omega)
  have hc : ∀ d : Fin 64, (⟨off + d.val, by omega⟩ : Fin 256) = col h d := fun d => Fin.ext (by show off + d.val = 64 * h.val + d.val; omega)
  have e : (fun j => scoreOf off hs kb q (ix2 r j)) = scoreI i b h r := by
    funext j
    rw [scoreOf_apply off (by omega)]
    unfold scoreI
    refine if_congr Iff.rfl (congrArg (· * c8) (Finset.sum_congr rfl fun d _ => ?_)) rfl
    rw [hq, hk]
    dsimp only
    rw [hd0, hd1, hc]
  rw [shapeCast_id, headOf_apply off (by omega), e]
  refine Finset.sum_congr rfl fun j _ => ?_
  rw [hv]
  dsimp only
  rw [hd0, hd1]

/-- Every printed head at an element. -/
theorem hd_apply (b : Fin 2) (h : Fin 4) (r : Fin 256) (d : Fin 64) : hd i b.val h.val (ix2 r d) = headI i b h r d := by
  match b, h with
  | ⟨0, _⟩, ⟨0, _⟩ => exact (congrFun (headOf_0_0 i) _).trans (head_eq i 0 0 _ rfl _ _ _ _ (q0_apply i) (kb0_apply i) (vb0_apply i) r d)
  | ⟨0, _⟩, ⟨1, _⟩ => exact (congrFun (headOf_0_1 i) _).trans (head_eq i 0 1 _ rfl _ _ _ _ (q0_apply i) (kb0_apply i) (vb0_apply i) r d)
  | ⟨0, _⟩, ⟨2, _⟩ => exact (congrFun (headOf_0_2 i) _).trans (head_eq i 0 2 _ rfl _ _ _ _ (q0_apply i) (kb0_apply i) (vb0_apply i) r d)
  | ⟨0, _⟩, ⟨3, _⟩ => exact (congrFun (headOf_0_3 i) _).trans (head_eq i 0 3 _ rfl _ _ _ _ (q0_apply i) (kb0_apply i) (vb0_apply i) r d)
  | ⟨1, _⟩, ⟨0, _⟩ => exact (congrFun (headOf_1_0 i) _).trans (head_eq i 1 0 _ rfl _ _ _ _ (q1_apply i) (kb1_apply i) (vb1_apply i) r d)
  | ⟨1, _⟩, ⟨1, _⟩ => exact (congrFun (headOf_1_1 i) _).trans (head_eq i 1 1 _ rfl _ _ _ _ (q1_apply i) (kb1_apply i) (vb1_apply i) r d)
  | ⟨1, _⟩, ⟨2, _⟩ => exact (congrFun (headOf_1_2 i) _).trans (head_eq i 1 2 _ rfl _ _ _ _ (q1_apply i) (kb1_apply i) (vb1_apply i) r d)
  | ⟨1, _⟩, ⟨3, _⟩ => exact (congrFun (headOf_1_3 i) _).trans (head_eq i 1 3 _ rfl _ _ _ _ (q1_apply i) (kb1_apply i) (vb1_apply i) r d)

/-- The concatenated heads at an element. -/
theorem ctx_apply (b : Fin 2) (r c : Fin 256) :
    ctx i (ix2 ⟨256 * b.val + r.val, by omega⟩ c) = headI i b ⟨c.val / 64, by omega⟩ r ⟨c.val % 64, by omega⟩ := by
  rw [← hd_apply]
  show at2 (hd i ((256 * b.val + r.val) / 256) (c.val / 64)) ((256 * b.val + r.val) % 256) (c.val % 64) = _
  have h1 : (256 * b.val + r.val) / 256 = b.val := by omega
  have h2 : (256 * b.val + r.val) % 256 = r.val := by omega
  rw [h1, h2]
  exact at2_self (hd i b.val (c.val / 64)) (ix2 r (⟨c.val % 64, by omega⟩ : Fin 64))

/-- A device's product at an element. -/
theorem prod0_apply (b : Fin 2) (r : Fin 256) (n : Fin 512) :
    prod0 i (ix2 ⟨256 * b.val + r.val, by omega⟩ n) =
      ∑ c : Fin 256, headI i b ⟨c.val / 64, by omega⟩ r ⟨c.val % 64, by omega⟩ * i.wo (ix2 c n) := by
  show at2 (k0_pay56 (wo16 i) (ctxHalf i ((256 * b.val + r.val) / 256))) ((256 * b.val + r.val) % 256) n.val = _
  have h1 : (256 * b.val + r.val) / 256 = b.val := by omega
  have h2 : (256 * b.val + r.val) % 256 = r.val := by omega
  rw [h1, h2]
  refine (at2_self _ (ix2 r n)).trans ?_
  pointwise [k0_pay56]
  refine Finset.sum_congr rfl fun c _ => ?_
  rw [wo16_apply, ← ctx_apply]
  refine congrArg (· * _) ?_
  show at2 (ctx i) (256 * b.val + r.val) c.val = _
  exact at2_self (ctx i) (ix2 (⟨256 * b.val + r.val, by omega⟩ : Fin 512) c)

end Dev

/-! ## The sum over the devices -/

/-- A quad of devices in the order the halving exchanges add them. -/
def quad (c : Dev nD) : List (Dev nD) := [c, pr 0 c, pr 1 c, pr 0 (pr 1 c)]

/-- All devices in the order a device's sum adds them. -/
def devs (c : Dev nD) : List (Dev nD) :=
  quad c ++ quad (pr 2 c) ++ quad (pr 3 c) ++ quad (pr 4 c) ++ quad (pr 5 c) ++ quad (pr 6 c) ++ quad (pr 7 c) ++ quad (pr 8 c)

/-- The order a device adds in is an order of all devices. -/
theorem devs_perm (c : Dev nD) : (devs c).Perm (List.finRange 32) := by
  revert c; decide +kernel

/-- Every device's sum at an element is the sum of the products of all devices. -/
theorem sum32_apply (I : Dev nD → In Ideal) (c : Dev nD) (x : S512x512.Idx) : sum32 I c x = ∑ d : Fin 32, (prod0 (I d) x : EReal) := by
  have h := ((devs_perm c).map fun d => (prod0 (I d) x : EReal)).sum_eq
  rw [← Fin.sum_univ_def] at h
  rw [← h]
  show ((((((((prod0 (I _) x : EReal) + _) + (_ + _)) + ((_ + _) + (_ + _))) + ((_ + _) + (_ + _))) + ((_ + _) + (_ + _))) + ((_ + _) + (_ + _))) + ((_ + _) + (_ + _))) + ((_ + _) + (_ + _)) + ((_ + _) + (_ + _)) = _
  simp only [devs, quad, List.map_append, List.map_cons, List.map_nil, List.sum_append, List.sum_cons, List.sum_nil, add_zero, add_assoc]

/-- What the kernel's output holds at an element: the sum over all devices of their heads times their rows of the output weights. -/
theorem outV_apply (I : Dev nD → In Ideal) (b : Fin 2) (r : Fin 256) (n : Fin 512) :
    outV I (ix3 b r n) = ∑ d : Fin 32, ∑ c : Fin 256,
      headI (I d) b ⟨c.val / 64, by omega⟩ r ⟨c.val % 64, by omega⟩ * (I d).wo (ix2 c n) := by
  show k0_pay64 (gathHalf I b.val) (ValueIdx.ix3 0 r n) = _
  rw [← ix3_eq_valueIdx]
  pointwise [k0_pay64]
  show at2 (gath I) (256 * b.val + r.val) n.val = _
  refine (at2_self (gath I) (ix2 (⟨256 * b.val + r.val, by omega⟩ : Fin 512) n)).trans ?_
  refine (sum32_apply I _ _).trans (Finset.sum_congr rfl fun d _ => ?_)
  exact prod0_apply (I d) b r n

end Cert.Attn
-- ==== Proof.Inputs.lean ====
/-
What each device's staging buffers hold, element by element, in terms of the program's arguments: the host operations
before the kernel take a device's four heads of the keys and of the values out of the whole arrays.
-/
module

public import proofs.«01_k».proof.Proof.Region
public import proofs.«01_k».proof.Proof.Heads

@[expose] public section

noncomputable section

namespace Cert.Attn

open Cert.KernelIdeal Cert.KernelIdeal.Gen
open Idealize.ShloMosaic
open Idealize.ShloMosaic.StableHlo

/-- A device's first head, as the host's words compute it. -/
def headWord (c : Dev nD) : IVec S_ 32 :=
  muli (id (Host.remui (Host.divui (constantI S_ 32 (Dev.word c)) (constantI S_ 32 1#32)) (constantI S_ 32 32#32))) (constantI S_ 32 4#32)

/-- The same as an offset: with the array's extent added were it negative. -/
def headOff (c : Dev nD) : IVec S_ 32 :=
  select (cmpi .slt (headWord c) (constantI S_ 32 0#32)) (addi (headWord c) (constantI S_ 32 128#32)) (headWord c)

/-- Four heads of an array of keys or values from given starts, heads last. -/
def headsAt (x : FVec Ideal S2x256x128x64 .f32) (st : Fin 4 → ℤ) : FVec Ideal S2x256x64x4 .bf16 :=
  truncf .bf16 (Host.dynamicSlice S2x256x64x4 (transpose S2x256x64x128 [0, 1, 3, 2] x transposes_S2x256x128x64_S2x256x64x128_0_1_3_2)
    st sliceFits_S2x256x64x128_S2x256x64x4) bitsLt_bf16_f32

/-- Where a device's four heads start. -/
def starts (c : Dev nD) : Fin 4 → ℤ := ![0, 0, 0, (headOff c (Shape.Idx.first h_S_)).toInt]

/-- A device's four heads of an array of keys or values, heads last. -/
def headsOf (c : Dev nD) (x : FVec Ideal S2x256x128x64 .f32) : FVec Ideal S2x256x64x4 .bf16 := headsAt x (starts c)

variable (m : (ℓ : Loc nD τ sig) → Buf (Elt Ideal) ℓ)

set_option maxRecDepth 8192 in
set_option maxHeartbeats 1000000 in
/-- The kernel's key operand is the device's four heads of the keys. -/
theorem V1_k (c : Dev nD) : V1 m c (Proc.devRef .tc main_v11) = headsOf c (m ((c.tc : Thread nD τ).loc main_arg2)) := by
  after_results_simp
  refine congrArg (headsAt (m ((c.tc : Thread nD τ).loc main_arg2))) (funext fun k => ?_)
  match k with
  | 0 => dsimp only [Matrix.cons_val]; after_results_simp; rfl
  | 1 => dsimp only [Matrix.cons_val]; after_results_simp; rfl
  | 2 => dsimp only [Matrix.cons_val]; after_results_simp; rfl
  | 3 => dsimp only [Matrix.cons_val]; after_results_simp; rfl

set_option maxRecDepth 8192 in
set_option maxHeartbeats 1000000 in
/-- The kernel's value operand is the device's four heads of the values. -/
theorem V1_v (c : Dev nD) : V1 m c (Proc.devRef .tc main_v18) = headsOf c (m ((c.tc : Thread nD τ).loc main_arg3)) := by
  after_results_simp
  refine congrArg (headsAt (m ((c.tc : Thread nD τ).loc main_arg3))) (funext fun k => ?_)
  match k with
  | 0 => dsimp only [Matrix.cons_val]; after_results_simp; rfl
  | 1 => dsimp only [Matrix.cons_val]; after_results_simp; rfl
  | 2 => dsimp only [Matrix.cons_val]; after_results_simp; rfl
  | 3 => dsimp only [Matrix.cons_val]; after_results_simp; rfl

/-- A device's first head is four times its number. -/
theorem headOff_toInt (c : Dev nD) : (headOff c (Shape.Idx.first h_S_)).toInt = 4 * c.val := by
  revert c; decide +kernel

/-- A device's heads at an element. -/
theorem headsOf_apply (c : Dev nD) (x : FVec Ideal S2x256x128x64 .f32) (b : Fin 2) (j : Fin 256) (d : Fin 64) (h : Fin 4) :
    headsOf c x (ix4 b j d h) = x (ix4 b j (⟨4 * c.val + h.val, by have := c.isLt; change c.val < 32 at this; omega⟩ : Fin 128) d) := by
  have e3 := headOff_toInt c
  have hc : c.val < 32 := c.isLt
  pointwise [headsOf, headsAt]
  refine congrArg x ?_
  funext t
  match t with
  | ⟨0, _⟩ => apply Fin.ext; show Host.clampedStart _ _ _ _ _ + b.val = b.val; unfold Host.clampedStart; simp [starts]
  | ⟨1, _⟩ => apply Fin.ext; show Host.clampedStart _ _ _ _ _ + j.val = j.val; unfold Host.clampedStart; simp [starts]
  | ⟨2, _⟩ => apply Fin.ext; show Host.clampedStart _ _ _ _ _ + h.val = 4 * c.val + h.val; unfold Host.clampedStart; simp [starts]; rw [e3]; omega
  | ⟨3, _⟩ => apply Fin.ext; show Host.clampedStart _ _ _ _ _ + d.val = d.val; unfold Host.clampedStart; simp [starts]

end Cert.Attn
-- ==== Proof.Reference.lean ====
/-
The reference's result, its one composed term cut into its steps, and every step at an element at the ideal values.
-/
module

public import proofs.«01_k».proof.Proof.Gen.ReferenceIdeal.Run
public import proofs.«01_k».proof.Proof.Spec

@[expose] public section

noncomputable section

namespace Cert.Attn.Ref

open Cert.ReferenceIdeal Cert.ReferenceIdeal.Gen
open Idealize.ShloMosaic

section AnyInstance

variable {F : FTy → Type} [FloatOps F]

/-- Each position's block number, as the host's words compute it. -/
def blk  : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))

/-- Which keys a row sees: those of its own block and the blocks before it. -/
def mask  : IVec S256x256 1 :=
  cmpi .sle (broadcastInDim S256x256 ![0, 1] bcast_S1x256_S256x256_0_1 (broadcastInDim S1x256 ![1] bcast_S256_S1x256_1 blk)) (broadcastInDim S256x256 ![0, 1] bcast_S256x1_S256x256_0_1 (broadcastInDim S256x1 ![0] bcast_S256_S256x1_0 blk))

/-- Whether a row sees any key. -/
def keep  : IVec S256 1 :=
  Host.reduce IntOp.ori mask (constantI S_ 1 0#1) reducesTo_S256x256_S256_d1 h_S_

/-- The scaled scores. -/
def scores (x : FVec F S2x256x512 .f32) (wq : FVec F S512x8192 .f32) (k : FVec F S2x256x128x64 .f32) : FVec F S2x128x256x256 .f32 :=
  mulf (Host.dotGeneral dot_S2x256x128x64_S2x256x128x64_S2x128x256x256_3_3_1_1_02_02 none (shapeCast _ (Host.dotGeneral dot_S2x256x512_S512x8192_S2x256x8192_2_0_01_1_n_n none x wq) shapeCasts_S2x256x8192_S2x256x128x64) k) (broadcastInDim S2x128x256x256 ![] bcast_S_S2x128x256x256 (constant S_ .f32 0x3E000000#32))

/-- The masked scores. -/
def masked (x : FVec F S2x256x512 .f32) (wq : FVec F S512x8192 .f32) (k : FVec F S2x256x128x64 .f32) : FVec F S2x128x256x256 .f32 :=
  select (broadcastInDim S2x128x256x256 ![0, 1, 2, 3] bcast_S1x1x256x256_S2x128x256x256_0_1_2_3 (broadcastInDim S1x1x256x256 ![2, 3] bcast_S256x256_S1x1x256x256_2_3 mask)) (scores x wq k) (broadcastInDim S2x128x256x256 ![] bcast_S_S2x128x256x256 (id (constant S_ .f32 0xCE6E6B28#32)))

/-- Each row's largest masked score. -/
def top (x : FVec F S2x256x512 .f32) (wq : FVec F S512x8192 .f32) (k : FVec F S2x256x128x64 .f32) : FVec F S2x128x256 .f32 :=
  Host.reduce FloatOps.maximumf (masked x wq k) (constant S_ .f32 0xFF800000#32) reducesTo_S2x128x256x256_S2x128x256_d3 h_S_

/-- The exponentials of the masked scores less the largest. -/
def exps (x : FVec F S2x256x512 .f32) (wq : FVec F S512x8192 .f32) (k : FVec F S2x256x128x64 .f32) : FVec F S2x128x256x256 .f32 :=
  Host.exp (subf (masked x wq k) (broadcastInDim S2x128x256x256 ![0, 1, 2, 3] bcast_S2x128x256x1_S2x128x256x256_0_1_2_3 (broadcastInDim S2x128x256x1 ![0, 1, 2] bcast_S2x128x256_S2x128x256x1_0_1_2 (top x wq k))))

/-- Each row's sum of exponentials. -/
def total (x : FVec F S2x256x512 .f32) (wq : FVec F S512x8192 .f32) (k : FVec F S2x256x128x64 .f32) : FVec F S2x128x256 .f32 :=
  Host.reduceAdd (exps x wq k) (constant S_ .f32 0x00000000#32) reducesTo_S2x128x256x256_S2x128x256_d3 h_S_

/-- What each row is divided by. -/
def denom (x : FVec F S2x256x512 .f32) (wq : FVec F S512x8192 .f32) (k : FVec F S2x256x128x64 .f32) : FVec F S2x128x256x1 .f32 :=
  select (broadcastInDim S2x128x256x1 ![0, 1, 2, 3] bcast_S1x1x256x1_S2x128x256x1_0_1_2_3 (broadcastInDim S1x1x256x1 ![2] bcast_S256_S1x1x256x1_2 keep)) (broadcastInDim S2x128x256x1 ![0, 1, 2] bcast_S2x128x256_S2x128x256x1_0_1_2 (total x wq k)) (broadcastInDim S2x128x256x1 ![] bcast_S_S2x128x256x1 (id (constant S_ .f32 0x3F800000#32)))

/-- The attention weights. -/
def weights (x : FVec F S2x256x512 .f32) (wq : FVec F S512x8192 .f32) (k : FVec F S2x256x128x64 .f32) : FVec F S2x128x256x256 .f32 :=
  select (broadcastInDim S2x128x256x256 ![0, 1, 2, 3] bcast_S1x1x256x1_S2x128x256x256_0_1_2_3 (broadcastInDim S1x1x256x1 ![2] bcast_S256_S1x1x256x1_2 keep)) (Host.divf (exps x wq k) (broadcastInDim S2x128x256x256 ![0, 1, 2, 3] bcast_S2x128x256x1_S2x128x256x256_0_1_2_3 (denom x wq k))) (broadcastInDim S2x128x256x256 ![] bcast_S_S2x128x256x256 (id (constant S_ .f32 0x00000000#32)))

/-- The heads: the weighted sums of the values. -/
def heads (x : FVec F S2x256x512 .f32) (wq : FVec F S512x8192 .f32) (k : FVec F S2x256x128x64 .f32) (v : FVec F S2x256x128x64 .f32) : FVec F S2x128x64x256 .f32 :=
  Host.dotGeneral dot_S2x256x128x64_S2x128x256x256_S2x128x64x256_1_3_3_2_02_01 none v (weights x wq k)

/-- The result: the heads side by side times the output weights. -/
def out (x : FVec F S2x256x512 .f32) (wq : FVec F S512x8192 .f32) (k v : FVec F S2x256x128x64 .f32) (wo : FVec F S8192x512 .f32) : FVec F S2x256x512 .f32 :=
  Host.dotGeneral dot_S2x256x8192_S8192x512_S2x256x512_2_0_01_1_n_n none (shapeCast _ (transpose S2x256x128x64 [0, 3, 1, 2] (heads x wq k v) transposes_S2x128x64x256_S2x256x128x64_0_3_1_2) shapeCasts_S2x256x128x64_S2x256x8192) wo

set_option maxRecDepth 8192 in
/-- The reference's printed result is the last of these steps. -/
theorem res_eq (m : (ℓ : Loc nD τ sig) → Buf (Elt F) ℓ) (c : Dev nD) :
    Cert.ReferenceIdeal.Value.res_main_v33 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end AnyInstance

/-! ## At an element -/

/-- A position's block number. -/
theorem blk_apply (j : Fin 256) : blk (ix1 j) = BitVec.ofNat 32 (j.val / 64) := by
  pointwise [blk]
  revert j; decide +kernel

/-- Two block numbers compare as the blocks do. -/
theorem blockLe (a b : Fin 4) : IntOp.cmpi .sle (BitVec.ofNat 32 a.val) (BitVec.ofNat 32 b.val) = if a.val ≤ b.val then 1#1 else 0#1 := by
  revert a b; decide +kernel

/-- The mask at an element. -/
theorem mask_apply (r j : Fin 256) : mask (ix2 r j) = if j.val / 64 ≤ r.val / 64 then 1#1 else 0#1 := by
  pointwise [mask]
  rw [blk_apply, blk_apply]
  exact blockLe ⟨j.val / 64, by omega⟩ ⟨r.val / 64, by omega⟩

/-- Every row sees a key: the first. -/
theorem keep_apply (r : Fin 256) : keep (ix1 r) = 1#1 := by
  pointwise [keep]
  exact fold_or_one _ _ (0 : Fin 256) (Finset.mem_univ _) (by rw [mask_apply, if_pos (by simp)])

variable (x : FVec Ideal S2x256x512 .f32) (wq : FVec Ideal S512x8192 .f32) (k v : FVec Ideal S2x256x128x64 .f32) (wo : FVec Ideal S8192x512 .f32)

/-- A masked score: the scaled product of query and key where the row sees the key. -/
def scoreR (b : Fin 2) (h : Fin 128) (r j : Fin 256) : EReal :=
  if j.val / 64 ≤ r.val / 64 then
    (∑ d : Fin 64, (∑ l : Fin 512, x (ix3 b r l) * wq (ix2 l (⟨h.val * 64 + d.val, by omega⟩ : Fin 8192))) * k (ix4 b j h d)) * c8
  else cNeg

/-- The masked scores at an element. -/
theorem masked_apply (b : Fin 2) (h : Fin 128) (r j : Fin 256) : masked x wq k (ix4 b h r j) = scoreR x wq k b h r j := by
  pointwise [masked, scores]
  rw [mask_apply]
  unfold scoreR
  by_cases hc : j.val / 64 ≤ r.val / 64
  · rw [if_pos hc, if_pos hc]; rfl
  · rw [if_neg hc, if_neg hc]; rfl

/-- The weights at an element: the row's, its largest score taken off first. -/
theorem weights_apply (b : Fin 2) (h : Fin 128) (r j : Fin 256) : weights x wq k (ix4 b h r j) =
    Ideal.div (Ideal.exp (scoreR x wq k b h r j - rowTop (scoreR x wq k b h r)))
      (∑ j', Ideal.exp (scoreR x wq k b h r j' - rowTop (scoreR x wq k b h r))) := by
  pointwise [weights, denom, total, exps, top]
  simp only [keep_apply, masked_apply]
  rfl

/-- The result at an element. -/
theorem out_apply (b : Fin 2) (r : Fin 256) (n : Fin 512) : out x wq k v wo (ix3 b r n) =
    ∑ c : Fin 8192, (∑ j : Fin 256, v (ix4 b j (⟨c.val / 64, by omega⟩ : Fin 128) (⟨c.val % 64, by omega⟩ : Fin 64)) *
      weights x wq k (ix4 b (⟨c.val / 64, by omega⟩ : Fin 128) r j)) * wo (ix2 c n) := by
  pointwise [out, heads]

/-- The result at an element where the scores are reals. -/
theorem out_apply_real (hx : ∀ b r l, Real' (x (ix3 b r l))) (hq : ∀ l c, Real' (wq (ix2 l c)))
    (hk : ∀ b j h d, Real' (k (ix4 b j h d))) (b : Fin 2) (r : Fin 256) (n : Fin 512) : out x wq k v wo (ix3 b r n) =
    ∑ c : Fin 8192, (∑ j : Fin 256, wts (scoreR x wq k b (⟨c.val / 64, by omega⟩ : Fin 128) r) j *
      v (ix4 b j (⟨c.val / 64, by omega⟩ : Fin 128) (⟨c.val % 64, by omega⟩ : Fin 64))) * wo (ix2 c n) := by
  have hs : ∀ (h : Fin 128) j, Real' (scoreR x wq k b h r j) := fun h j => by
    unfold scoreR
    split
    · exact (Real'.sum fun d => (Real'.sum fun l => (hx ..).mul (hq ..)).mul (hk ..)).mul real_c8
    · exact real_cNeg
  rw [out_apply]
  refine Finset.sum_congr rfl fun c _ => congrArg (· * _) (Finset.sum_congr rfl fun j _ => ?_)
  rw [weights_apply, wts_sub_rowTop _ (hs _), mul_comm]

end Cert.Attn.Ref

end

end
-- ==== Proof.Finite.lean ====
/-
The precondition read at an element: the activations, the query weights and the keys are reals.
-/
module

public import proofs.«01_k».proof.Pre_finite_KernelIdeal
public import proofs.«01_k».proof.Pre_finite_ReferenceIdeal
public import proofs.«01_k».proof.Proof.Spec

@[expose] public section

noncomputable section

namespace Cert.Attn

open Idealize.ShloMosaic

/-- The side conditions of the precondition over the kernel's blocks. -/
instance preKernelFacts : Cert.Pre_finite_KernelIdeal.Facts where
  bcast_S_S2x256x512 := by decide
  reducesTo_S2x256x512_S_d0_1_2 := by decide
  h_S_ := by decide
  bcast_S_S512x256 := by decide
  reducesTo_S512x256_S_d0_1 := by decide
  bcast_S_S2x256x128x64 := by decide
  reducesTo_S2x256x128x64_S_d0_1_2_3 := by decide

/-- The side conditions of the precondition over the reference's whole arrays. -/
instance preReferenceFacts : Cert.Pre_finite_ReferenceIdeal.Facts where
  bcast_S_S2x256x512 := by decide
  reducesTo_S2x256x512_S_d0_1_2 := by decide
  h_S_ := by decide
  bcast_S_S512x8192 := by decide
  reducesTo_S512x8192_S_d0_1 := by decide
  bcast_S_S2x256x128x64 := by decide
  reducesTo_S2x256x128x64_S_d0_1_2_3 := by decide

open Cert.Pre_finite_KernelIdeal

/-- Two one-bit words' "and" is one only if both are. -/
theorem and_one {a b : BitVec 1} (h : IntOp.andi a b = 1#1) : a = 1#1 ∧ b = 1#1 := by revert a b; decide

/-- A value whose magnitude compares below the greatest value's pattern is a real. -/
theorem real_of_abs {x : EReal} (h : BitVec.ofBool (decide ((FloatOps.absf (F := Ideal) (φ := .f32) x : EReal) < Ideal.ofBits .f32 0x7F800000#32)) = 1#1) : Real' x := by
  rw [bits_top] at h
  refine real_of_lt x ?_
  exact h

/-- Under the precondition the activations, the query weights and the keys are reals. -/
theorem real_of_pre (x : FVec Ideal S2x256x512 .f32) (wq : FVec Ideal S512x256 .f32) (k v : FVec Ideal S2x256x128x64 .f32)
    (wo : FVec Ideal S256x512 .f32) (h : fn x wq k v wo = fun _ => 1#1) :
    (∀ b r l, Real' (x (ix3 b r l))) ∧ (∀ l c, Real' (wq (ix2 l c))) ∧ (∀ b j n d, Real' (k (ix4 b j n d))) := by
  have e : fn x wq k v wo ix0 = 1#1 := congrFun h ix0
  by_contra hn
  revert e
  pointwise [fn]
  intro e
  apply hn
  obtain ⟨e', e3⟩ := and_one e
  obtain ⟨e1, e2⟩ := and_one e'
  refine ⟨fun b r l => ?_, fun l c => ?_, fun b j n d => ?_⟩
  · exact real_of_abs ((fold_and_one _ _).1 e1 (b, r, l) (Finset.mem_univ _))
  · exact real_of_abs ((fold_and_one _ _).1 e2 (l, c) (Finset.mem_univ _))
  · exact real_of_abs ((fold_and_one _ _).1 e3 (ix4 b j n d) (Finset.mem_filter.2 ⟨Finset.mem_univ _, funext fun a => a.elim0⟩))

end Cert.Attn

end

end
-- ==== Proof.Algebraic.lean ====
/-
The kernel's result is the reference's at the ideal values: a device's heads are four of the whole array's, its columns
and rows of the weights are the whole arrays', and the sum over the devices of the sums over their columns is the one sum
over all columns.
-/
module

public import proofs.«01_k».proof.Defs
public import proofs.«01_k».proof.Proof.Run
public import proofs.«01_k».proof.Proof.Inputs
public import proofs.«01_k».proof.Proof.Reference
public import proofs.«01_k».proof.Proof.Finite

@[expose] public section

noncomputable section

namespace Cert.Attn

open Cert.KernelIdeal Cert.KernelIdeal.Gen
open Idealize.ShloMosaic

/-- The whole array's head that is a device's head `h`. -/
def headNo (c : Dev nD) (h : Fin 4) : Fin 128 := ⟨4 * c.val + h.val, by have := c.isLt; change c.val < 32 at this; omega⟩

section Match

variable (m : (ℓ : Loc nD τ sig) → Buf (Elt Ideal) ℓ) (c : Dev nD)
variable (x : FVec Ideal S2x256x512 .f32) (wq : FVec Ideal ⟨2, ![512, 8192]⟩ .f32) (k v : FVec Ideal S2x256x128x64 .f32)
  (wo : FVec Ideal ⟨2, ![8192, 512]⟩ .f32)

/-- A device's activations are the whole array. -/
theorem inp_x (h : m ((c.tc : Thread nD τ).loc main_arg0) = x) : (inp m c).x = x := (V1_of m c main_arg0 (by decide)).trans h

/-- A device's query weights are its columns of the whole array. -/
theorem inp_wq (h : m ((c.tc : Thread nD τ).loc main_arg1) = Layout.block ⟨2, ![512, 256]⟩ ⟨2, ![512, 8192]⟩ 1 32 c wq)
    (l : Fin 512) (i : Fin 4) (d : Fin 64) :
    (inp m c).wq (ix2 l (col i d)) = wq (ix2 l (⟨(headNo c i).val * 64 + d.val, by have := (headNo c i).isLt; omega⟩ : Fin 8192)) := by
  have e : (inp m c).wq = Layout.block ⟨2, ![512, 256]⟩ ⟨2, ![512, 8192]⟩ 1 32 c wq := (V1_of m c main_arg1 (by decide)).trans h
  rw [e, Layout.block_apply]
  refine congrArg wq (funext fun t => ?_)
  match t with
  | ⟨0, _⟩ => rfl
  | ⟨1, _⟩ => exact Fin.ext (by show c.val * 256 + (64 * i.val + d.val) = (4 * c.val + i.val) * 64 + d.val; omega)

/-- A device's output weights are its rows of the whole array. -/
theorem inp_wo (h : m ((c.tc : Thread nD τ).loc main_arg4) = Layout.block ⟨2, ![256, 512]⟩ ⟨2, ![8192, 512]⟩ 0 32 c wo)
    (t : Fin 256) (n : Fin 512) :
    (inp m c).wo (ix2 t n) = wo (ix2 (⟨c.val * 256 + t.val, by have := c.isLt; change c.val < 32 at this; omega⟩ : Fin 8192) n) := by
  have e : (inp m c).wo = Layout.block ⟨2, ![256, 512]⟩ ⟨2, ![8192, 512]⟩ 0 32 c wo := (V1_of m c main_arg4 (by decide)).trans h
  rw [e, Layout.block_apply]
  refine congrArg wo (funext fun a => ?_)
  match a with
  | ⟨0, _⟩ => rfl
  | ⟨1, _⟩ => rfl

/-- A device's keys are four heads of the whole array. -/
theorem inp_k (h : m ((c.tc : Thread nD τ).loc main_arg2) = k) (b : Fin 2) (j : Fin 256) (d : Fin 64) (i : Fin 4) :
    (inp m c).k (ix4 b j d i) = k (ix4 b j (headNo c i) d) := by
  have e : (inp m c).k = headsOf c k := (V1_k m c).trans (congrArg (headsOf c) h)
  rw [e, headsOf_apply]
  rfl

/-- A device's values are four heads of the whole array. -/
theorem inp_v (h : m ((c.tc : Thread nD τ).loc main_arg3) = v) (b : Fin 2) (j : Fin 256) (d : Fin 64) (i : Fin 4) :
    (inp m c).v (ix4 b j d i) = v (ix4 b j (headNo c i) d) := by
  have e : (inp m c).v = headsOf c v := (V1_v m c).trans (congrArg (headsOf c) h)
  rw [e, headsOf_apply]
  rfl

/-- A device's scores are the reference's of the head. -/
theorem scoreI_eq (h0 : m ((c.tc : Thread nD τ).loc main_arg0) = x)
    (h1 : m ((c.tc : Thread nD τ).loc main_arg1) = Layout.block ⟨2, ![512, 256]⟩ ⟨2, ![512, 8192]⟩ 1 32 c wq)
    (h2 : m ((c.tc : Thread nD τ).loc main_arg2) = k) (b : Fin 2) (h : Fin 4) (r : Fin 256) :
    scoreI (inp m c) b h r = Ref.scoreR x wq k b (headNo c h) r := by
  funext j
  unfold scoreI Ref.scoreR
  refine if_congr Iff.rfl (congrArg (· * c8) (Finset.sum_congr rfl fun d _ => ?_)) rfl
  rw [inp_k m c k h2]
  refine congrArg (· * _) (Finset.sum_congr rfl fun l _ => ?_)
  rw [inp_x m c x h0, inp_wq m c wq h1]

/-- A device's heads are the reference's. -/
theorem headI_eq (h0 : m ((c.tc : Thread nD τ).loc main_arg0) = x)
    (h1 : m ((c.tc : Thread nD τ).loc main_arg1) = Layout.block ⟨2, ![512, 256]⟩ ⟨2, ![512, 8192]⟩ 1 32 c wq)
    (h2 : m ((c.tc : Thread nD τ).loc main_arg2) = k) (h3 : m ((c.tc : Thread nD τ).loc main_arg3) = v)
    (b : Fin 2) (h : Fin 4) (r : Fin 256) (d : Fin 64) :
    headI (inp m c) b h r d = ∑ j : Fin 256, wts (Ref.scoreR x wq k b (headNo c h) r) j * v (ix4 b j (headNo c h) d) := by
  unfold headI
  rw [scoreI_eq m c x wq k h0 h1 h2]
  exact Finset.sum_congr rfl fun j _ => by rw [inp_v m c v h3]

end Match

/-- The precondition at every device makes the whole arrays' elements reals. -/
theorem real_whole (m : (ℓ : Loc nD τ sig) → Buf (Elt Ideal) ℓ) (hp : Cert.Pre_KernelIdeal_finite_KernelIdeal m)
    (x : FVec Ideal S2x256x512 .f32) (wq : FVec Ideal ⟨2, ![512, 8192]⟩ .f32) (k : FVec Ideal S2x256x128x64 .f32)
    (h0 : ∀ c : Dev nD, m ((c.tc : Thread nD τ).loc main_arg0) = x)
    (h1 : ∀ c : Dev nD, m ((c.tc : Thread nD τ).loc main_arg1) = Layout.block ⟨2, ![512, 256]⟩ ⟨2, ![512, 8192]⟩ 1 32 c wq)
    (h2 : ∀ c : Dev nD, m ((c.tc : Thread nD τ).loc main_arg2) = k) :
    (∀ b r l, Real' (x (ix3 b r l))) ∧ (∀ l t, Real' (wq (ix2 l t))) ∧ (∀ b j n d, Real' (k (ix4 b j n d))) := by
  have hr := fun c => real_of_pre _ _ _ _ _ (hp c)
  refine ⟨fun b r l => ?_, fun l t => ?_, fun b j n d => ?_⟩
  · rw [← h0 0]
    exact (hr 0).1 b r l
  · have e := (hr (⟨t.val / 256, by show t.val / 256 < 32; omega⟩ : Dev nD)).2.1 l (⟨t.val % 256, by omega⟩ : Fin 256)
    rw [h1, Layout.block_apply] at e
    refine (congrArg (fun i => Real' (wq i)) (funext fun a => ?_)).mp e
    match a with
    | ⟨0, _⟩ => rfl
    | ⟨1, _⟩ => exact Fin.ext (by show t.val / 256 * 256 + t.val % 256 = t.val; omega)
  · rw [← h2 0]
    exact (hr 0).2.2 b j n d

/-- What every device's output holds is the reference's result. -/
theorem outV_eq (m : (ℓ : Loc nD τ sig) → Buf (Elt Ideal) ℓ) (hp : Cert.Pre_KernelIdeal_finite_KernelIdeal m)
    (x : FVec Ideal S2x256x512 .f32) (wq : FVec Ideal ⟨2, ![512, 8192]⟩ .f32) (k v : FVec Ideal S2x256x128x64 .f32)
    (wo : FVec Ideal ⟨2, ![8192, 512]⟩ .f32)
    (h0 : ∀ c : Dev nD, m ((c.tc : Thread nD τ).loc main_arg0) = x)
    (h1 : ∀ c : Dev nD, m ((c.tc : Thread nD τ).loc main_arg1) = Layout.block ⟨2, ![512, 256]⟩ ⟨2, ![512, 8192]⟩ 1 32 c wq)
    (h2 : ∀ c : Dev nD, m ((c.tc : Thread nD τ).loc main_arg2) = k)
    (h3 : ∀ c : Dev nD, m ((c.tc : Thread nD τ).loc main_arg3) = v)
    (h4 : ∀ c : Dev nD, m ((c.tc : Thread nD τ).loc main_arg4) = Layout.block ⟨2, ![256, 512]⟩ ⟨2, ![8192, 512]⟩ 0 32 c wo) :
    outV (inp m) = Ref.out x wq k v wo := by
  obtain ⟨rx, rq, rk⟩ := real_whole m hp x wq k h0 h1 h2
  funext i
  suffices h : ∀ (b : Fin 2) (r : Fin 256) (n : Fin 512), outV (inp m) (ix3 b r n) = Ref.out x wq k v wo (ix3 b r n) by
    rw [eq_ix3 i]; exact h (i 0) (i 1) (i 2)
  intro b r n
  refine (outV_apply (inp m) b r n).trans ?_
  refine Eq.trans ?_ (Ref.out_apply_real x wq k v wo rx rq rk b r n).symm
  rw [Fin.sum_univ_tiles 32 256 rfl]
  refine Finset.sum_congr rfl fun c _ => Finset.sum_congr rfl fun t _ => ?_
  have e1 : (⟨(c.val * 256 + t.val) / 64, by omega⟩ : Fin 128) = headNo c ⟨t.val / 64, by omega⟩ :=
    Fin.ext (by show (c.val * 256 + t.val) / 64 = 4 * c.val + t.val / 64; omega)
  have e2 : (⟨(c.val * 256 + t.val) % 64, by omega⟩ : Fin 64) = ⟨t.val % 64, by omega⟩ :=
    Fin.ext (by show (c.val * 256 + t.val) % 64 = t.val % 64; omega)
  rw [headI_eq m c x wq k v (h0 c) (h1 c) (h2 c) (h3 c), inp_wo m c wo (h4 c)]
  dsimp only
  rw [e1, e2]

/-- The algebraic claim: both runs leave one and the same result. -/
theorem algebraic : Cert.algebraic_KernelIdeal_ReferenceIdeal_pre_finite_KernelIdeal := by
  intro m g m' g' hp hm
  refine ⟨Cert.ReferenceIdeal.Value.res_main_v33 m' 0, ?_, ?_⟩
  · refine (θ_run Cert.KernelIdeal.defs _ _).mono (fun r h c => ⟨?_, (h.1 c).1⟩) (run_main (F := Ideal) m g)
    refine ((h.1 c).2.trans ?_).trans (Ref.res_eq m' 0).symm
    exact outV_eq m hp _ _ _ _ _ (fun c => (hm c).1) (fun c => (hm c).2.1) (fun c => (hm c).2.2.1) (fun c => (hm c).2.2.2.1)
      (fun c => (hm c).2.2.2.2)
  · exact (θ_run Cert.ReferenceIdeal.defs _ _).mono (fun r h => h 0) (Cert.ReferenceIdeal.Value.run (F := Ideal) m' g')

end Cert.Attn

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The two programs have one table of kernels: the texts are the same. -/
theorem bodies_eq : Cert.Kernel.defs₀ (F := Bits) = Cert.KernelIdeal.defs₀ (F := Bits) := by
  refine congrArg Defs.onTc (funext fun l => funext fun a => ?_)
  match l, a with
  | 0, (t, s) => rfl
  | ⟨_ + 1, h⟩, _ => exact absurd h (Nat.not_lt.2 (Nat.le_add_left _ _))

/-- Their tables with the pipelines are one. -/
theorem tables_eq : Cert.Kernel.defs (F := Bits) = Cert.KernelIdeal.defs (F := Bits) :=
  congrArg (Pipeline.defs Cert.KernelIdeal.pcfgs) bodies_eq

/-- `Cert.quiescent_Kernel`: the run over any float values, read at the bit patterns. -/
theorem frame_kernel : Cert.quiescent_Kernel := fun m ρ _ => by
  rw [tables_eq]
  exact (θ_run Cert.KernelIdeal.defs _ _).mono (fun _ h => ⟨fun c => (h.1 c).1, h.2⟩) (Cert.Attn.run_main (F := Bits) m ρ)

/-- `Cert.quiescent_KernelIdeal`: the same run, read at the extended reals. -/
theorem frame_ideal : Cert.quiescent_KernelIdeal := fun m ρ _ =>
  (θ_run Cert.KernelIdeal.defs _ _).mono (fun _ h => ⟨fun c => (h.1 c).1, h.2⟩) (Cert.Attn.run_main (F := Ideal) m ρ)

/-- `Cert.quiescent_ReferenceIdeal`: the reference's run; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The claim, part by part. -/
theorem claim : Cert.Claim := ⟨Cert.Kernel.Gen.facts, Cert.KernelIdeal.Gen.facts, Cert.ReferenceIdeal.Gen.facts,
  Cert.Attn.preKernelFacts, Cert.Attn.preReferenceFacts,
  frame_kernel, frame_ideal, fun m ρ _ => frame_ideal m ρ trivial, frame_reference, fun m ρ _ => frame_reference m ρ trivial,
  trivial, Cert.Attn.algebraic⟩

end Cert.Proof

end
